-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostSoftmaxReferenceIdeal (m : (ℓ : Loc Cert.PostSoftmaxReferenceIdeal.nD Cert.PostSoftmaxReferenceIdeal.τ Cert.PostSoftmaxReferenceIdeal.sig) → Buf (Elt Ideal) ℓ) : Prop :=
  True

def Pre_PostSoftmaxReferenceIdeal_post_finite [hPre_post_finite : Cert.Pre_post_finite.Facts] (m : (ℓ : Loc Cert.PostSoftmaxReferenceIdeal.nD Cert.PostSoftmaxReferenceIdeal.τ Cert.PostSoftmaxReferenceIdeal.sig) → Buf (Elt Ideal) ℓ) : Prop :=
  ∀ c : Dev Cert.PostSoftmaxReferenceIdeal.nD,
    (Cert.Pre_post_finite.fn (F := Ideal) (m ((c.tc : Thread Cert.PostSoftmaxReferenceIdeal.nD Cert.PostSoftmaxReferenceIdeal.τ).loc Cert.PostSoftmaxReferenceIdeal.main_arg0)) (m ((c.tc : Thread Cert.PostSoftmaxReferenceIdeal.nD Cert.PostSoftmaxReferenceIdeal.τ).loc Cert.PostSoftmaxReferenceIdeal.main_arg1)) (m ((c.tc : Thread Cert.PostSoftmaxReferenceIdeal.nD Cert.PostSoftmaxReferenceIdeal.τ).loc Cert.PostSoftmaxReferenceIdeal.main_arg2)) (m ((c.tc : Thread Cert.PostSoftmaxReferenceIdeal.nD Cert.PostSoftmaxReferenceIdeal.τ).loc Cert.PostSoftmaxReferenceIdeal.main_arg3)) (m ((c.tc : Thread Cert.PostSoftmaxReferenceIdeal.nD Cert.PostSoftmaxReferenceIdeal.τ).loc Cert.PostSoftmaxReferenceIdeal.main_arg4)) (m ((c.tc : Thread Cert.PostSoftmaxReferenceIdeal.nD Cert.PostSoftmaxReferenceIdeal.τ).loc Cert.PostSoftmaxReferenceIdeal.main_arg5)) (m ((c.tc : Thread Cert.PostSoftmaxReferenceIdeal.nD Cert.PostSoftmaxReferenceIdeal.τ).loc Cert.PostSoftmaxReferenceIdeal.main_arg6)) (m ((c.tc : Thread Cert.PostSoftmaxReferenceIdeal.nD Cert.PostSoftmaxReferenceIdeal.τ).loc Cert.PostSoftmaxReferenceIdeal.main_arg7)) (m ((c.tc : Thread Cert.PostSoftmaxReferenceIdeal.nD Cert.PostSoftmaxReferenceIdeal.τ).loc Cert.PostSoftmaxReferenceIdeal.main_arg8)) (m ((c.tc : Thread Cert.PostSoftmaxReferenceIdeal.nD Cert.PostSoftmaxReferenceIdeal.τ).loc Cert.PostSoftmaxReferenceIdeal.main_arg9)) (m ((c.tc : Thread Cert.PostSoftmaxReferenceIdeal.nD Cert.PostSoftmaxReferenceIdeal.τ).loc Cert.PostSoftmaxReferenceIdeal.main_arg10)) (m ((c.tc : Thread Cert.PostSoftmaxReferenceIdeal.nD Cert.PostSoftmaxReferenceIdeal.τ).loc Cert.PostSoftmaxReferenceIdeal.main_arg11)) (m ((c.tc : Thread Cert.PostSoftmaxReferenceIdeal.nD Cert.PostSoftmaxReferenceIdeal.τ).loc Cert.PostSoftmaxReferenceIdeal.main_arg12)) (m ((c.tc : Thread Cert.PostSoftmaxReferenceIdeal.nD Cert.PostSoftmaxReferenceIdeal.τ).loc Cert.PostSoftmaxReferenceIdeal.main_arg13)) (m ((c.tc : Thread Cert.PostSoftmaxReferenceIdeal.nD Cert.PostSoftmaxReferenceIdeal.τ).loc Cert.PostSoftmaxReferenceIdeal.main_arg14))) = (fun _ => 1#1)

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleReferenceIdeal (m : (ℓ : Loc Cert.InprojSampleReferenceIdeal.nD Cert.InprojSampleReferenceIdeal.τ Cert.InprojSampleReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14))
      ∧ r.2.sem = fun _ => 0)

def quiescent_PostSoftmaxReferenceIdeal [hPostSoftmaxReferenceIdeal : Cert.PostSoftmaxReferenceIdeal.Facts] : Prop :=
  ∀ (m : (ℓ : Loc Cert.PostSoftmaxReferenceIdeal.nD Cert.PostSoftmaxReferenceIdeal.τ Cert.PostSoftmaxReferenceIdeal.sig) → Buf (Elt Ideal) ℓ) (g : Dev Cert.PostSoftmaxReferenceIdeal.nD → PrngReg), Pre_PostSoftmaxReferenceIdeal m →
    θ_run (Cert.PostSoftmaxReferenceIdeal.defs (F := Ideal)) (onTc (τ := Cert.PostSoftmaxReferenceIdeal.τ) (Cert.PostSoftmaxReferenceIdeal.main (F := Ideal))) ⟨m, fun _ => 0, g⟩ (fun r => (∀ c : Dev Cert.PostSoftmaxReferenceIdeal.nD,
      r.2.mem ((c.tc : Thread Cert.PostSoftmaxReferenceIdeal.nD Cert.PostSoftmaxReferenceIdeal.τ).loc Cert.PostSoftmaxReferenceIdeal.main_arg0) = m ((c.tc : Thread Cert.PostSoftmaxReferenceIdeal.nD Cert.PostSoftmaxReferenceIdeal.τ).loc Cert.PostSoftmaxReferenceIdeal.main_arg0)
      ∧ r.2.mem ((c.tc : Thread Cert.PostSoftmaxReferenceIdeal.nD Cert.PostSoftmaxReferenceIdeal.τ).loc Cert.PostSoftmaxReferenceIdeal.main_arg1) = m ((c.tc : Thread Cert.PostSoftmaxReferenceIdeal.nD Cert.PostSoftmaxReferenceIdeal.τ).loc Cert.PostSoftmaxReferenceIdeal.main_arg1)
      ∧ r.2.mem ((c.tc : Thread Cert.PostSoftmaxReferenceIdeal.nD Cert.PostSoftmaxReferenceIdeal.τ).loc Cert.PostSoftmaxReferenceIdeal.main_arg2) = m ((c.tc : Thread Cert.PostSoftmaxReferenceIdeal.nD Cert.PostSoftmaxReferenceIdeal.τ).loc Cert.PostSoftmaxReferenceIdeal.main_arg2)
      ∧ r.2.mem ((c.tc : Thread Cert.PostSoftmaxReferenceIdeal.nD Cert.PostSoftmaxReferenceIdeal.τ).loc Cert.PostSoftmaxReferenceIdeal.main_arg3) = m ((c.tc : Thread Cert.PostSoftmaxReferenceIdeal.nD Cert.PostSoftmaxReferenceIdeal.τ).loc Cert.PostSoftmaxReferenceIdeal.main_arg3)
      ∧ r.2.mem ((c.tc : Thread Cert.PostSoftmaxReferenceIdeal.nD Cert.PostSoftmaxReferenceIdeal.τ).loc Cert.PostSoftmaxReferenceIdeal.main_arg4) = m ((c.tc : Thread Cert.PostSoftmaxReferenceIdeal.nD Cert.PostSoftmaxReferenceIdeal.τ).loc Cert.PostSoftmaxReferenceIdeal.main_arg4)
      ∧ r.2.mem ((c.tc : Thread Cert.PostSoftmaxReferenceIdeal.nD Cert.PostSoftmaxReferenceIdeal.τ).loc Cert.PostSoftmaxReferenceIdeal.main_arg5) = m ((c.tc : Thread Cert.PostSoftmaxReferenceIdeal.nD Cert.PostSoftmaxReferenceIdeal.τ).loc Cert.PostSoftmaxReferenceIdeal.main_arg5)
      ∧ r.2.mem ((c.tc : Thread Cert.PostSoftmaxReferenceIdeal.nD Cert.PostSoftmaxReferenceIdeal.τ).loc Cert.PostSoftmaxReferenceIdeal.main_arg6) = m ((c.tc : Thread Cert.PostSoftmaxReferenceIdeal.nD Cert.PostSoftmaxReferenceIdeal.τ).loc Cert.PostSoftmaxReferenceIdeal.main_arg6)
      ∧ r.2.mem ((c.tc : Thread Cert.PostSoftmaxReferenceIdeal.nD Cert.PostSoftmaxReferenceIdeal.τ).loc Cert.PostSoftmaxReferenceIdeal.main_arg7) = m ((c.tc : Thread Cert.PostSoftmaxReferenceIdeal.nD Cert.PostSoftmaxReferenceIdeal.τ).loc Cert.PostSoftmaxReferenceIdeal.main_arg7)
      ∧ r.2.mem ((c.tc : Thread Cert.PostSoftmaxReferenceIdeal.nD Cert.PostSoftmaxReferenceIdeal.τ).loc Cert.PostSoftmaxReferenceIdeal.main_arg8) = m ((c.tc : Thread Cert.PostSoftmaxReferenceIdeal.nD Cert.PostSoftmaxReferenceIdeal.τ).loc Cert.PostSoftmaxReferenceIdeal.main_arg8)
      ∧ r.2.mem ((c.tc : Thread Cert.PostSoftmaxReferenceIdeal.nD Cert.PostSoftmaxReferenceIdeal.τ).loc Cert.PostSoftmaxReferenceIdeal.main_arg9) = m ((c.tc : Thread Cert.PostSoftmaxReferenceIdeal.nD Cert.PostSoftmaxReferenceIdeal.τ).loc Cert.PostSoftmaxReferenceIdeal.main_arg9)
      ∧ r.2.mem ((c.tc : Thread Cert.PostSoftmaxReferenceIdeal.nD Cert.PostSoftmaxReferenceIdeal.τ).loc Cert.PostSoftmaxReferenceIdeal.main_arg10) = m ((c.tc : Thread Cert.PostSoftmaxReferenceIdeal.nD Cert.PostSoftmaxReferenceIdeal.τ).loc Cert.PostSoftmaxReferenceIdeal.main_arg10)
      ∧ r.2.mem ((c.tc : Thread Cert.PostSoftmaxReferenceIdeal.nD Cert.PostSoftmaxReferenceIdeal.τ).loc Cert.PostSoftmaxReferenceIdeal.main_arg11) = m ((c.tc : Thread Cert.PostSoftmaxReferenceIdeal.nD Cert.PostSoftmaxReferenceIdeal.τ).loc Cert.PostSoftmaxReferenceIdeal.main_arg11)
      ∧ r.2.mem ((c.tc : Thread Cert.PostSoftmaxReferenceIdeal.nD Cert.PostSoftmaxReferenceIdeal.τ).loc Cert.PostSoftmaxReferenceIdeal.main_arg12) = m ((c.tc : Thread Cert.PostSoftmaxReferenceIdeal.nD Cert.PostSoftmaxReferenceIdeal.τ).loc Cert.PostSoftmaxReferenceIdeal.main_arg12)
      ∧ r.2.mem ((c.tc : Thread Cert.PostSoftmaxReferenceIdeal.nD Cert.PostSoftmaxReferenceIdeal.τ).loc Cert.PostSoftmaxReferenceIdeal.main_arg13) = m ((c.tc : Thread Cert.PostSoftmaxReferenceIdeal.nD Cert.PostSoftmaxReferenceIdeal.τ).loc Cert.PostSoftmaxReferenceIdeal.main_arg13)
      ∧ r.2.mem ((c.tc : Thread Cert.PostSoftmaxReferenceIdeal.nD Cert.PostSoftmaxReferenceIdeal.τ).loc Cert.PostSoftmaxReferenceIdeal.main_arg14) = m ((c.tc : Thread Cert.PostSoftmaxReferenceIdeal.nD Cert.PostSoftmaxReferenceIdeal.τ).loc Cert.PostSoftmaxReferenceIdeal.main_arg14))
      ∧ r.2.sem = fun _ => 0)

def quiescent_PostSoftmaxReferenceIdeal_pre_post_finite [hPostSoftmaxReferenceIdeal : Cert.PostSoftmaxReferenceIdeal.Facts] [hPre_post_finite : Cert.Pre_post_finite.Facts] : Prop :=
  ∀ (m : (ℓ : Loc Cert.PostSoftmaxReferenceIdeal.nD Cert.PostSoftmaxReferenceIdeal.τ Cert.PostSoftmaxReferenceIdeal.sig) → Buf (Elt Ideal) ℓ) (g : Dev Cert.PostSoftmaxReferenceIdeal.nD → PrngReg), Pre_PostSoftmaxReferenceIdeal_post_finite m →
    θ_run (Cert.PostSoftmaxReferenceIdeal.defs (F := Ideal)) (onTc (τ := Cert.PostSoftmaxReferenceIdeal.τ) (Cert.PostSoftmaxReferenceIdeal.main (F := Ideal))) ⟨m, fun _ => 0, g⟩ (fun r => (∀ c : Dev Cert.PostSoftmaxReferenceIdeal.nD,
      r.2.mem ((c.tc : Thread Cert.PostSoftmaxReferenceIdeal.nD Cert.PostSoftmaxReferenceIdeal.τ).loc Cert.PostSoftmaxReferenceIdeal.main_arg0) = m ((c.tc : Thread Cert.PostSoftmaxReferenceIdeal.nD Cert.PostSoftmaxReferenceIdeal.τ).loc Cert.PostSoftmaxReferenceIdeal.main_arg0)
      ∧ r.2.mem ((c.tc : Thread Cert.PostSoftmaxReferenceIdeal.nD Cert.PostSoftmaxReferenceIdeal.τ).loc Cert.PostSoftmaxReferenceIdeal.main_arg1) = m ((c.tc : Thread Cert.PostSoftmaxReferenceIdeal.nD Cert.PostSoftmaxReferenceIdeal.τ).loc Cert.PostSoftmaxReferenceIdeal.main_arg1)
      ∧ r.2.mem ((c.tc : Thread Cert.PostSoftmaxReferenceIdeal.nD Cert.PostSoftmaxReferenceIdeal.τ).loc Cert.PostSoftmaxReferenceIdeal.main_arg2) = m ((c.tc : Thread Cert.PostSoftmaxReferenceIdeal.nD Cert.PostSoftmaxReferenceIdeal.τ).loc Cert.PostSoftmaxReferenceIdeal.main_arg2)
      ∧ r.2.mem ((c.tc : Thread Cert.PostSoftmaxReferenceIdeal.nD Cert.PostSoftmaxReferenceIdeal.τ).loc Cert.PostSoftmaxReferenceIdeal.main_arg3) = m ((c.tc : Thread Cert.PostSoftmaxReferenceIdeal.nD Cert.PostSoftmaxReferenceIdeal.τ).loc Cert.PostSoftmaxReferenceIdeal.main_arg3)
      ∧ r.2.mem ((c.tc : Thread Cert.PostSoftmaxReferenceIdeal.nD Cert.PostSoftmaxReferenceIdeal.τ).loc Cert.PostSoftmaxReferenceIdeal.main_arg4) = m ((c.tc : Thread Cert.PostSoftmaxReferenceIdeal.nD Cert.PostSoftmaxReferenceIdeal.τ).loc Cert.PostSoftmaxReferenceIdeal.main_arg4)
      ∧ r.2.mem ((c.tc : Thread Cert.PostSoftmaxReferenceIdeal.nD Cert.PostSoftmaxReferenceIdeal.τ).loc Cert.PostSoftmaxReferenceIdeal.main_arg5) = m ((c.tc : Thread Cert.PostSoftmaxReferenceIdeal.nD Cert.PostSoftmaxReferenceIdeal.τ).loc Cert.PostSoftmaxReferenceIdeal.main_arg5)
      ∧ r.2.mem ((c.tc : Thread Cert.PostSoftmaxReferenceIdeal.nD Cert.PostSoftmaxReferenceIdeal.τ).loc Cert.PostSoftmaxReferenceIdeal.main_arg6) = m ((c.tc : Thread Cert.PostSoftmaxReferenceIdeal.nD Cert.PostSoftmaxReferenceIdeal.τ).loc Cert.PostSoftmaxReferenceIdeal.main_arg6)
      ∧ r.2.mem ((c.tc : Thread Cert.PostSoftmaxReferenceIdeal.nD Cert.PostSoftmaxReferenceIdeal.τ).loc Cert.PostSoftmaxReferenceIdeal.main_arg7) = m ((c.tc : Thread Cert.PostSoftmaxReferenceIdeal.nD Cert.PostSoftmaxReferenceIdeal.τ).loc Cert.PostSoftmaxReferenceIdeal.main_arg7)
      ∧ r.2.mem ((c.tc : Thread Cert.PostSoftmaxReferenceIdeal.nD Cert.PostSoftmaxReferenceIdeal.τ).loc Cert.PostSoftmaxReferenceIdeal.main_arg8) = m ((c.tc : Thread Cert.PostSoftmaxReferenceIdeal.nD Cert.PostSoftmaxReferenceIdeal.τ).loc Cert.PostSoftmaxReferenceIdeal.main_arg8)
      ∧ r.2.mem ((c.tc : Thread Cert.PostSoftmaxReferenceIdeal.nD Cert.PostSoftmaxReferenceIdeal.τ).loc Cert.PostSoftmaxReferenceIdeal.main_arg9) = m ((c.tc : Thread Cert.PostSoftmaxReferenceIdeal.nD Cert.PostSoftmaxReferenceIdeal.τ).loc Cert.PostSoftmaxReferenceIdeal.main_arg9)
      ∧ r.2.mem ((c.tc : Thread Cert.PostSoftmaxReferenceIdeal.nD Cert.PostSoftmaxReferenceIdeal.τ).loc Cert.PostSoftmaxReferenceIdeal.main_arg10) = m ((c.tc : Thread Cert.PostSoftmaxReferenceIdeal.nD Cert.PostSoftmaxReferenceIdeal.τ).loc Cert.PostSoftmaxReferenceIdeal.main_arg10)
      ∧ r.2.mem ((c.tc : Thread Cert.PostSoftmaxReferenceIdeal.nD Cert.PostSoftmaxReferenceIdeal.τ).loc Cert.PostSoftmaxReferenceIdeal.main_arg11) = m ((c.tc : Thread Cert.PostSoftmaxReferenceIdeal.nD Cert.PostSoftmaxReferenceIdeal.τ).loc Cert.PostSoftmaxReferenceIdeal.main_arg11)
      ∧ r.2.mem ((c.tc : Thread Cert.PostSoftmaxReferenceIdeal.nD Cert.PostSoftmaxReferenceIdeal.τ).loc Cert.PostSoftmaxReferenceIdeal.main_arg12) = m ((c.tc : Thread Cert.PostSoftmaxReferenceIdeal.nD Cert.PostSoftmaxReferenceIdeal.τ).loc Cert.PostSoftmaxReferenceIdeal.main_arg12)
      ∧ r.2.mem ((c.tc : Thread Cert.PostSoftmaxReferenceIdeal.nD Cert.PostSoftmaxReferenceIdeal.τ).loc Cert.PostSoftmaxReferenceIdeal.main_arg13) = m ((c.tc : Thread Cert.PostSoftmaxReferenceIdeal.nD Cert.PostSoftmaxReferenceIdeal.τ).loc Cert.PostSoftmaxReferenceIdeal.main_arg13)
      ∧ r.2.mem ((c.tc : Thread Cert.PostSoftmaxReferenceIdeal.nD Cert.PostSoftmaxReferenceIdeal.τ).loc Cert.PostSoftmaxReferenceIdeal.main_arg14) = m ((c.tc : Thread Cert.PostSoftmaxReferenceIdeal.nD Cert.PostSoftmaxReferenceIdeal.τ).loc Cert.PostSoftmaxReferenceIdeal.main_arg14))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2))
      ∧ r.2.sem = fun _ => 0)

def quiescent_InprojSampleReferenceIdeal [hInprojSampleReferenceIdeal : Cert.InprojSampleReferenceIdeal.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8)
      ∧ r.2.mem ((c.tc : Thread Cert.FfnSampleReferenceIdeal.nD Cert.FfnSampleReferenceIdeal.τ).loc Cert.FfnSampleReferenceIdeal.main_arg9) = m ((c.tc : Thread Cert.FfnSampleReferenceIdeal.nD Cert.FfnSampleReferenceIdeal.τ).loc Cert.FfnSampleReferenceIdeal.main_arg9))
      ∧ r.2.sem = fun _ => 0)

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)) (v2 : (c : Dev Cert.MemKvIdeal.nD) → Buf (Elt Ideal) ((c.tc : Thread Cert.MemKvIdeal.nD Cert.MemKvIdeal.τ).loc Cert.MemKvIdeal.main_v4_2)) (v3 : (c : Dev Cert.MemKvIdeal.nD) → Buf (Elt Ideal) ((c.tc : Thread Cert.MemKvIdeal.nD Cert.MemKvIdeal.τ).loc Cert.MemKvIdeal.main_v4_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_v4_2) = v2 c
          ∧ r.2.mem ((c.tc : Thread Cert.MemKvIdeal.nD Cert.MemKvIdeal.τ).loc Cert.MemKvIdeal.main_v4_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v16) = v0 c
          ∧ r.2.mem ((c.tc : Thread Cert.MemKvReferenceIdeal.nD Cert.MemKvReferenceIdeal.τ).loc Cert.MemKvReferenceIdeal.main_v17) = v1 c
          ∧ r.2.mem ((c.tc : Thread Cert.MemKvReferenceIdeal.nD Cert.MemKvReferenceIdeal.τ).loc Cert.MemKvReferenceIdeal.main_v18) = v2 c
          ∧ r.2.mem ((c.tc : Thread Cert.MemKvReferenceIdeal.nD Cert.MemKvReferenceIdeal.τ).loc Cert.MemKvReferenceIdeal.main_v19) = v3 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)) (v3 : (c : Dev Cert.InprojIdeal.nD) → Buf (Elt Ideal) ((c.tc : Thread Cert.InprojIdeal.nD Cert.InprojIdeal.τ).loc Cert.InprojIdeal.main_v9_3)) (v4 : (c : Dev Cert.InprojIdeal.nD) → Buf (Elt Ideal) ((c.tc : Thread Cert.InprojIdeal.nD Cert.InprojIdeal.τ).loc Cert.InprojIdeal.main_v9_4)) (v5 : (c : Dev Cert.InprojIdeal.nD) → Buf (Elt Ideal) ((c.tc : Thread Cert.InprojIdeal.nD Cert.InprojIdeal.τ).loc Cert.InprojIdeal.main_v9_5)) (v6 : (c : Dev Cert.InprojIdeal.nD) → Buf (Elt Ideal) ((c.tc : Thread Cert.InprojIdeal.nD Cert.InprojIdeal.τ).loc Cert.InprojIdeal.main_v9_6)) (v7 : (c : Dev Cert.InprojIdeal.nD) → Buf (Elt Ideal) ((c.tc : Thread Cert.InprojIdeal.nD Cert.InprojIdeal.τ).loc Cert.InprojIdeal.main_v9_7)) (v8 : (c : Dev Cert.InprojIdeal.nD) → Buf (Elt Ideal) ((c.tc : Thread Cert.InprojIdeal.nD Cert.InprojIdeal.τ).loc Cert.InprojIdeal.main_v9_8)) (v9 : (c : Dev Cert.InprojIdeal.nD) → Buf (Elt Ideal) ((c.tc : Thread Cert.InprojIdeal.nD Cert.InprojIdeal.τ).loc Cert.InprojIdeal.main_v9_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_v9_3) = v3 c
          ∧ r.2.mem ((c.tc : Thread Cert.InprojIdeal.nD Cert.InprojIdeal.τ).loc Cert.InprojIdeal.main_v9_4) = v4 c
          ∧ r.2.mem ((c.tc : Thread Cert.InprojIdeal.nD Cert.InprojIdeal.τ).loc Cert.InprojIdeal.main_v9_5) = v5 c
          ∧ r.2.mem ((c.tc : Thread Cert.InprojIdeal.nD Cert.InprojIdeal.τ).loc Cert.InprojIdeal.main_v9_6) = v6 c
          ∧ r.2.mem ((c.tc : Thread Cert.InprojIdeal.nD Cert.InprojIdeal.τ).loc Cert.InprojIdeal.main_v9_7) = v7 c
          ∧ r.2.mem ((c.tc : Thread Cert.InprojIdeal.nD Cert.InprojIdeal.τ).loc Cert.InprojIdeal.main_v9_8) = v8 c
          ∧ r.2.mem ((c.tc : Thread Cert.InprojIdeal.nD Cert.InprojIdeal.τ).loc Cert.InprojIdeal.main_v9_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v34) = v0 c
          ∧ r.2.mem ((c.tc : Thread Cert.InprojReferenceIdeal.nD Cert.InprojReferenceIdeal.τ).loc Cert.InprojReferenceIdeal.main_v35) = v1 c
          ∧ r.2.mem ((c.tc : Thread Cert.InprojReferenceIdeal.nD Cert.InprojReferenceIdeal.τ).loc Cert.InprojReferenceIdeal.main_v36) = v2 c
          ∧ r.2.mem ((c.tc : Thread Cert.InprojReferenceIdeal.nD Cert.InprojReferenceIdeal.τ).loc Cert.InprojReferenceIdeal.main_v33) = v3 c
          ∧ r.2.mem ((c.tc : Thread Cert.InprojReferenceIdeal.nD Cert.InprojReferenceIdeal.τ).loc Cert.InprojReferenceIdeal.main_v39) = v4 c
          ∧ r.2.mem ((c.tc : Thread Cert.InprojReferenceIdeal.nD Cert.InprojReferenceIdeal.τ).loc Cert.InprojReferenceIdeal.main_v40) = v5 c
          ∧ r.2.mem ((c.tc : Thread Cert.InprojReferenceIdeal.nD Cert.InprojReferenceIdeal.τ).loc Cert.InprojReferenceIdeal.main_v42) = v6 c
          ∧ r.2.mem ((c.tc : Thread Cert.InprojReferenceIdeal.nD Cert.InprojReferenceIdeal.τ).loc Cert.InprojReferenceIdeal.main_v45) = v7 c
          ∧ r.2.mem ((c.tc : Thread Cert.InprojReferenceIdeal.nD Cert.InprojReferenceIdeal.τ).loc Cert.InprojReferenceIdeal.main_v46) = v8 c
          ∧ r.2.mem ((c.tc : Thread Cert.InprojReferenceIdeal.nD Cert.InprojReferenceIdeal.τ).loc Cert.InprojReferenceIdeal.main_v31) = v9 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)
      ∧ m' ((c.tc : Thread Cert.PostReferenceIdeal.nD Cert.PostReferenceIdeal.τ).loc Cert.PostReferenceIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v111) = v0 c
          ∧ r.2.mem ((c.tc : Thread Cert.PostReferenceIdeal.nD Cert.PostReferenceIdeal.τ).loc Cert.PostReferenceIdeal.main_v112) = v1 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13)
          ∧ r.2.mem ((c.tc : Thread Cert.PostReferenceIdeal.nD Cert.PostReferenceIdeal.τ).loc Cert.PostReferenceIdeal.main_arg14) = m' ((c.tc : Thread Cert.PostReferenceIdeal.nD Cert.PostReferenceIdeal.τ).loc Cert.PostReferenceIdeal.main_arg14))

def algebraic_PostIdeal_PostSoftmaxReferenceIdeal_pre_post_finite [hPostIdeal : Cert.PostIdeal.Facts] [hPostSoftmaxReferenceIdeal : Cert.PostSoftmaxReferenceIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostSoftmaxReferenceIdeal.nD Cert.PostSoftmaxReferenceIdeal.τ Cert.PostSoftmaxReferenceIdeal.sig) → Buf (Elt Ideal) ℓ) (g' : Dev Cert.PostSoftmaxReferenceIdeal.nD → PrngReg), Pre_PostIdeal_post_finite m →
    (∀ c : Dev Cert.PostIdeal.nD,
      m' ((c.tc : Thread Cert.PostSoftmaxReferenceIdeal.nD Cert.PostSoftmaxReferenceIdeal.τ).loc Cert.PostSoftmaxReferenceIdeal.main_arg0) = m ((c.tc : Thread Cert.PostIdeal.nD Cert.PostIdeal.τ).loc Cert.PostIdeal.main_arg0)
      ∧ m' ((c.tc : Thread Cert.PostSoftmaxReferenceIdeal.nD Cert.PostSoftmaxReferenceIdeal.τ).loc Cert.PostSoftmaxReferenceIdeal.main_arg1) = m ((c.tc : Thread Cert.PostIdeal.nD Cert.PostIdeal.τ).loc Cert.PostIdeal.main_arg1)
      ∧ m' ((c.tc : Thread Cert.PostSoftmaxReferenceIdeal.nD Cert.PostSoftmaxReferenceIdeal.τ).loc Cert.PostSoftmaxReferenceIdeal.main_arg2) = m ((c.tc : Thread Cert.PostIdeal.nD Cert.PostIdeal.τ).loc Cert.PostIdeal.main_arg2)
      ∧ m' ((c.tc : Thread Cert.PostSoftmaxReferenceIdeal.nD Cert.PostSoftmaxReferenceIdeal.τ).loc Cert.PostSoftmaxReferenceIdeal.main_arg3) = m ((c.tc : Thread Cert.PostIdeal.nD Cert.PostIdeal.τ).loc Cert.PostIdeal.main_arg3)
      ∧ m' ((c.tc : Thread Cert.PostSoftmaxReferenceIdeal.nD Cert.PostSoftmaxReferenceIdeal.τ).loc Cert.PostSoftmaxReferenceIdeal.main_arg4) = m ((c.tc : Thread Cert.PostIdeal.nD Cert.PostIdeal.τ).loc Cert.PostIdeal.main_arg4)
      ∧ m' ((c.tc : Thread Cert.PostSoftmaxReferenceIdeal.nD Cert.PostSoftmaxReferenceIdeal.τ).loc Cert.PostSoftmaxReferenceIdeal.main_arg5) = m ((c.tc : Thread Cert.PostIdeal.nD Cert.PostIdeal.τ).loc Cert.PostIdeal.main_arg5)
      ∧ m' ((c.tc : Thread Cert.PostSoftmaxReferenceIdeal.nD Cert.PostSoftmaxReferenceIdeal.τ).loc Cert.PostSoftmaxReferenceIdeal.main_arg6) = m ((c.tc : Thread Cert.PostIdeal.nD Cert.PostIdeal.τ).loc Cert.PostIdeal.main_arg6)
      ∧ m' ((c.tc : Thread Cert.PostSoftmaxReferenceIdeal.nD Cert.PostSoftmaxReferenceIdeal.τ).loc Cert.PostSoftmaxReferenceIdeal.main_arg7) = m ((c.tc : Thread Cert.PostIdeal.nD Cert.PostIdeal.τ).loc Cert.PostIdeal.main_arg7)
      ∧ m' ((c.tc : Thread Cert.PostSoftmaxReferenceIdeal.nD Cert.PostSoftmaxReferenceIdeal.τ).loc Cert.PostSoftmaxReferenceIdeal.main_arg8) = m ((c.tc : Thread Cert.PostIdeal.nD Cert.PostIdeal.τ).loc Cert.PostIdeal.main_arg8)
      ∧ m' ((c.tc : Thread Cert.PostSoftmaxReferenceIdeal.nD Cert.PostSoftmaxReferenceIdeal.τ).loc Cert.PostSoftmaxReferenceIdeal.main_arg9) = m ((c.tc : Thread Cert.PostIdeal.nD Cert.PostIdeal.τ).loc Cert.PostIdeal.main_arg9)
      ∧ m' ((c.tc : Thread Cert.PostSoftmaxReferenceIdeal.nD Cert.PostSoftmaxReferenceIdeal.τ).loc Cert.PostSoftmaxReferenceIdeal.main_arg10) = m ((c.tc : Thread Cert.PostIdeal.nD Cert.PostIdeal.τ).loc Cert.PostIdeal.main_arg10)
      ∧ m' ((c.tc : Thread Cert.PostSoftmaxReferenceIdeal.nD Cert.PostSoftmaxReferenceIdeal.τ).loc Cert.PostSoftmaxReferenceIdeal.main_arg11) = m ((c.tc : Thread Cert.PostIdeal.nD Cert.PostIdeal.τ).loc Cert.PostIdeal.main_arg11)
      ∧ m' ((c.tc : Thread Cert.PostSoftmaxReferenceIdeal.nD Cert.PostSoftmaxReferenceIdeal.τ).loc Cert.PostSoftmaxReferenceIdeal.main_arg12) = m ((c.tc : Thread Cert.PostIdeal.nD Cert.PostIdeal.τ).loc Cert.PostIdeal.main_arg12)
      ∧ m' ((c.tc : Thread Cert.PostSoftmaxReferenceIdeal.nD Cert.PostSoftmaxReferenceIdeal.τ).loc Cert.PostSoftmaxReferenceIdeal.main_arg13) = m ((c.tc : Thread Cert.PostIdeal.nD Cert.PostIdeal.τ).loc Cert.PostIdeal.main_arg13)
      ∧ m' ((c.tc : Thread Cert.PostSoftmaxReferenceIdeal.nD Cert.PostSoftmaxReferenceIdeal.τ).loc Cert.PostSoftmaxReferenceIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostSoftmaxReferenceIdeal.defs (F := Ideal)) (onTc (τ := Cert.PostSoftmaxReferenceIdeal.τ) (Cert.PostSoftmaxReferenceIdeal.main (F := Ideal))) ⟨m', fun _ => 0, g'⟩ (fun r => ∀ c : Dev Cert.PostSoftmaxReferenceIdeal.nD,
          r.2.mem ((c.tc : Thread Cert.PostSoftmaxReferenceIdeal.nD Cert.PostSoftmaxReferenceIdeal.τ).loc Cert.PostSoftmaxReferenceIdeal.main_v111) = v0 c
          ∧ r.2.mem ((c.tc : Thread Cert.PostSoftmaxReferenceIdeal.nD Cert.PostSoftmaxReferenceIdeal.τ).loc Cert.PostSoftmaxReferenceIdeal.main_v112) = v1 c
          ∧ r.2.mem ((c.tc : Thread Cert.PostSoftmaxReferenceIdeal.nD Cert.PostSoftmaxReferenceIdeal.τ).loc Cert.PostSoftmaxReferenceIdeal.main_arg0) = m' ((c.tc : Thread Cert.PostSoftmaxReferenceIdeal.nD Cert.PostSoftmaxReferenceIdeal.τ).loc Cert.PostSoftmaxReferenceIdeal.main_arg0)
          ∧ r.2.mem ((c.tc : Thread Cert.PostSoftmaxReferenceIdeal.nD Cert.PostSoftmaxReferenceIdeal.τ).loc Cert.PostSoftmaxReferenceIdeal.main_arg1) = m' ((c.tc : Thread Cert.PostSoftmaxReferenceIdeal.nD Cert.PostSoftmaxReferenceIdeal.τ).loc Cert.PostSoftmaxReferenceIdeal.main_arg1)
          ∧ r.2.mem ((c.tc : Thread Cert.PostSoftmaxReferenceIdeal.nD Cert.PostSoftmaxReferenceIdeal.τ).loc Cert.PostSoftmaxReferenceIdeal.main_arg2) = m' ((c.tc : Thread Cert.PostSoftmaxReferenceIdeal.nD Cert.PostSoftmaxReferenceIdeal.τ).loc Cert.PostSoftmaxReferenceIdeal.main_arg2)
          ∧ r.2.mem ((c.tc : Thread Cert.PostSoftmaxReferenceIdeal.nD Cert.PostSoftmaxReferenceIdeal.τ).loc Cert.PostSoftmaxReferenceIdeal.main_arg3) = m' ((c.tc : Thread Cert.PostSoftmaxReferenceIdeal.nD Cert.PostSoftmaxReferenceIdeal.τ).loc Cert.PostSoftmaxReferenceIdeal.main_arg3)
          ∧ r.2.mem ((c.tc : Thread Cert.PostSoftmaxReferenceIdeal.nD Cert.PostSoftmaxReferenceIdeal.τ).loc Cert.PostSoftmaxReferenceIdeal.main_arg4) = m' ((c.tc : Thread Cert.PostSoftmaxReferenceIdeal.nD Cert.PostSoftmaxReferenceIdeal.τ).loc Cert.PostSoftmaxReferenceIdeal.main_arg4)
          ∧ r.2.mem ((c.tc : Thread Cert.PostSoftmaxReferenceIdeal.nD Cert.PostSoftmaxReferenceIdeal.τ).loc Cert.PostSoftmaxReferenceIdeal.main_arg5) = m' ((c.tc : Thread Cert.PostSoftmaxReferenceIdeal.nD Cert.PostSoftmaxReferenceIdeal.τ).loc Cert.PostSoftmaxReferenceIdeal.main_arg5)
          ∧ r.2.mem ((c.tc : Thread Cert.PostSoftmaxReferenceIdeal.nD Cert.PostSoftmaxReferenceIdeal.τ).loc Cert.PostSoftmaxReferenceIdeal.main_arg6) = m' ((c.tc : Thread Cert.PostSoftmaxReferenceIdeal.nD Cert.PostSoftmaxReferenceIdeal.τ).loc Cert.PostSoftmaxReferenceIdeal.main_arg6)
          ∧ r.2.mem ((c.tc : Thread Cert.PostSoftmaxReferenceIdeal.nD Cert.PostSoftmaxReferenceIdeal.τ).loc Cert.PostSoftmaxReferenceIdeal.main_arg7) = m' ((c.tc : Thread Cert.PostSoftmaxReferenceIdeal.nD Cert.PostSoftmaxReferenceIdeal.τ).loc Cert.PostSoftmaxReferenceIdeal.main_arg7)
          ∧ r.2.mem ((c.tc : Thread Cert.PostSoftmaxReferenceIdeal.nD Cert.PostSoftmaxReferenceIdeal.τ).loc Cert.PostSoftmaxReferenceIdeal.main_arg8) = m' ((c.tc : Thread Cert.PostSoftmaxReferenceIdeal.nD Cert.PostSoftmaxReferenceIdeal.τ).loc Cert.PostSoftmaxReferenceIdeal.main_arg8)
          ∧ r.2.mem ((c.tc : Thread Cert.PostSoftmaxReferenceIdeal.nD Cert.PostSoftmaxReferenceIdeal.τ).loc Cert.PostSoftmaxReferenceIdeal.main_arg9) = m' ((c.tc : Thread Cert.PostSoftmaxReferenceIdeal.nD Cert.PostSoftmaxReferenceIdeal.τ).loc Cert.PostSoftmaxReferenceIdeal.main_arg9)
          ∧ r.2.mem ((c.tc : Thread Cert.PostSoftmaxReferenceIdeal.nD Cert.PostSoftmaxReferenceIdeal.τ).loc Cert.PostSoftmaxReferenceIdeal.main_arg10) = m' ((c.tc : Thread Cert.PostSoftmaxReferenceIdeal.nD Cert.PostSoftmaxReferenceIdeal.τ).loc Cert.PostSoftmaxReferenceIdeal.main_arg10)
          ∧ r.2.mem ((c.tc : Thread Cert.PostSoftmaxReferenceIdeal.nD Cert.PostSoftmaxReferenceIdeal.τ).loc Cert.PostSoftmaxReferenceIdeal.main_arg11) = m' ((c.tc : Thread Cert.PostSoftmaxReferenceIdeal.nD Cert.PostSoftmaxReferenceIdeal.τ).loc Cert.PostSoftmaxReferenceIdeal.main_arg11)
          ∧ r.2.mem ((c.tc : Thread Cert.PostSoftmaxReferenceIdeal.nD Cert.PostSoftmaxReferenceIdeal.τ).loc Cert.PostSoftmaxReferenceIdeal.main_arg12) = m' ((c.tc : Thread Cert.PostSoftmaxReferenceIdeal.nD Cert.PostSoftmaxReferenceIdeal.τ).loc Cert.PostSoftmaxReferenceIdeal.main_arg12)
          ∧ r.2.mem ((c.tc : Thread Cert.PostSoftmaxReferenceIdeal.nD Cert.PostSoftmaxReferenceIdeal.τ).loc Cert.PostSoftmaxReferenceIdeal.main_arg13) = m' ((c.tc : Thread Cert.PostSoftmaxReferenceIdeal.nD Cert.PostSoftmaxReferenceIdeal.τ).loc Cert.PostSoftmaxReferenceIdeal.main_arg13)
          ∧ r.2.mem ((c.tc : Thread Cert.PostSoftmaxReferenceIdeal.nD Cert.PostSoftmaxReferenceIdeal.τ).loc Cert.PostSoftmaxReferenceIdeal.main_arg14) = m' ((c.tc : Thread Cert.PostSoftmaxReferenceIdeal.nD Cert.PostSoftmaxReferenceIdeal.τ).loc Cert.PostSoftmaxReferenceIdeal.main_arg14))

def preserves_InprojSample_InprojSampleIdeal : Prop :=
  True

def algebraic_InprojSampleIdeal_InprojSampleReferenceIdeal [hInprojSampleIdeal : Cert.InprojSampleIdeal.Facts] [hInprojSampleReferenceIdeal : Cert.InprojSampleReferenceIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleReferenceIdeal.nD Cert.InprojSampleReferenceIdeal.τ Cert.InprojSampleReferenceIdeal.sig) → Buf (Elt Ideal) ℓ) (g' : Dev Cert.InprojSampleReferenceIdeal.nD → PrngReg), Pre_InprojSampleIdeal m →
    (∀ c : Dev Cert.InprojSampleIdeal.nD,
      m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)
      ∧ m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)
      ∧ m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) →
    ∃ (v0 : (c : Dev Cert.InprojSampleIdeal.nD) → Buf (Elt Ideal) ((c.tc : Thread Cert.InprojSampleIdeal.nD Cert.InprojSampleIdeal.τ).loc Cert.InprojSampleIdeal.main_v10_0)) (v1 : (c : Dev Cert.InprojSampleIdeal.nD) → Buf (Elt Ideal) ((c.tc : Thread Cert.InprojSampleIdeal.nD Cert.InprojSampleIdeal.τ).loc Cert.InprojSampleIdeal.main_v10_1)) (v2 : (c : Dev Cert.InprojSampleIdeal.nD) → Buf (Elt Ideal) ((c.tc : Thread Cert.InprojSampleIdeal.nD Cert.InprojSampleIdeal.τ).loc Cert.InprojSampleIdeal.main_v10_2)) (v3 : (c : Dev Cert.InprojSampleIdeal.nD) → Buf (Elt Ideal) ((c.tc : Thread Cert.InprojSampleIdeal.nD Cert.InprojSampleIdeal.τ).loc Cert.InprojSampleIdeal.main_v10_3)) (v4 : (c : Dev Cert.InprojSampleIdeal.nD) → Buf (Elt Ideal) ((c.tc : Thread Cert.InprojSampleIdeal.nD Cert.InprojSampleIdeal.τ).loc Cert.InprojSampleIdeal.main_v10_4)) (v5 : (c : Dev Cert.InprojSampleIdeal.nD) → Buf (Elt Ideal) ((c.tc : Thread Cert.InprojSampleIdeal.nD Cert.InprojSampleIdeal.τ).loc Cert.InprojSampleIdeal.main_v10_5)) (v6 : (c : Dev Cert.InprojSampleIdeal.nD) → Buf (Elt Ideal) ((c.tc : Thread Cert.InprojSampleIdeal.nD Cert.InprojSampleIdeal.τ).loc Cert.InprojSampleIdeal.main_v10_6)) (v7 : (c : Dev Cert.InprojSampleIdeal.nD) → Buf (Elt Ideal) ((c.tc : Thread Cert.InprojSampleIdeal.nD Cert.InprojSampleIdeal.τ).loc Cert.InprojSampleIdeal.main_v10_7)) (v8 : (c : Dev Cert.InprojSampleIdeal.nD) → Buf (Elt Ideal) ((c.tc : Thread Cert.InprojSampleIdeal.nD Cert.InprojSampleIdeal.τ).loc Cert.InprojSampleIdeal.main_v10_8)) (v9 : (c : Dev Cert.InprojSampleIdeal.nD) → Buf (Elt Ideal) ((c.tc : Thread Cert.InprojSampleIdeal.nD Cert.InprojSampleIdeal.τ).loc Cert.InprojSampleIdeal.main_v10_9)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v10_0) = v0 c
          ∧ r.2.mem ((c.tc : Thread Cert.InprojSampleIdeal.nD Cert.InprojSampleIdeal.τ).loc Cert.InprojSampleIdeal.main_v10_1) = v1 c
          ∧ r.2.mem ((c.tc : Thread Cert.InprojSampleIdeal.nD Cert.InprojSampleIdeal.τ).loc Cert.InprojSampleIdeal.main_v10_2) = v2 c
          ∧ r.2.mem ((c.tc : Thread Cert.InprojSampleIdeal.nD Cert.InprojSampleIdeal.τ).loc Cert.InprojSampleIdeal.main_v10_3) = v3 c
          ∧ r.2.mem ((c.tc : Thread Cert.InprojSampleIdeal.nD Cert.InprojSampleIdeal.τ).loc Cert.InprojSampleIdeal.main_v10_4) = v4 c
          ∧ r.2.mem ((c.tc : Thread Cert.InprojSampleIdeal.nD Cert.InprojSampleIdeal.τ).loc Cert.InprojSampleIdeal.main_v10_5) = v5 c
          ∧ r.2.mem ((c.tc : Thread Cert.InprojSampleIdeal.nD Cert.InprojSampleIdeal.τ).loc Cert.InprojSampleIdeal.main_v10_6) = v6 c
          ∧ r.2.mem ((c.tc : Thread Cert.InprojSampleIdeal.nD Cert.InprojSampleIdeal.τ).loc Cert.InprojSampleIdeal.main_v10_7) = v7 c
          ∧ r.2.mem ((c.tc : Thread Cert.InprojSampleIdeal.nD Cert.InprojSampleIdeal.τ).loc Cert.InprojSampleIdeal.main_v10_8) = v8 c
          ∧ r.2.mem ((c.tc : Thread Cert.InprojSampleIdeal.nD Cert.InprojSampleIdeal.τ).loc Cert.InprojSampleIdeal.main_v10_9) = v9 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2))
      ∧ θ_run (Cert.InprojSampleReferenceIdeal.defs (F := Ideal)) (onTc (τ := Cert.InprojSampleReferenceIdeal.τ) (Cert.InprojSampleReferenceIdeal.main (F := Ideal))) ⟨m', fun _ => 0, g'⟩ (fun r => ∀ c : Dev Cert.InprojSampleReferenceIdeal.nD,
          r.2.mem ((c.tc : Thread Cert.InprojSampleReferenceIdeal.nD Cert.InprojSampleReferenceIdeal.τ).loc Cert.InprojSampleReferenceIdeal.main_v35) = v0 c
          ∧ r.2.mem ((c.tc : Thread Cert.InprojSampleReferenceIdeal.nD Cert.InprojSampleReferenceIdeal.τ).loc Cert.InprojSampleReferenceIdeal.main_v36) = v1 c
          ∧ r.2.mem ((c.tc : Thread Cert.InprojSampleReferenceIdeal.nD Cert.InprojSampleReferenceIdeal.τ).loc Cert.InprojSampleReferenceIdeal.main_v37) = v2 c
          ∧ r.2.mem ((c.tc : Thread Cert.InprojSampleReferenceIdeal.nD Cert.InprojSampleReferenceIdeal.τ).loc Cert.InprojSampleReferenceIdeal.main_v34) = v3 c
          ∧ r.2.mem ((c.tc : Thread Cert.InprojSampleReferenceIdeal.nD Cert.InprojSampleReferenceIdeal.τ).loc Cert.InprojSampleReferenceIdeal.main_v40) = v4 c
          ∧ r.2.mem ((c.tc : Thread Cert.InprojSampleReferenceIdeal.nD Cert.InprojSampleReferenceIdeal.τ).loc Cert.InprojSampleReferenceIdeal.main_v41) = v5 c
          ∧ r.2.mem ((c.tc : Thread Cert.InprojSampleReferenceIdeal.nD Cert.InprojSampleReferenceIdeal.τ).loc Cert.InprojSampleReferenceIdeal.main_v43) = v6 c
          ∧ r.2.mem ((c.tc : Thread Cert.InprojSampleReferenceIdeal.nD Cert.InprojSampleReferenceIdeal.τ).loc Cert.InprojSampleReferenceIdeal.main_v46) = v7 c
          ∧ r.2.mem ((c.tc : Thread Cert.InprojSampleReferenceIdeal.nD Cert.InprojSampleReferenceIdeal.τ).loc Cert.InprojSampleReferenceIdeal.main_v47) = v8 c
          ∧ r.2.mem ((c.tc : Thread Cert.InprojSampleReferenceIdeal.nD Cert.InprojSampleReferenceIdeal.τ).loc Cert.InprojSampleReferenceIdeal.main_v32) = v9 c
          ∧ r.2.mem ((c.tc : Thread Cert.InprojSampleReferenceIdeal.nD Cert.InprojSampleReferenceIdeal.τ).loc Cert.InprojSampleReferenceIdeal.main_arg0) = m' ((c.tc : Thread Cert.InprojSampleReferenceIdeal.nD Cert.InprojSampleReferenceIdeal.τ).loc Cert.InprojSampleReferenceIdeal.main_arg0)
          ∧ r.2.mem ((c.tc : Thread Cert.InprojSampleReferenceIdeal.nD Cert.InprojSampleReferenceIdeal.τ).loc Cert.InprojSampleReferenceIdeal.main_arg1) = m' ((c.tc : Thread Cert.InprojSampleReferenceIdeal.nD Cert.InprojSampleReferenceIdeal.τ).loc Cert.InprojSampleReferenceIdeal.main_arg1)
          ∧ r.2.mem ((c.tc : Thread Cert.InprojSampleReferenceIdeal.nD Cert.InprojSampleReferenceIdeal.τ).loc Cert.InprojSampleReferenceIdeal.main_arg2) = m' ((c.tc : Thread Cert.InprojSampleReferenceIdeal.nD Cert.InprojSampleReferenceIdeal.τ).loc Cert.InprojSampleReferenceIdeal.main_arg2))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)
      ∧ m' ((c.tc : Thread Cert.FfnSampleReferenceIdeal.nD Cert.FfnSampleReferenceIdeal.τ).loc Cert.FfnSampleReferenceIdeal.main_arg9) = m ((c.tc : Thread Cert.FfnSampleIdeal.nD Cert.FfnSampleIdeal.τ).loc Cert.FfnSampleIdeal.main_arg9)) →
    ∃ (v0 : (c : Dev Cert.FfnSampleIdeal.nD) → Buf (Elt Ideal) ((c.tc : Thread Cert.FfnSampleIdeal.nD Cert.FfnSampleIdeal.τ).loc Cert.FfnSampleIdeal.main_v4_0)) (v1 : (c : Dev Cert.FfnSampleIdeal.nD) → Buf (Elt Ideal) ((c.tc : Thread Cert.FfnSampleIdeal.nD Cert.FfnSampleIdeal.τ).loc Cert.FfnSampleIdeal.main_v4_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v4_0) = v0 c
          ∧ r.2.mem ((c.tc : Thread Cert.FfnSampleIdeal.nD Cert.FfnSampleIdeal.τ).loc Cert.FfnSampleIdeal.main_v4_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v69) = v0 c
          ∧ r.2.mem ((c.tc : Thread Cert.FfnSampleReferenceIdeal.nD Cert.FfnSampleReferenceIdeal.τ).loc Cert.FfnSampleReferenceIdeal.main_v70) = v1 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8)
          ∧ r.2.mem ((c.tc : Thread Cert.FfnSampleReferenceIdeal.nD Cert.FfnSampleReferenceIdeal.τ).loc Cert.FfnSampleReferenceIdeal.main_arg9) = m' ((c.tc : Thread Cert.FfnSampleReferenceIdeal.nD Cert.FfnSampleReferenceIdeal.τ).loc Cert.FfnSampleReferenceIdeal.main_arg9))

def Claim : Prop :=
  ∃ (hMemKv : Cert.MemKv.Facts) (hMemKvIdeal : Cert.MemKvIdeal.Facts) (hMemKvReferenceIdeal : Cert.MemKvReferenceIdeal.Facts) (hInproj : Cert.Inproj.Facts) (hInprojIdeal : Cert.InprojIdeal.Facts) (hInprojReferenceIdeal : Cert.InprojReferenceIdeal.Facts) (hPost : Cert.Post.Facts) (hPostIdeal : Cert.PostIdeal.Facts) (hPostReferenceIdeal : Cert.PostReferenceIdeal.Facts) (hPostSoftmaxReferenceIdeal : Cert.PostSoftmaxReferenceIdeal.Facts) (hInprojSample : Cert.InprojSample.Facts) (hInprojSampleIdeal : Cert.InprojSampleIdeal.Facts) (hInprojSampleReferenceIdeal : Cert.InprojSampleReferenceIdeal.Facts) (hFfnSample : Cert.FfnSample.Facts) (hFfnSampleIdeal : Cert.FfnSampleIdeal.Facts) (hFfnSampleReferenceIdeal : Cert.FfnSampleReferenceIdeal.Facts) (hPre_post_finite : Cert.Pre_post_finite.Facts),
    quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostReferenceIdeal (hPostReferenceIdeal := hPostReferenceIdeal)
    ∧ quiescent_PostSoftmaxReferenceIdeal (hPostSoftmaxReferenceIdeal := hPostSoftmaxReferenceIdeal)
    ∧ quiescent_PostSoftmaxReferenceIdeal_pre_post_finite (hPostSoftmaxReferenceIdeal := hPostSoftmaxReferenceIdeal) (hPre_post_finite := hPre_post_finite)
    ∧ quiescent_InprojSample (hInprojSample := hInprojSample)
    ∧ quiescent_InprojSampleIdeal (hInprojSampleIdeal := hInprojSampleIdeal)
    ∧ quiescent_InprojSampleReferenceIdeal (hInprojSampleReferenceIdeal := hInprojSampleReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Inproj_InprojIdeal
    ∧ algebraic_InprojIdeal_InprojReferenceIdeal (hInprojIdeal := hInprojIdeal) (hInprojReferenceIdeal := hInprojReferenceIdeal)
    ∧ preserves_Post_PostIdeal
    ∧ algebraic_PostIdeal_PostReferenceIdeal (hPostIdeal := hPostIdeal) (hPostReferenceIdeal := hPostReferenceIdeal)
    ∧ algebraic_PostIdeal_PostSoftmaxReferenceIdeal_pre_post_finite (hPostIdeal := hPostIdeal) (hPostSoftmaxReferenceIdeal := hPostSoftmaxReferenceIdeal) (hPre_post_finite := hPre_post_finite)
    ∧ preserves_InprojSample_InprojSampleIdeal
    ∧ algebraic_InprojSampleIdeal_InprojSampleReferenceIdeal (hInprojSampleIdeal := hInprojSampleIdeal) (hInprojSampleReferenceIdeal := hInprojSampleReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
-- ==== Pre_post_finite.lean ====
abbrev S4x4096x1024 : Shape := ⟨3, ![4, 4096, 1024]⟩
abbrev S4x4096x512 : Shape := ⟨3, ![4, 4096, 512]⟩
abbrev S4x256x256 : Shape := ⟨3, ![4, 256, 256]⟩
abbrev S1024x1024 : Shape := ⟨2, ![1024, 1024]⟩
abbrev S1x1024 : Shape := ⟨2, ![1, 1024]⟩
abbrev S1024x256 : Shape := ⟨2, ![1024, 256]⟩
abbrev S256x1024 : Shape := ⟨2, ![256, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_v32 : IVec S_ 1) (main_v34 : FVec F S1024x256 .f32) (main_cst_10 : FVec F S_ .f32) : IVec S_ 1 :=
  let main_v35 : FVec F S1024x256 .f32 := broadcastInDim S1024x256 ![] bcast_S_S1024x256 main_cst_10
  let main_v36 : IVec S1024x256 1 := cmpf .olt main_v34 main_v35
  let main_c_11 : IVec S_ 1 := constantI S_ 1 1#1
  let main_v37 : IVec S_ 1 := (fun x v => Host.reduce IntOp.andi x v reducesTo_S1024x256_S_d0_1 h_S_) main_v36 main_c_11
  let main_v38 : IVec S_ 1 := andi main_v32 main_v37
  main_v38

def fn_part1 {F : FTy → Type} [FloatOps F] (main_arg5 : FVec F S1024x1024 .bf16) (main_arg6 : FVec F S1x1024 .f32) (main_arg7 : FVec F S1024x256 .bf16) (main_v15 : IVec S_ 1) (main_v17 : FVec F S4x256x256 .f32) : IVec S_ 1 :=
  let main_cst_4 : FVec F S_ .f32 := constant S_ .f32 0x7F800000#32
  let main_v18 : FVec F S4x256x256 .f32 := broadcastInDim S4x256x256 ![] bcast_S_S4x256x256 main_cst_4
  let main_v19 : IVec S4x256x256 1 := cmpf .olt main_v17 main_v18
  let main_c_5 : IVec S_ 1 := constantI S_ 1 1#1
  let main_v20 : IVec S_ 1 := (fun x v => Host.reduce IntOp.andi x v reducesTo_S4x256x256_S_d0_1_2 h_S_) main_v19 main_c_5
  let main_v21 : IVec S_ 1 := andi main_v15 main_v20
  let main_v22 : FVec F S1024x1024 .f32 := (extf .f32 · bitsLt_bf16_f32) main_arg5
  let main_v23 : FVec F S1024x1024 .f32 := Host.absf main_v22
  let main_cst_6 : FVec F S_ .f32 := constant S_ .f32 0x7F800000#32
  let main_v24 : FVec F S1024x1024 .f32 := broadcastInDim S1024x1024 ![] bcast_S_S1024x1024 main_cst_6
  let main_v25 : IVec S1024x1024 1 := cmpf .olt main_v23 main_v24
  let main_c_7 : IVec S_ 1 := constantI S_ 1 1#1
  let main_v26 : IVec S_ 1 := (fun x v => Host.reduce IntOp.andi x v reducesTo_S1024x1024_S_d0_1 h_S_) main_v25 main_c_7
  let main_v27 : IVec S_ 1 := andi main_v21 main_v26
  let main_v28 : FVec F S1x1024 .f32 := Host.absf main_arg6
  let main_cst_8 : FVec F S_ .f32 := constant S_ .f32 0x7F800000#32
  let main_v29 : FVec F S1x1024 .f32 := broadcastInDim S1x1024 ![] bcast_S_S1x1024 main_cst_8
  let main_v30 : IVec S1x1024 1 := cmpf .olt main_v28 main_v29
  let main_c_9 : IVec S_ 1 := constantI S_ 1 1#1
  let main_v31 : IVec S_ 1 := (fun x v => Host.reduce IntOp.andi x v reducesTo_S1x1024_S_d0_1 h_S_) main_v30 main_c_9
  let main_v32 : IVec S_ 1 := andi main_v27 main_v31
  let main_v33 : FVec F S1024x256 .f32 := (extf .f32 · bitsLt_bf16_f32) main_arg7
  let main_v34 : FVec F S1024x256 .f32 := Host.absf main_v33
  let main_cst_10 : FVec F S_ .f32 := constant S_ .f32 0x7F800000#32
  fn_part2 (F := F) main_v32 main_v34 main_cst_10

def fn {F : FTy → Type} [FloatOps F] (main_arg0 : FVec F S4x4096x1024 .f32) (main_arg1 : FVec F S4x4096x512 .bf16) (main_arg2 : FVec F S4x4096x512 .bf16) (main_arg3 : FVec F S4x256x256 .bf16) (main_arg4 : FVec F S4x256x256 .bf16) (main_arg5 : FVec F S1024x1024 .bf16) (main_arg6 : FVec F S1x1024 .f32) (main_arg7 : FVec F S1024x256 .bf16) (main_arg8 : FVec F S256x1024 .bf16) (main_arg9 : FVec F S1x1024 .f32) (main_arg10 : FVec F S1024x5632 .bf16) (main_arg11 : FVec F S3x5632 .f32) (main_arg12 : FVec F S1x5632 .f32) (main_arg13 : FVec F S2816x1024 .bf16) (main_arg14 : FVec F S1x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_c_1 : IVec S_ 1 := constantI S_ 1 1#1
  let main_v8 : IVec S_ 1 := (fun x v => Host.reduce IntOp.andi x v reducesTo_S4x4096x512_S_d0_1_2 h_S_) main_v7 main_c_1
  let main_v9 : IVec S_ 1 := andi main_v3 main_v8
  let main_v10 : FVec F S4x4096x512 .f32 := (extf .f32 · bitsLt_bf16_f32) main_arg2
  let main_v11 : FVec F S4x4096x512 .f32 := Host.absf main_v10
  let main_cst_2 : FVec F S_ .f32 := constant S_ .f32 0x7F800000#32
  let main_v12 : FVec F S4x4096x512 .f32 := broadcastInDim S4x4096x512 ![] bcast_S_S4x4096x512 main_cst_2
  let main_v13 : IVec S4x4096x512 1 := cmpf .olt main_v11 main_v12
  let main_c_3 : IVec S_ 1 := constantI S_ 1 1#1
  let main_v14 : IVec S_ 1 := (fun x v => Host.reduce IntOp.andi x v reducesTo_S4x4096x512_S_d0_1_2 h_S_) main_v13 main_c_3
  let main_v15 : IVec S_ 1 := andi main_v9 main_v14
  let main_v16 : FVec F S4x256x256 .f32 := (extf .f32 · bitsLt_bf16_f32) main_arg3
  let main_v17 : FVec F S4x256x256 .f32 := Host.absf main_v16
  fn_part1 (F := F) main_arg5 main_arg6 main_arg7 main_v15 main_v17
-- ==== MemKv.lean ====
abbrev S4x256x1024 : Shape := ⟨3, ![4, 256, 1024]⟩
abbrev S1x1024 : Shape := ⟨2, ![1, 1024]⟩
abbrev S1x1024x512 : Shape := ⟨3, ![1, 1024, 512]⟩
abbrev S1024 : Shape := ⟨1, ![1024]⟩
abbrev S1024x512 : Shape := ⟨2, ![1024, 512]⟩
abbrev S4x256x256 : Shape := ⟨3, ![4, 256, 256]⟩
abbrev S1x256x1024 : Shape := ⟨3, ![1, 256, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 11
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1024, .f32⟩
  | .hbm, ⟨4, _⟩ => ⟨S1x1024, .f32⟩
  | .hbm, ⟨5, _⟩ => ⟨S1024x512, .f32⟩
  | .hbm, ⟨6, _⟩ => ⟨S1024x512, .bf16⟩
  | .hbm, ⟨7, _⟩ => ⟨S4x256x256, .f32⟩
  | .hbm, ⟨8, _⟩ => ⟨S4x256x256, .f32⟩
  | .hbm, ⟨9, _⟩ => ⟨S4x256x256, .bf16⟩
  | .hbm, ⟨10, _⟩ => ⟨S4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvReferenceIdeal.lean ====
abbrev S4x256x1024 : Shape := ⟨3, ![4, 256, 1024]⟩
abbrev S1x1024 : Shape := ⟨2, ![1, 1024]⟩
abbrev S1x1024x512 : Shape := ⟨3, ![1, 1024, 512]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x512 : Shape := ⟨2, ![1024, 512]⟩
abbrev S4x256x512 : Shape := ⟨3, ![4, 256, 512]⟩
abbrev S4x256x256 : Shape := ⟨3, ![4, 256, 256]⟩

abbrev nBuf : Space → Nat
  | .hbm => 26
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x512, .f32⟩
  | .hbm, ⟨21, _⟩ => ⟨S4x256x512, .f32⟩
  | .hbm, ⟨22, _⟩ => ⟨S4x256x256, .f32⟩
  | .hbm, ⟨23, _⟩ => ⟨S4x256x256, .f32⟩
  | .hbm, ⟨24, _⟩ => ⟨S4x256x256, .bf16⟩
  | .hbm, ⟨25, _⟩ => ⟨S4x256x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Inproj.lean ====
abbrev S4x4096x1024 : Shape := ⟨3, ![4, 4096, 1024]⟩
abbrev S1x1024 : Shape := ⟨2, ![1, 1024]⟩
abbrev S1x1024x3144 : Shape := ⟨3, ![1, 1024, 3144]⟩
abbrev S1024 : Shape := ⟨1, ![1024]⟩
abbrev S1024x3144 : Shape := ⟨2, ![1024, 3144]⟩
abbrev S1024x2048 : Shape := ⟨2, ![1024, 2048]⟩
abbrev S1024x1024 : Shape := ⟨2, ![1024, 1024]⟩
abbrev S1024x72 : Shape := ⟨2, ![1024, 72]⟩
abbrev S_ : Shape := ⟨0, ![]⟩
abbrev S1024x56 : Shape := ⟨2, ![1024, 56]⟩
abbrev S1024x3200 : Shape := ⟨2, ![1024, 3200]⟩
abbrev S4x512x4096 : Shape := ⟨3, ![4, 512, 4096]⟩
abbrev S4x64x4096 : Shape := ⟨3, ![4, 64, 4096]⟩
abbrev S4x4096x128 : Shape := ⟨3, ![4, 4096, 128]⟩
abbrev S4x4096x512 : Shape := ⟨3, ![4, 4096, 512]⟩
abbrev S4x4096x64 : Shape := ⟨3, ![4, 4096, 64]⟩
abbrev S1x512x1024 : Shape := ⟨3, ![1, 512, 1024]⟩
abbrev S1x512x512 : Shape := ⟨3, ![1, 512, 512]⟩
abbrev S1x64x512 : Shape := ⟨3, ![1, 64, 512]⟩
abbrev S1x512x128 : Shape := ⟨3, ![1, 512, 128]⟩
abbrev S1x512x64 : Shape := ⟨3, ![1, 512, 64]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩
abbrev S128x512 : Shape := ⟨2, ![128, 512]⟩
abbrev S64x512 : Shape := ⟨2, ![64, 512]⟩
abbrev S512x64 : Shape := ⟨2, ![512, 64]⟩

abbrev nBuf : Space → Nat
  | .hbm => 23
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3144, .f32⟩
  | .hbm, ⟨3, _⟩ => ⟨S1024, .f32⟩
  | .hbm, ⟨4, _⟩ => ⟨S1x1024, .f32⟩
  | .hbm, ⟨5, _⟩ => ⟨S1024x3144, .f32⟩
  | .hbm, ⟨6, _⟩ => ⟨S1024x2048, .f32⟩
  | .hbm, ⟨7, _⟩ => ⟨S1024x1024, .f32⟩
  | .hbm, ⟨8, _⟩ => ⟨S1024x72, .f32⟩
  | .hbm, ⟨9, _⟩ => ⟨S_, .f32⟩
  | .hbm, ⟨10, _⟩ => ⟨S1024x56, .f32⟩
  | .hbm, ⟨11, _⟩ => ⟨S1024x3200, .f32⟩
  | .hbm, ⟨12, _⟩ => ⟨S1024x3200, .bf16⟩
  | .hbm, ⟨13, _⟩ => ⟨S4x512x4096, .f32⟩
  | .hbm, ⟨14, _⟩ => ⟨S4x512x4096, .f32⟩
  | .hbm, ⟨15, _⟩ => ⟨S4x64x4096, .f32⟩
  | .hbm, ⟨16, _⟩ => ⟨S4x4096x128, .f32⟩
  | .hbm, ⟨17, _⟩ => ⟨S4x4096x512, .bf16⟩
  | .hbm, ⟨18, _⟩ => ⟨S4x4096x512, .bf16⟩
  | .hbm, ⟨19, _⟩ => ⟨S4x512x4096, .bf16⟩
  | .hbm, ⟨20, _⟩ => ⟨S4x4096x512, .bf16⟩
  | .hbm, ⟨21, _⟩ => ⟨S4x4096x64, .bf16⟩
  | .hbm, ⟨22, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3200, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x64x512, .f32⟩
  | .local _ .vmem, ⟨9, _⟩ => ⟨S1x64x512, .f32⟩
  | .local _ .vmem, ⟨10, _⟩ => ⟨S1x512x128, .f32⟩
  | .local _ .vmem, ⟨11, _⟩ => ⟨S1x512x128, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x64, .bf16⟩
  | .local _ .vmem, ⟨21, _⟩ => ⟨S1x512x64, .bf16⟩
  | .local _ .vmem, ⟨22, _⟩ => ⟨S1x512x512, .f32⟩
  | .local _ .vmem, ⟨23, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v9_5 : Ref sig .tc := ⟨.hbm, 18, rfl⟩
abbrev main_v9_6 : Ref sig .tc := ⟨.hbm, 19, rfl⟩
abbrev main_v9_7 : Ref sig .tc := ⟨.hbm, 20, rfl⟩
abbrev main_v9_8 : Ref sig .tc := ⟨.hbm, 21, rfl⟩
abbrev main_v9_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InprojReferenceIdeal.lean ====
abbrev S4x4096x1024 : Shape := ⟨3, ![4, 4096, 1024]⟩
abbrev S1x1024 : Shape := ⟨2, ![1, 1024]⟩
abbrev S1x1024x3144 : Shape := ⟨3, ![1, 1024, 3144]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3144 : Shape := ⟨2, ![1024, 3144]⟩
abbrev S4x4096x3144 : Shape := ⟨3, ![4, 4096, 3144]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x56 : Shape := ⟨3, ![4, 4096, 56]⟩
abbrev S4x4096x128 : Shape := ⟨3, ![4, 4096, 128]⟩
abbrev S4x512x4096 : Shape := ⟨3, ![4, 512, 4096]⟩
abbrev S4x64x4096 : Shape := ⟨3, ![4, 64, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3144, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x3144, .f32⟩
  | .hbm, ⟨21, _⟩ => ⟨S4x4096x3144, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x64, .f32⟩
  | .hbm, ⟨27, _⟩ => ⟨S4x4096x8, .f32⟩
  | .hbm, ⟨28, _⟩ => ⟨S4x4096x1024, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S_, .f32⟩
  | .hbm, ⟨34, _⟩ => ⟨S4x4096x512, .f32⟩
  | .hbm, ⟨35, _⟩ => ⟨S4x4096x512, .f32⟩
  | .hbm, ⟨36, _⟩ => ⟨S_, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S_, .f32⟩
  | .hbm, ⟨41, _⟩ => ⟨S4x4096x56, .f32⟩
  | .hbm, ⟨42, _⟩ => ⟨S4x4096x128, .f32⟩
  | .hbm, ⟨43, _⟩ => ⟨S4x512x4096, .f32⟩
  | .hbm, ⟨44, _⟩ => ⟨S4x512x4096, .f32⟩
  | .hbm, ⟨45, _⟩ => ⟨S4x64x4096, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S4x4096x512, .bf16⟩
  | .hbm, ⟨50, _⟩ => ⟨S4x4096x512, .bf16⟩
  | .hbm, ⟨51, _⟩ => ⟨S4x512x4096, .f32⟩
  | .hbm, ⟨52, _⟩ => ⟨S4x512x4096, .bf16⟩
  | .hbm, ⟨53, _⟩ => ⟨S_, .f32⟩
  | .hbm, ⟨54, _⟩ => ⟨S4x4096x512, .f32⟩
  | .hbm, ⟨55, _⟩ => ⟨S4x4096x512, .f32⟩
  | .hbm, ⟨56, _⟩ => ⟨S4x4096x512, .bf16⟩
  | .hbm, ⟨57, _⟩ => ⟨S4x4096x64, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Post.lean ====
abbrev S4x4096x1024 : Shape := ⟨3, ![4, 4096, 1024]⟩
abbrev S4x4096x512 : Shape := ⟨3, ![4, 4096, 512]⟩
abbrev S4x256x256 : Shape := ⟨3, ![4, 256, 256]⟩
abbrev S1024x1024 : Shape := ⟨2, ![1024, 1024]⟩
abbrev S1x1024 : Shape := ⟨2, ![1, 1024]⟩
abbrev S1024x256 : Shape := ⟨2, ![1024, 256]⟩
abbrev S256x1024 : Shape := ⟨2, ![256, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4x2x5632 : Shape := ⟨3, ![4, 2, 5632]⟩
abbrev S1x256x1024 : Shape := ⟨3, ![1, 256, 1024]⟩
abbrev S1x256x512 : Shape := ⟨3, ![1, 256, 512]⟩
abbrev S1x256x256 : Shape := ⟨3, ![1, 256, 256]⟩
abbrev S1x2x5632 : Shape := ⟨3, ![1, 2, 5632]⟩
abbrev S264x5632 : Shape := ⟨2, ![264, 5632]⟩
abbrev S8x5632 : Shape := ⟨2, ![8, 5632]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S1024x1408 : Shape := ⟨2, ![1024, 1408]⟩
abbrev S256x1408 : Shape := ⟨2, ![256, 1408]⟩
abbrev S2x5632 : Shape := ⟨2, ![2, 5632]⟩
abbrev S1x1408 : Shape := ⟨2, ![1, 1408]⟩
abbrev S1408x1024 : Shape := ⟨2, ![1408, 1024]⟩

abbrev nBuf : Space → Nat
  | .hbm => 17
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x256x256, .bf16⟩
  | .hbm, ⟨4, _⟩ => ⟨S4x256x256, .bf16⟩
  | .hbm, ⟨5, _⟩ => ⟨S1024x1024, .bf16⟩
  | .hbm, ⟨6, _⟩ => ⟨S1x1024, .f32⟩
  | .hbm, ⟨7, _⟩ => ⟨S1024x256, .bf16⟩
  | .hbm, ⟨8, _⟩ => ⟨S256x1024, .bf16⟩
  | .hbm, ⟨9, _⟩ => ⟨S1x1024, .f32⟩
  | .hbm, ⟨10, _⟩ => ⟨S1024x5632, .bf16⟩
  | .hbm, ⟨11, _⟩ => ⟨S3x5632, .f32⟩
  | .hbm, ⟨12, _⟩ => ⟨S1x5632, .f32⟩
  | .hbm, ⟨13, _⟩ => ⟨S2816x1024, .bf16⟩
  | .hbm, ⟨14, _⟩ => ⟨S1x1024, .f32⟩
  | .hbm, ⟨15, _⟩ => ⟨S4x4096x1024, .f32⟩
  | .hbm, ⟨16, _⟩ => ⟨S4x2x5632, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1024x1024, .bf16⟩
  | .local _ .vmem, ⟨11, _⟩ => ⟨S1x1024, .f32⟩
  | .local _ .vmem, ⟨12, _⟩ => ⟨S1024x256, .bf16⟩
  | .local _ .vmem, ⟨13, _⟩ => ⟨S256x1024, .bf16⟩
  | .local _ .vmem, ⟨14, _⟩ => ⟨S1x1024, .f32⟩
  | .local _ .vmem, ⟨15, _⟩ => ⟨S1024x5632, .bf16⟩
  | .local _ .vmem, ⟨16, _⟩ => ⟨S3x5632, .f32⟩
  | .local _ .vmem, ⟨17, _⟩ => ⟨S1x5632, .f32⟩
  | .local _ .vmem, ⟨18, _⟩ => ⟨S2816x1024, .bf16⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x2x5632, .f32⟩
  | .local _ .vmem, ⟨23, _⟩ => ⟨S1x2x5632, .f32⟩
  | .local _ .vmem, ⟨24, _⟩ => ⟨S264x5632, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x5632 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== PostReferenceIdeal.lean ====
abbrev S4x4096x1024 : Shape := ⟨3, ![4, 4096, 1024]⟩
abbrev S4x4096x512 : Shape := ⟨3, ![4, 4096, 512]⟩
abbrev S4x256x256 : Shape := ⟨3, ![4, 256, 256]⟩
abbrev S1024x1024 : Shape := ⟨2, ![1024, 1024]⟩
abbrev S1x1024 : Shape := ⟨2, ![1, 1024]⟩
abbrev S1024x256 : Shape := ⟨2, ![1024, 256]⟩
abbrev S256x1024 : Shape := ⟨2, ![256, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x256 : Shape := ⟨3, ![4, 4096, 256]⟩
abbrev S4x4096x4x64 : Shape := ⟨4, ![4, 4096, 4, 64]⟩
abbrev S4x256x4x64 : Shape := ⟨4, ![4, 256, 4, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x5632 : Shape := ⟨3, ![4, 4096, 5632]⟩
abbrev S4x2x5632 : Shape := ⟨3, ![4, 2, 5632]⟩
abbrev S4x4098x5632 : Shape := ⟨3, ![4, 4098, 5632]⟩
abbrev S5632 : Shape := ⟨1, ![5632]⟩
abbrev S1x1x5632 : Shape := ⟨3, ![1, 1, 5632]⟩
abbrev S4x4096x2816 : Shape := ⟨3, ![4, 4096, 2816]⟩

abbrev nBuf : Space → Nat
  | .hbm => 151
  | .vmem => 0
  | .smem => 0
  | _ => 0

abbrev hbmTy0_0 (i : Nat) : BufTy := match i % 128 with
  | 0 => ⟨S4x4096x1024, .f32⟩
  | 1 => ⟨S4x4096x512, .bf16⟩
  | 2 => ⟨S4x4096x512, .bf16⟩
  | 3 => ⟨S4x256x256, .bf16⟩
  | 4 => ⟨S4x256x256, .bf16⟩
  | 5 => ⟨S1024x1024, .bf16⟩
  | 6 => ⟨S1x1024, .f32⟩
  | 7 => ⟨S1024x256, .bf16⟩
  | 8 => ⟨S256x1024, .bf16⟩
  | 9 => ⟨S1x1024, .f32⟩
  | 10 => ⟨S1024x5632, .bf16⟩
  | 11 => ⟨S3x5632, .f32⟩
  | 12 => ⟨S1x5632, .f32⟩
  | 13 => ⟨S2816x1024, .bf16⟩
  | 14 => ⟨S1x1024, .f32⟩
  | 15 => ⟨S4x4096x512, .f32⟩
  | 16 => ⟨S4x4096x512, .f32⟩
  | 17 => ⟨S4x256x256, .f32⟩
  | 18 => ⟨S4x256x256, .f32⟩
  | 19 => ⟨S1024x1024, .f32⟩
  | 20 => ⟨S1024x256, .f32⟩
  | 21 => ⟨S256x1024, .f32⟩
  | 22 => ⟨S1024x5632, .f32⟩
  | 23 => ⟨S2816x1024, .f32⟩
  | 24 => ⟨S4x4096x1024, .f32⟩
  | 25 => ⟨S4x4096x1024, .f32⟩
  | 26 => ⟨S4x4096x1024, .f32⟩
  | 27 => ⟨S1024, .f32⟩
  | 28 => ⟨S4x4096x1024, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x1024, .f32⟩
  | 40 => ⟨S4x4096x1024, .f32⟩
  | 41 => ⟨S1x1x1024, .f32⟩
  | 42 => ⟨S4x4096x1024, .f32⟩
  | 43 => ⟨S4x4096x1024, .f32⟩
  | 44 => ⟨S4x4096x256, .f32⟩
  | 45 => ⟨S4x4096x4x64, .f32⟩
  | 46 => ⟨S4x256x4x64, .f32⟩
  | 47 => ⟨S4x256x4x64, .f32⟩
  | 48 => ⟨S4x4x4096x256, .f32⟩
  | 49 => ⟨S_, .f32⟩
  | 50 => ⟨S4x4x4096x256, .f32⟩
  | 51 => ⟨S4x4x4096x256, .f32⟩
  | 52 => ⟨S_, .f32⟩
  | 53 => ⟨S4x4x4096, .f32⟩
  | 54 => ⟨S4x4x4096x1, .f32⟩
  | 55 => ⟨S4x4x4096x256, .f32⟩
  | 56 => ⟨S4x4x4096x256, .f32⟩
  | 57 => ⟨S4x4x4096x256, .f32⟩
  | 58 => ⟨S_, .f32⟩
  | 59 => ⟨S4x4x4096, .f32⟩
  | 60 => ⟨S4x4x4096x1, .f32⟩
  | 61 => ⟨S_, .f32⟩
  | 62 => ⟨S4x4x4096x1, .f32⟩
  | 63 => ⟨S4x4x4096x1, .f32⟩
  | 64 => ⟨S4x4x4096x256, .f32⟩
  | 65 => ⟨S4x4x4096x256, .f32⟩
  | 66 => ⟨S4x4x64x4096, .f32⟩
  | 67 => ⟨S4x4096x4x64, .f32⟩
  | 68 => ⟨S4x4096x256, .f32⟩
  | 69 => ⟨S4x4096x1024, .f32⟩
  | 70 => ⟨S4x4096x1024, .f32⟩
  | 71 => ⟨S1024, .f32⟩
  | 72 => ⟨S4x4096x1024, .f32⟩
  | 73 => ⟨S_, .f32⟩
  | 74 => ⟨S4x4096, .f32⟩
  | 75 => ⟨S4x4096x1, .f32⟩
  | 76 => ⟨S_, .f32⟩
  | 77 => ⟨S4x4096x1, .f32⟩
  | 78 => ⟨S4x4096x1, .f32⟩
  | 79 => ⟨S_, .f32⟩
  | 80 => ⟨S4x4096x1, .f32⟩
  | 81 => ⟨S4x4096x1, .f32⟩
  | 82 => ⟨S4x4096x1, .f32⟩
  | 83 => ⟨S4x4096x1024, .f32⟩
  | 84 => ⟨S4x4096x1024, .f32⟩
  | 85 => ⟨S1x1x1024, .f32⟩
  | 86 => ⟨S4x4096x1024, .f32⟩
  | 87 => ⟨S4x4096x1024, .f32⟩
  | 88 => ⟨S4x4096x5632, .f32⟩
  | 89 => ⟨S_, .f32⟩
  | 90 => ⟨S4x2x5632, .f32⟩
  | 91 => ⟨S4x4098x5632, .f32⟩
  | 92 => ⟨S1x5632, .f32⟩
  | 93 => ⟨S5632, .f32⟩
  | 94 => ⟨S4x4096x5632, .f32⟩
  | 95 => ⟨S1x1x5632, .f32⟩
  | 96 => ⟨S4x4096x5632, .f32⟩
  | 97 => ⟨S4x4096x5632, .f32⟩
  | 98 => ⟨S_, .f32⟩
  | 99 => ⟨S4x4096x5632, .f32⟩
  | 100 => ⟨S4x4096x5632, .f32⟩
  | 101 => ⟨S1x5632, .f32⟩
  | 102 => ⟨S5632, .f32⟩
  | 103 => ⟨S4x4096x5632, .f32⟩
  | 104 => ⟨S1x1x5632, .f32⟩
  | 105 => ⟨S4x4096x5632, .f32⟩
  | 106 => ⟨S4x4096x5632, .f32⟩
  | 107 => ⟨S4x4096x5632, .f32⟩
  | 108 => ⟨S1x5632, .f32⟩
  | 109 => ⟨S5632, .f32⟩
  | 110 => ⟨S4x4096x5632, .f32⟩
  | 111 => ⟨S1x1x5632, .f32⟩
  | 112 => ⟨S4x4096x5632, .f32⟩
  | 113 => ⟨S4x4096x5632, .f32⟩
  | 114 => ⟨S4x4096x5632, .f32⟩
  | 115 => ⟨S5632, .f32⟩
  | 116 => ⟨S1x1x5632, .f32⟩
  | 117 => ⟨S4x4096x5632, .f32⟩
  | 118 => ⟨S4x4096x5632, .f32⟩
  | 119 => ⟨S4x4096x2816, .f32⟩
  | 120 => ⟨S4x4096x2816, .f32⟩
  | 121 => ⟨S4x4096x2816, .f32⟩
  | 122 => ⟨S4x4096x2816, .f32⟩
  | 123 => ⟨S_, .f32⟩
  | 124 => ⟨S4x4096x2816, .f32⟩
  | 125 => ⟨S4x4096x2816, .f32⟩
  | 126 => ⟨S_, .f32⟩
  | 127 => ⟨S4x4096x2816, .f32⟩
  | _ => ⟨S4x4096x1024, .f32⟩

abbrev hbmTy0_1 (i : Nat) : BufTy := match i % 128 with
  | 0 => ⟨S4x4096x2816, .f32⟩
  | 1 => ⟨S4x4096x2816, .f32⟩
  | 2 => ⟨S4x4096x2816, .f32⟩
  | 3 => ⟨S4x4096x1024, .f32⟩
  | 4 => ⟨S4x4096x1024, .f32⟩
  | 5 => ⟨S1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x2x5632, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_call0_v5 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_11 : Ref sig .tc := ⟨.hbm, 135, rfl⟩
abbrev main_v100 : Ref sig .tc := ⟨.hbm, 136, rfl⟩
abbrev main_v101 : Ref sig .tc := ⟨.hbm, 137, rfl⟩
abbrev main_cst_12 : Ref sig .tc := ⟨.hbm, 138, rfl⟩
abbrev main_v102 : Ref sig .tc := ⟨.hbm, 139, rfl⟩
abbrev main_v103 : Ref sig .tc := ⟨.hbm, 140, rfl⟩
abbrev main_cst_13 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== PostSoftmaxReferenceIdeal.lean ====
abbrev S4x4096x1024 : Shape := ⟨3, ![4, 4096, 1024]⟩
abbrev S4x4096x512 : Shape := ⟨3, ![4, 4096, 512]⟩
abbrev S4x256x256 : Shape := ⟨3, ![4, 256, 256]⟩
abbrev S1024x1024 : Shape := ⟨2, ![1024, 1024]⟩
abbrev S1x1024 : Shape := ⟨2, ![1, 1024]⟩
abbrev S1024x256 : Shape := ⟨2, ![1024, 256]⟩
abbrev S256x1024 : Shape := ⟨2, ![256, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x256 : Shape := ⟨3, ![4, 4096, 256]⟩
abbrev S4x4096x4x64 : Shape := ⟨4, ![4, 4096, 4, 64]⟩
abbrev S4x256x4x64 : Shape := ⟨4, ![4, 256, 4, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x5632 : Shape := ⟨3, ![4, 4096, 5632]⟩
abbrev S4x2x5632 : Shape := ⟨3, ![4, 2, 5632]⟩
abbrev S4x4098x5632 : Shape := ⟨3, ![4, 4098, 5632]⟩
abbrev S5632 : Shape := ⟨1, ![5632]⟩
abbrev S1x1x5632 : Shape := ⟨3, ![1, 1, 5632]⟩
abbrev S4x4096x2816 : Shape := ⟨3, ![4, 4096, 2816]⟩

abbrev nBuf : Space → Nat
  | .hbm => 151
  | .vmem => 0
  | .smem => 0
  | _ => 0

abbrev hbmTy0_0 (i : Nat) : BufTy := match i % 128 with
  | 0 => ⟨S4x4096x1024, .f32⟩
  | 1 => ⟨S4x4096x512, .bf16⟩
  | 2 => ⟨S4x4096x512, .bf16⟩
  | 3 => ⟨S4x256x256, .bf16⟩
  | 4 => ⟨S4x256x256, .bf16⟩
  | 5 => ⟨S1024x1024, .bf16⟩
  | 6 => ⟨S1x1024, .f32⟩
  | 7 => ⟨S1024x256, .bf16⟩
  | 8 => ⟨S256x1024, .bf16⟩
  | 9 => ⟨S1x1024, .f32⟩
  | 10 => ⟨S1024x5632, .bf16⟩
  | 11 => ⟨S3x5632, .f32⟩
  | 12 => ⟨S1x5632, .f32⟩
  | 13 => ⟨S2816x1024, .bf16⟩
  | 14 => ⟨S1x1024, .f32⟩
  | 15 => ⟨S4x4096x512, .f32⟩
  | 16 => ⟨S4x4096x512, .f32⟩
  | 17 => ⟨S4x256x256, .f32⟩
  | 18 => ⟨S4x256x256, .f32⟩
  | 19 => ⟨S1024x1024, .f32⟩
  | 20 => ⟨S1024x256, .f32⟩
  | 21 => ⟨S256x1024, .f32⟩
  | 22 => ⟨S1024x5632, .f32⟩
  | 23 => ⟨S2816x1024, .f32⟩
  | 24 => ⟨S4x4096x1024, .f32⟩
  | 25 => ⟨S4x4096x1024, .f32⟩
  | 26 => ⟨S4x4096x1024, .f32⟩
  | 27 => ⟨S1024, .f32⟩
  | 28 => ⟨S4x4096x1024, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x1024, .f32⟩
  | 40 => ⟨S4x4096x1024, .f32⟩
  | 41 => ⟨S1x1x1024, .f32⟩
  | 42 => ⟨S4x4096x1024, .f32⟩
  | 43 => ⟨S4x4096x1024, .f32⟩
  | 44 => ⟨S4x4096x256, .f32⟩
  | 45 => ⟨S4x4096x4x64, .f32⟩
  | 46 => ⟨S4x256x4x64, .f32⟩
  | 47 => ⟨S4x256x4x64, .f32⟩
  | 48 => ⟨S4x4x4096x256, .f32⟩
  | 49 => ⟨S_, .f32⟩
  | 50 => ⟨S4x4x4096x256, .f32⟩
  | 51 => ⟨S4x4x4096x256, .f32⟩
  | 52 => ⟨S_, .f32⟩
  | 53 => ⟨S4x4x4096, .f32⟩
  | 54 => ⟨S_, .f32⟩
  | 55 => ⟨S4x4x4096, .f32⟩
  | 56 => ⟨S4x4x4096, .f32⟩
  | 57 => ⟨S4x4x4096x1, .f32⟩
  | 58 => ⟨S4x4x4096x256, .f32⟩
  | 59 => ⟨S4x4x4096x256, .f32⟩
  | 60 => ⟨S4x4x4096x256, .f32⟩
  | 61 => ⟨S_, .f32⟩
  | 62 => ⟨S4x4x4096, .f32⟩
  | 63 => ⟨S4x4x4096x1, .f32⟩
  | 64 => ⟨S4x4x4096x256, .f32⟩
  | 65 => ⟨S4x4x4096x256, .f32⟩
  | 66 => ⟨S4x4x64x4096, .f32⟩
  | 67 => ⟨S4x4096x4x64, .f32⟩
  | 68 => ⟨S4x4096x256, .f32⟩
  | 69 => ⟨S4x4096x1024, .f32⟩
  | 70 => ⟨S4x4096x1024, .f32⟩
  | 71 => ⟨S1024, .f32⟩
  | 72 => ⟨S4x4096x1024, .f32⟩
  | 73 => ⟨S_, .f32⟩
  | 74 => ⟨S4x4096, .f32⟩
  | 75 => ⟨S4x4096x1, .f32⟩
  | 76 => ⟨S_, .f32⟩
  | 77 => ⟨S4x4096x1, .f32⟩
  | 78 => ⟨S4x4096x1, .f32⟩
  | 79 => ⟨S_, .f32⟩
  | 80 => ⟨S4x4096x1, .f32⟩
  | 81 => ⟨S4x4096x1, .f32⟩
  | 82 => ⟨S4x4096x1, .f32⟩
  | 83 => ⟨S4x4096x1024, .f32⟩
  | 84 => ⟨S4x4096x1024, .f32⟩
  | 85 => ⟨S1x1x1024, .f32⟩
  | 86 => ⟨S4x4096x1024, .f32⟩
  | 87 => ⟨S4x4096x1024, .f32⟩
  | 88 => ⟨S4x4096x5632, .f32⟩
  | 89 => ⟨S_, .f32⟩
  | 90 => ⟨S4x2x5632, .f32⟩
  | 91 => ⟨S4x4098x5632, .f32⟩
  | 92 => ⟨S1x5632, .f32⟩
  | 93 => ⟨S5632, .f32⟩
  | 94 => ⟨S4x4096x5632, .f32⟩
  | 95 => ⟨S1x1x5632, .f32⟩
  | 96 => ⟨S4x4096x5632, .f32⟩
  | 97 => ⟨S4x4096x5632, .f32⟩
  | 98 => ⟨S_, .f32⟩
  | 99 => ⟨S4x4096x5632, .f32⟩
  | 100 => ⟨S4x4096x5632, .f32⟩
  | 101 => ⟨S1x5632, .f32⟩
  | 102 => ⟨S5632, .f32⟩
  | 103 => ⟨S4x4096x5632, .f32⟩
  | 104 => ⟨S1x1x5632, .f32⟩
  | 105 => ⟨S4x4096x5632, .f32⟩
  | 106 => ⟨S4x4096x5632, .f32⟩
  | 107 => ⟨S4x4096x5632, .f32⟩
  | 108 => ⟨S1x5632, .f32⟩
  | 109 => ⟨S5632, .f32⟩
  | 110 => ⟨S4x4096x5632, .f32⟩
  | 111 => ⟨S1x1x5632, .f32⟩
  | 112 => ⟨S4x4096x5632, .f32⟩
  | 113 => ⟨S4x4096x5632, .f32⟩
  | 114 => ⟨S4x4096x5632, .f32⟩
  | 115 => ⟨S5632, .f32⟩
  | 116 => ⟨S1x1x5632, .f32⟩
  | 117 => ⟨S4x4096x5632, .f32⟩
  | 118 => ⟨S4x4096x5632, .f32⟩
  | 119 => ⟨S4x4096x2816, .f32⟩
  | 120 => ⟨S4x4096x2816, .f32⟩
  | 121 => ⟨S4x4096x2816, .f32⟩
  | 122 => ⟨S4x4096x2816, .f32⟩
  | 123 => ⟨S_, .f32⟩
  | 124 => ⟨S4x4096x2816, .f32⟩
  | 125 => ⟨S4x4096x2816, .f32⟩
  | 126 => ⟨S_, .f32⟩
  | 127 => ⟨S4x4096x2816, .f32⟩
  | _ => ⟨S4x4096x1024, .f32⟩

abbrev hbmTy0_1 (i : Nat) : BufTy := match i % 128 with
  | 0 => ⟨S4x4096x2816, .f32⟩
  | 1 => ⟨S4x4096x2816, .f32⟩
  | 2 => ⟨S4x4096x2816, .f32⟩
  | 3 => ⟨S4x4096x1024, .f32⟩
  | 4 => ⟨S4x4096x1024, .f32⟩
  | 5 => ⟨S1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x2x5632, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_call0_v5 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_11 : Ref sig .tc := ⟨.hbm, 135, rfl⟩
abbrev main_v100 : Ref sig .tc := ⟨.hbm, 136, rfl⟩
abbrev main_v101 : Ref sig .tc := ⟨.hbm, 137, rfl⟩
abbrev main_cst_12 : Ref sig .tc := ⟨.hbm, 138, rfl⟩
abbrev main_v102 : Ref sig .tc := ⟨.hbm, 139, rfl⟩
abbrev main_v103 : Ref sig .tc := ⟨.hbm, 140, rfl⟩
abbrev main_cst_13 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== InprojSample.lean ====
abbrev S128x1x1024 : Shape := ⟨3, ![128, 1, 1024]⟩
abbrev S1x1024 : Shape := ⟨2, ![1, 1024]⟩
abbrev S1x1024x3144 : Shape := ⟨3, ![1, 1024, 3144]⟩
abbrev S1x128x1024 : Shape := ⟨3, ![1, 128, 1024]⟩
abbrev S1024 : Shape := ⟨1, ![1024]⟩
abbrev S1024x3144 : Shape := ⟨2, ![1024, 3144]⟩
abbrev S1024x2048 : Shape := ⟨2, ![1024, 2048]⟩
abbrev S1024x1024 : Shape := ⟨2, ![1024, 1024]⟩
abbrev S1024x72 : Shape := ⟨2, ![1024, 72]⟩
abbrev S_ : Shape := ⟨0, ![]⟩
abbrev S1024x56 : Shape := ⟨2, ![1024, 56]⟩
abbrev S1024x3200 : Shape := ⟨2, ![1024, 3200]⟩
abbrev S1x512x128 : Shape := ⟨3, ![1, 512, 128]⟩
abbrev S1x64x128 : Shape := ⟨3, ![1, 64, 128]⟩
abbrev S1x128x128 : Shape := ⟨3, ![1, 128, 128]⟩
abbrev S1x128x512 : Shape := ⟨3, ![1, 128, 512]⟩
abbrev S1x128x64 : Shape := ⟨3, ![1, 128, 64]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S512x128 : Shape := ⟨2, ![512, 128]⟩
abbrev S1024x128 : Shape := ⟨2, ![1024, 128]⟩
abbrev S128x128 : Shape := ⟨2, ![128, 128]⟩
abbrev S64x128 : Shape := ⟨2, ![64, 128]⟩
abbrev S128x64 : Shape := ⟨2, ![128, 64]⟩

abbrev nBuf : Space → Nat
  | .hbm => 24
  | .vmem => 13
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x3144, .f32⟩
  | .hbm, ⟨3, _⟩ => ⟨S1x128x1024, .f32⟩
  | .hbm, ⟨4, _⟩ => ⟨S1024, .f32⟩
  | .hbm, ⟨5, _⟩ => ⟨S1x1024, .f32⟩
  | .hbm, ⟨6, _⟩ => ⟨S1024x3144, .f32⟩
  | .hbm, ⟨7, _⟩ => ⟨S1024x2048, .f32⟩
  | .hbm, ⟨8, _⟩ => ⟨S1024x1024, .f32⟩
  | .hbm, ⟨9, _⟩ => ⟨S1024x72, .f32⟩
  | .hbm, ⟨10, _⟩ => ⟨S_, .f32⟩
  | .hbm, ⟨11, _⟩ => ⟨S1024x56, .f32⟩
  | .hbm, ⟨12, _⟩ => ⟨S1024x3200, .f32⟩
  | .hbm, ⟨13, _⟩ => ⟨S1024x3200, .bf16⟩
  | .hbm, ⟨14, _⟩ => ⟨S1x512x128, .f32⟩
  | .hbm, ⟨15, _⟩ => ⟨S1x512x128, .f32⟩
  | .hbm, ⟨16, _⟩ => ⟨S1x64x128, .f32⟩
  | .hbm, ⟨17, _⟩ => ⟨S1x128x128, .f32⟩
  | .hbm, ⟨18, _⟩ => ⟨S1x128x512, .bf16⟩
  | .hbm, ⟨19, _⟩ => ⟨S1x128x512, .bf16⟩
  | .hbm, ⟨20, _⟩ => ⟨S1x512x128, .bf16⟩
  | .hbm, ⟨21, _⟩ => ⟨S1x128x512, .bf16⟩
  | .hbm, ⟨22, _⟩ => ⟨S1x128x64, .bf16⟩
  | .hbm, ⟨23, _⟩ => ⟨S1x128x512, .f32⟩
  | .local _ .vmem, ⟨0, _⟩ => ⟨S1x128x1024, .f32⟩
  | .local _ .vmem, ⟨1, _⟩ => ⟨S1x1024, .f32⟩
  | .local _ .vmem, ⟨2, _⟩ => ⟨S1024x3200, .bf16⟩
  | .local _ .vmem, ⟨3, _⟩ => ⟨S1x512x128, .f32⟩
  | .local _ .vmem, ⟨4, _⟩ => ⟨S1x512x128, .f32⟩
  | .local _ .vmem, ⟨5, _⟩ => ⟨S1x64x128, .f32⟩
  | .local _ .vmem, ⟨6, _⟩ => ⟨S1x128x128, .f32⟩
  | .local _ .vmem, ⟨7, _⟩ => ⟨S1x128x512, .bf16⟩
  | .local _ .vmem, ⟨8, _⟩ => ⟨S1x128x512, .bf16⟩
  | .local _ .vmem, ⟨9, _⟩ => ⟨S1x512x128, .bf16⟩
  | .local _ .vmem, ⟨10, _⟩ => ⟨S1x128x512, .bf16⟩
  | .local _ .vmem, ⟨11, _⟩ => ⟨S1x128x64, .bf16⟩
  | .local _ .vmem, ⟨12, _⟩ => ⟨S1x128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v10_4 : Ref sig .tc := ⟨.hbm, 18, rfl⟩
abbrev main_v10_5 : Ref sig .tc := ⟨.hbm, 19, rfl⟩
abbrev main_v10_6 : Ref sig .tc := ⟨.hbm, 20, rfl⟩
abbrev main_v10_7 : Ref sig .tc := ⟨.hbm, 21, rfl⟩
abbrev main_v10_8 : Ref sig .tc := ⟨.hbm, 22, rfl⟩
abbrev main_v10_9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]
-- ==== InprojSampleReferenceIdeal.lean ====
abbrev S128x1x1024 : Shape := ⟨3, ![128, 1, 1024]⟩
abbrev S1x1024 : Shape := ⟨2, ![1, 1024]⟩
abbrev S1x1024x3144 : Shape := ⟨3, ![1, 1024, 3144]⟩
abbrev S1x128x1024 : Shape := ⟨3, ![1, 128, 1024]⟩
abbrev S1024 : Shape := ⟨1, ![1024]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩
abbrev S1024x3144 : Shape := ⟨2, ![1024, 3144]⟩
abbrev S1x128x3144 : Shape := ⟨3, ![1, 128, 3144]⟩
abbrev S1x128x512 : Shape := ⟨3, ![1, 128, 512]⟩
abbrev S1x128x64 : Shape := ⟨3, ![1, 128, 64]⟩
abbrev S1x128x8 : Shape := ⟨3, ![1, 128, 8]⟩
abbrev S1x128x56 : Shape := ⟨3, ![1, 128, 56]⟩
abbrev S1x128x128 : Shape := ⟨3, ![1, 128, 128]⟩
abbrev S1x512x128 : Shape := ⟨3, ![1, 512, 128]⟩
abbrev S1x64x128 : Shape := ⟨3, ![1, 64, 128]⟩

abbrev nBuf : Space → Nat
  | .hbm => 59
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x3144, .f32⟩
  | .hbm, ⟨3, _⟩ => ⟨S1x128x1024, .f32⟩
  | .hbm, ⟨4, _⟩ => ⟨S1024, .f32⟩
  | .hbm, ⟨5, _⟩ => ⟨S1x128x1024, .f32⟩
  | .hbm, ⟨6, _⟩ => ⟨S_, .f32⟩
  | .hbm, ⟨7, _⟩ => ⟨S1x128, .f32⟩
  | .hbm, ⟨8, _⟩ => ⟨S1x128x1, .f32⟩
  | .hbm, ⟨9, _⟩ => ⟨S_, .f32⟩
  | .hbm, ⟨10, _⟩ => ⟨S1x128x1, .f32⟩
  | .hbm, ⟨11, _⟩ => ⟨S1x128x1, .f32⟩
  | .hbm, ⟨12, _⟩ => ⟨S_, .f32⟩
  | .hbm, ⟨13, _⟩ => ⟨S1x128x1, .f32⟩
  | .hbm, ⟨14, _⟩ => ⟨S1x128x1, .f32⟩
  | .hbm, ⟨15, _⟩ => ⟨S1x128x1, .f32⟩
  | .hbm, ⟨16, _⟩ => ⟨S1x128x1024, .f32⟩
  | .hbm, ⟨17, _⟩ => ⟨S1x128x1024, .f32⟩
  | .hbm, ⟨18, _⟩ => ⟨S1x1x1024, .f32⟩
  | .hbm, ⟨19, _⟩ => ⟨S1x128x1024, .f32⟩
  | .hbm, ⟨20, _⟩ => ⟨S1x128x1024, .f32⟩
  | .hbm, ⟨21, _⟩ => ⟨S1024x3144, .f32⟩
  | .hbm, ⟨22, _⟩ => ⟨S1x128x3144, .f32⟩
  | .hbm, ⟨23, _⟩ => ⟨S1x128x512, .f32⟩
  | .hbm, ⟨24, _⟩ => ⟨S1x128x512, .f32⟩
  | .hbm, ⟨25, _⟩ => ⟨S1x128x512, .f32⟩
  | .hbm, ⟨26, _⟩ => ⟨S1x128x512, .f32⟩
  | .hbm, ⟨27, _⟩ => ⟨S1x128x64, .f32⟩
  | .hbm, ⟨28, _⟩ => ⟨S1x128x8, .f32⟩
  | .hbm, ⟨29, _⟩ => ⟨S1x128x1024, .f32⟩
  | .hbm, ⟨30, _⟩ => ⟨S1x128x512, .f32⟩
  | .hbm, ⟨31, _⟩ => ⟨S1x128x512, .f32⟩
  | .hbm, ⟨32, _⟩ => ⟨S1x128x512, .f32⟩
  | .hbm, ⟨33, _⟩ => ⟨S1x128x512, .f32⟩
  | .hbm, ⟨34, _⟩ => ⟨S_, .f32⟩
  | .hbm, ⟨35, _⟩ => ⟨S1x128x512, .f32⟩
  | .hbm, ⟨36, _⟩ => ⟨S1x128x512, .f32⟩
  | .hbm, ⟨37, _⟩ => ⟨S_, .f32⟩
  | .hbm, ⟨38, _⟩ => ⟨S1x128x512, .f32⟩
  | .hbm, ⟨39, _⟩ => ⟨S1x128x512, .f32⟩
  | .hbm, ⟨40, _⟩ => ⟨S1x128x512, .f32⟩
  | .hbm, ⟨41, _⟩ => ⟨S_, .f32⟩
  | .hbm, ⟨42, _⟩ => ⟨S1x128x56, .f32⟩
  | .hbm, ⟨43, _⟩ => ⟨S1x128x128, .f32⟩
  | .hbm, ⟨44, _⟩ => ⟨S1x512x128, .f32⟩
  | .hbm, ⟨45, _⟩ => ⟨S1x512x128, .f32⟩
  | .hbm, ⟨46, _⟩ => ⟨S1x64x128, .f32⟩
  | .hbm, ⟨47, _⟩ => ⟨S_, .f32⟩
  | .hbm, ⟨48, _⟩ => ⟨S1x128x512, .f32⟩
  | .hbm, ⟨49, _⟩ => ⟨S1x128x512, .f32⟩
  | .hbm, ⟨50, _⟩ => ⟨S1x128x512, .bf16⟩
  | .hbm, ⟨51, _⟩ => ⟨S1x128x512, .bf16⟩
  | .hbm, ⟨52, _⟩ => ⟨S1x512x128, .f32⟩
  | .hbm, ⟨53, _⟩ => ⟨S1x512x128, .bf16⟩
  | .hbm, ⟨54, _⟩ => ⟨S_, .f32⟩
  | .hbm, ⟨55, _⟩ => ⟨S1x128x512, .f32⟩
  | .hbm, ⟨56, _⟩ => ⟨S1x128x512, .f32⟩
  | .hbm, ⟨57, _⟩ => ⟨S1x128x512, .bf16⟩
  | .hbm, ⟨58, _⟩ => ⟨S1x128x64, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== FfnSample.lean ====
abbrev S128x1024 : Shape := ⟨2, ![128, 1024]⟩
abbrev S128x256 : Shape := ⟨2, ![128, 256]⟩
abbrev S128x2x5632 : Shape := ⟨3, ![128, 2, 5632]⟩
abbrev S256x1024 : Shape := ⟨2, ![256, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S128x1x5632 : Shape := ⟨3, ![128, 1, 5632]⟩
abbrev S128x5632 : Shape := ⟨2, ![128, 5632]⟩
abbrev S128 : Shape := ⟨1, ![128]⟩
abbrev S128x1 : Shape := ⟨2, ![128, 1]⟩
abbrev S1024x1408 : Shape := ⟨2, ![1024, 1408]⟩
abbrev S128x1408 : Shape := ⟨2, ![128, 1408]⟩
abbrev S1x1408 : Shape := ⟨2, ![1, 1408]⟩
abbrev S1408x1024 : Shape := ⟨2, ![1408, 1024]⟩

abbrev nBuf : Space → Nat
  | .hbm => 16
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x2x5632, .f32⟩
  | .hbm, ⟨3, _⟩ => ⟨S256x1024, .bf16⟩
  | .hbm, ⟨4, _⟩ => ⟨S1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S128x1x5632, .f32⟩
  | .hbm, ⟨11, _⟩ => ⟨S128x5632, .f32⟩
  | .hbm, ⟨12, _⟩ => ⟨S128x1x5632, .f32⟩
  | .hbm, ⟨13, _⟩ => ⟨S128x5632, .f32⟩
  | .hbm, ⟨14, _⟩ => ⟨S128x1024, .f32⟩
  | .hbm, ⟨15, _⟩ => ⟨S128x5632, .f32⟩
  | .local _ .vmem, ⟨0, _⟩ => ⟨S128x1024, .f32⟩
  | .local _ .vmem, ⟨1, _⟩ => ⟨S128x256, .f32⟩
  | .local _ .vmem, ⟨2, _⟩ => ⟨S128x5632, .f32⟩
  | .local _ .vmem, ⟨3, _⟩ => ⟨S128x5632, .f32⟩
  | .local _ .vmem, ⟨4, _⟩ => ⟨S256x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S128x1024, .f32⟩
  | .local _ .vmem, ⟨12, _⟩ => ⟨S128x5632, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnSampleReferenceIdeal.lean ====
abbrev S128x1024 : Shape := ⟨2, ![128, 1024]⟩
abbrev S128x256 : Shape := ⟨2, ![128, 256]⟩
abbrev S128x2x5632 : Shape := ⟨3, ![128, 2, 5632]⟩
abbrev S256x1024 : Shape := ⟨2, ![256, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S128x1x1024 : Shape := ⟨3, ![128, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x3x5632 : Shape := ⟨3, ![128, 3, 5632]⟩
abbrev S5632 : Shape := ⟨1, ![5632]⟩
abbrev S1x1x5632 : Shape := ⟨3, ![1, 1, 5632]⟩
abbrev S128x1x2816 : Shape := ⟨3, ![128, 1, 2816]⟩
abbrev S128x5632 : Shape := ⟨2, ![128, 5632]⟩

abbrev nBuf : Space → Nat
  | .hbm => 96
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x2x5632, .f32⟩
  | .hbm, ⟨3, _⟩ => ⟨S256x1024, .bf16⟩
  | .hbm, ⟨4, _⟩ => ⟨S1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S256x1024, .f32⟩
  | .hbm, ⟨11, _⟩ => ⟨S1024x5632, .f32⟩
  | .hbm, ⟨12, _⟩ => ⟨S2816x1024, .f32⟩
  | .hbm, ⟨13, _⟩ => ⟨S128x1x1024, .f32⟩
  | .hbm, ⟨14, _⟩ => ⟨S128x1024, .f32⟩
  | .hbm, ⟨15, _⟩ => ⟨S128x1x1024, .f32⟩
  | .hbm, ⟨16, _⟩ => ⟨S128x1x1024, .f32⟩
  | .hbm, ⟨17, _⟩ => ⟨S1024, .f32⟩
  | .hbm, ⟨18, _⟩ => ⟨S128x1x1024, .f32⟩
  | .hbm, ⟨19, _⟩ => ⟨S_, .f32⟩
  | .hbm, ⟨20, _⟩ => ⟨S128x1, .f32⟩
  | .hbm, ⟨21, _⟩ => ⟨S128x1x1, .f32⟩
  | .hbm, ⟨22, _⟩ => ⟨S_, .f32⟩
  | .hbm, ⟨23, _⟩ => ⟨S128x1x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S128x1x1, .f32⟩
  | .hbm, ⟨29, _⟩ => ⟨S128x1x1024, .f32⟩
  | .hbm, ⟨30, _⟩ => ⟨S128x1x1024, .f32⟩
  | .hbm, ⟨31, _⟩ => ⟨S1x1x1024, .f32⟩
  | .hbm, ⟨32, _⟩ => ⟨S128x1x1024, .f32⟩
  | .hbm, ⟨33, _⟩ => ⟨S128x1x1024, .f32⟩
  | .hbm, ⟨34, _⟩ => ⟨S128x1x5632, .f32⟩
  | .hbm, ⟨35, _⟩ => ⟨S128x3x5632, .f32⟩
  | .hbm, ⟨36, _⟩ => ⟨S1x5632, .f32⟩
  | .hbm, ⟨37, _⟩ => ⟨S5632, .f32⟩
  | .hbm, ⟨38, _⟩ => ⟨S128x1x5632, .f32⟩
  | .hbm, ⟨39, _⟩ => ⟨S1x1x5632, .f32⟩
  | .hbm, ⟨40, _⟩ => ⟨S128x1x5632, .f32⟩
  | .hbm, ⟨41, _⟩ => ⟨S128x1x5632, .f32⟩
  | .hbm, ⟨42, _⟩ => ⟨S_, .f32⟩
  | .hbm, ⟨43, _⟩ => ⟨S128x1x5632, .f32⟩
  | .hbm, ⟨44, _⟩ => ⟨S128x1x5632, .f32⟩
  | .hbm, ⟨45, _⟩ => ⟨S1x5632, .f32⟩
  | .hbm, ⟨46, _⟩ => ⟨S5632, .f32⟩
  | .hbm, ⟨47, _⟩ => ⟨S128x1x5632, .f32⟩
  | .hbm, ⟨48, _⟩ => ⟨S1x1x5632, .f32⟩
  | .hbm, ⟨49, _⟩ => ⟨S128x1x5632, .f32⟩
  | .hbm, ⟨50, _⟩ => ⟨S128x1x5632, .f32⟩
  | .hbm, ⟨51, _⟩ => ⟨S128x1x5632, .f32⟩
  | .hbm, ⟨52, _⟩ => ⟨S1x5632, .f32⟩
  | .hbm, ⟨53, _⟩ => ⟨S5632, .f32⟩
  | .hbm, ⟨54, _⟩ => ⟨S128x1x5632, .f32⟩
  | .hbm, ⟨55, _⟩ => ⟨S1x1x5632, .f32⟩
  | .hbm, ⟨56, _⟩ => ⟨S128x1x5632, .f32⟩
  | .hbm, ⟨57, _⟩ => ⟨S128x1x5632, .f32⟩
  | .hbm, ⟨58, _⟩ => ⟨S128x1x5632, .f32⟩
  | .hbm, ⟨59, _⟩ => ⟨S5632, .f32⟩
  | .hbm, ⟨60, _⟩ => ⟨S1x1x5632, .f32⟩
  | .hbm, ⟨61, _⟩ => ⟨S128x1x5632, .f32⟩
  | .hbm, ⟨62, _⟩ => ⟨S128x1x5632, .f32⟩
  | .hbm, ⟨63, _⟩ => ⟨S128x1x2816, .f32⟩
  | .hbm, ⟨64, _⟩ => ⟨S128x1x2816, .f32⟩
  | .hbm, ⟨65, _⟩ => ⟨S128x1x2816, .f32⟩
  | .hbm, ⟨66, _⟩ => ⟨S128x1x2816, .f32⟩
  | .hbm, ⟨67, _⟩ => ⟨S_, .f32⟩
  | .hbm, ⟨68, _⟩ => ⟨S128x1x2816, .f32⟩
  | .hbm, ⟨69, _⟩ => ⟨S128x1x2816, .f32⟩
  | .hbm, ⟨70, _⟩ => ⟨S_, .f32⟩
  | .hbm, ⟨71, _⟩ => ⟨S128x1x2816, .f32⟩
  | .hbm, ⟨72, _⟩ => ⟨S128x1x2816, .f32⟩
  | .hbm, ⟨73, _⟩ => ⟨S128x1x2816, .f32⟩
  | .hbm, ⟨74, _⟩ => ⟨S128x1x2816, .f32⟩
  | .hbm, ⟨75, _⟩ => ⟨S128x1x1024, .f32⟩
  | .hbm, ⟨76, _⟩ => ⟨S128x1x1024, .f32⟩
  | .hbm, ⟨77, _⟩ => ⟨S1024, .f32⟩
  | .hbm, ⟨78, _⟩ => ⟨S128x1x1024, .f32⟩
  | .hbm, ⟨79, _⟩ => ⟨S_, .f32⟩
  | .hbm, ⟨80, _⟩ => ⟨S128x1, .f32⟩
  | .hbm, ⟨81, _⟩ => ⟨S128x1x1, .f32⟩
  | .hbm, ⟨82, _⟩ => ⟨S_, .f32⟩
  | .hbm, ⟨83, _⟩ => ⟨S128x1x1, .f32⟩
  | .hbm, ⟨84, _⟩ => ⟨S128x1x1, .f32⟩
  | .hbm, ⟨85, _⟩ => ⟨S_, .f32⟩
  | .hbm, ⟨86, _⟩ => ⟨S128x1x1, .f32⟩
  | .hbm, ⟨87, _⟩ => ⟨S128x1x1, .f32⟩
  | .hbm, ⟨88, _⟩ => ⟨S128x1x1, .f32⟩
  | .hbm, ⟨89, _⟩ => ⟨S128x1x1024, .f32⟩
  | .hbm, ⟨90, _⟩ => ⟨S128x1x1024, .f32⟩
  | .hbm, ⟨91, _⟩ => ⟨S1x1x1024, .f32⟩
  | .hbm, ⟨92, _⟩ => ⟨S128x1x1024, .f32⟩
  | .hbm, ⟨93, _⟩ => ⟨S128x1x1024, .f32⟩
  | .hbm, ⟨94, _⟩ => ⟨S128x1024, .f32⟩
  | .hbm, ⟨95, _⟩ => ⟨S128x5632, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_3 : Ref sig .tc := ⟨.hbm, 79, rfl⟩
abbrev main_v57 : Ref sig .tc := ⟨.hbm, 80, rfl⟩
abbrev main_v58 : Ref sig .tc := ⟨.hbm, 81, rfl⟩
abbrev main_cst_4 : Ref sig .tc := ⟨.hbm, 82, rfl⟩
abbrev main_v59 : Ref sig .tc := ⟨.hbm, 83, rfl⟩
abbrev main_v60 : Ref sig .tc := ⟨.hbm, 84, rfl⟩
abbrev main_cst_5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Proof.MemRef.lean ====
/- The reference `MemKvReferenceIdeal`, stage by stage: each definition is one stage of its result as a function of the arguments. -/
module

public import proofs.«01_k».proof.Proof.Gen.MemKvReferenceIdeal
public import proofs.«01_k».proof.Proof.Gen.MemKvReferenceIdeal.Run
public import Idealize.ShloMosaic.Lib.Pipeline.ValueKit

@[expose] public section

set_option maxRecDepth 16384

noncomputable section

namespace Cert.MemRef

open Cert.MemKvReferenceIdeal Cert.MemKvReferenceIdeal.Gen
open Idealize.ShloMosaic Idealize.ShloMosaic.TcCoe Idealize.SL.Sem

/-- The normalised memory rows. -/
def refNorm (a0 : FVec Ideal S4x256x1024 .f32) (a1 : FVec Ideal S1x1024 .f32) : FVec Ideal S4x256x1024 .f32 :=
  mulf (mulf a0 (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf a0 a0) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast S1024 a1 shapeCasts_S1x1024_S1024)))

/-- The projection of the normalised rows: keys and values side by side. -/
def refKV (a0 : FVec Ideal S4x256x1024 .f32) (a1 : FVec Ideal S1x1024 .f32) (a2 : FVec Ideal S1x1024x512 .f32) : FVec Ideal S4x256x512 .f32 :=
  Host.dotGeneral dot_S4x256x1024_S1024x512_S4x256x512_2_0_01_1_n_n none (refNorm a0 a1) (shapeCast S1024x512 a2 shapeCasts_S1x1024x512_S1024x512)

/-- The keys. -/
def refK (a0 : FVec Ideal S4x256x1024 .f32) (a1 : FVec Ideal S1x1024 .f32) (a2 : FVec Ideal S1x1024x512 .f32) : FVec Ideal S4x256x256 .f32 :=
  extractStridedSlice S4x256x256 ![0, 0, 0] (refKV a0 a1 a2) slices_S4x256x512_S4x256x256_0_0_0

/-- The values. -/
def refV (a0 : FVec Ideal S4x256x1024 .f32) (a1 : FVec Ideal S1x1024 .f32) (a2 : FVec Ideal S1x1024x512 .f32) : FVec Ideal S4x256x256 .f32 :=
  extractStridedSlice S4x256x256 ![0, 0, 256] (refKV a0 a1 a2) slices_S4x256x512_S4x256x256_0_0_256

/-- The keys in the short format. -/
def refKb (a0 : FVec Ideal S4x256x1024 .f32) (a1 : FVec Ideal S1x1024 .f32) (a2 : FVec Ideal S1x1024x512 .f32) : FVec Ideal S4x256x256 .bf16 :=
  truncf .bf16 (refK a0 a1 a2) bitsLt_bf16_f32

/-- The values in the short format. -/
def refVb (a0 : FVec Ideal S4x256x1024 .f32) (a1 : FVec Ideal S1x1024 .f32) (a2 : FVec Ideal S1x1024x512 .f32) : FVec Ideal S4x256x256 .bf16 :=
  truncf .bf16 (refV a0 a1 a2) bitsLt_bf16_f32

end Cert.MemRef

end
-- ==== Proof.MemValue.lean ====
/- The memory keys and values: what the kernel leaves in its four result arrays is the reference's term. -/
module

public import proofs.«01_k».proof.Proof.Gen.MemKvIdeal.Frame
public import proofs.«01_k».proof.Proof.MemRef
public import Idealize.ShloMosaic.Lib.Pipeline.ValueKit

@[expose] public section

set_option maxRecDepth 16384

noncomputable section

namespace Cert.MemValue

open Cert.MemKvIdeal Cert.MemKvIdeal.Gen Cert.MemRef
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0, 0]
    ∧ win0_1.index t = ![0, 0]
    ∧ win0_2.index t = ![0, 0]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

theorem point_k (c : Dev nD) (t : Fin cfg0.N) (y) :
    k0_pay5 (iblk m c 0 t) (iblk m c 1 t) (iblk m c 2 t) y
      = refK (m ((c : Thread nD τ).loc main_arg0)) (m ((c : Thread nD τ).loc main_arg1)) (m ((c : Thread nD τ).loc
        main_arg2)) (((cfg0.win 3).blk t).view.emb y) := by
  pointwise [k0_pay5, refK, refKV, refNorm]
  blk_point [iblk, V, idx t]

theorem final_k (c : Dev nD) : (dats m 0 c).arrAt 3 (cfgs 0).N
    = refK (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_k m c t y

theorem point_v (c : Dev nD) (t : Fin cfg0.N) (y) :
    k0_pay6 (iblk m c 0 t) (iblk m c 1 t) (iblk m c 2 t) y
      = refV (m ((c : Thread nD τ).loc main_arg0)) (m ((c : Thread nD τ).loc main_arg1)) (m ((c : Thread nD τ).loc main_arg2)) (((cfg0.win 4).blk t).view.emb y) := by
  pointwise [k0_pay6, refV, refKV, refNorm]
  blk_point [iblk, V, idx t]

theorem final_v (c : Dev nD) : (dats m 0 c).arrAt 4 (cfgs 0).N
    = refV (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_v m c t y

theorem point_kb (c : Dev nD) (t : Fin cfg0.N) (y) :
    k0_pay7 (iblk m c 0 t) (iblk m c 1 t) (iblk m c 2 t) y
      = refKb (m ((c : Thread nD τ).loc main_arg0)) (m ((c : Thread nD τ).loc main_arg1)) (m ((c : Thread nD τ).loc main_arg2)) (((cfg0.win 5).blk t).view.emb y) := by
  pointwise [k0_pay7, refKb, refK, refKV, refNorm]
  blk_point [iblk, V, idx t]

theorem final_kb (c : Dev nD) : (dats m 0 c).arrAt 5 (cfgs 0).N
    = refKb (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_kb m c t y

theorem point_vb (c : Dev nD) (t : Fin cfg0.N) (y) :
    k0_pay1 (k0_pay8 (iblk m c 0 t) (iblk m c 1 t) (iblk m c 2 t)) y
      = refVb (m ((c : Thread nD τ).loc main_arg0)) (m ((c : Thread nD τ).loc main_arg1)) (m ((c : Thread nD τ).loc main_arg2)) (((cfg0.win 6).blk t).view.emb y) := by
  pointwise [k0_pay1, k0_pay8, refVb, refV, refKV, refNorm]
  blk_point [iblk, V, idx t]

theorem final_vb (c : Dev nD) : (dats m 0 c).arrAt 6 (cfgs 0).N
    = refVb (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_vb m c t y

end Cert.MemValue

end
-- ==== Proof.MemClaim.lean ====
/- The call `MemKv`: the run of its reference with the results named, the reference's frame, and the equality of the results
   of the kernel and of the reference over the extended reals. -/
module

public import proofs.«01_k».proof.Defs
public import proofs.«01_k».proof.Proof.Gen.MemKvIdeal.Frame
public import proofs.«01_k».proof.Proof.Gen.MemKvReferenceIdeal.Run
public import proofs.«01_k».proof.Proof.MemValue
public import Idealize.ShloMosaic.Lib.Claim

@[expose] public section

set_option maxRecDepth 16384

noncomputable section

namespace Cert.MemKvClaim

open Idealize.ShloMosaic Idealize.SL.Sem

section

open Cert.MemKvReferenceIdeal Cert.MemRef
open Idealize.ShloMosaic.TcCoe

set_option maxHeartbeats 1600000 in
/-- Every run of the reference ends with each result at the function of the arguments that `MemRef` names, and with the
    arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v16) = refK (m ((c.tc : Thread nD τ).loc main_arg0)) (m ((c.tc : Thread nD τ).loc main_arg1)) (m ((c.tc : Thread nD τ).loc main_arg2))
      ∧ r.2.mem ((c.tc : Thread nD τ).loc main_v17) = refV (m ((c.tc : Thread nD τ).loc main_arg0)) (m ((c.tc : Thread nD τ).loc main_arg1)) (m ((c.tc : Thread nD τ).loc main_arg2))
      ∧ r.2.mem ((c.tc : Thread nD τ).loc main_v18) = refKb (m ((c.tc : Thread nD τ).loc main_arg0)) (m ((c.tc : Thread nD τ).loc main_arg1)) (m ((c.tc : Thread nD τ).loc main_arg2))
      ∧ r.2.mem ((c.tc : Thread nD τ).loc main_v19) = refVb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans rfl, (h c).2.1.trans rfl, (h c).2.2.1.trans rfl, (h c).2.2.2.1.trans rfl, (h c).2.2.2.2⟩) (Cert.MemKvReferenceIdeal.Value.run m g)

/-- The reference runs, leaves its arguments unchanged and ends with every counter at zero. -/
theorem reference_frame : Cert.quiescent_MemKvReferenceIdeal := fun m g _ =>
  (θ_run _ _ _).mono (fun r h => ⟨fun c => (h c).2.2.2.2, Idealize.ShloMosaic.sem_eq_zero_of_no_sems (by decide) r.2⟩)
    (Cert.MemKvReferenceIdeal.Value.run m g)

end

open Cert.MemValue in
set_option maxHeartbeats 1600000 in
/-- Over the extended reals the call's results are the reference's. -/
theorem algebraic : Cert.algebraic_MemKvIdeal_MemKvReferenceIdeal := by
  pair_intro
  · run_from Cert.MemKvIdeal.Gen.run_main m g
  · run_from reference_run m' g'
    · exact (final_k m c).symm
    · exact (final_v m c).symm
    · exact (final_kb m c).symm
    · exact (final_vb m c).symm

end Cert.MemKvClaim

end
-- ==== Proof.InprojRef.lean ====
/- The reference `InprojReferenceIdeal`, stage by stage: each definition is one stage of its result as a function of the arguments. -/
module

public import proofs.«01_k».proof.Proof.Gen.InprojReferenceIdeal
public import proofs.«01_k».proof.Proof.Gen.InprojReferenceIdeal.Run
public import Idealize.ShloMosaic.Lib.Pipeline.ValueKit

@[expose] public section

set_option maxRecDepth 16384

noncomputable section

namespace Cert.InprojRef

open Cert.InprojReferenceIdeal Cert.InprojReferenceIdeal.Gen
open Idealize.ShloMosaic Idealize.ShloMosaic.TcCoe Idealize.SL.Sem

/-- The normalised input rows. -/
def refNorm (a0 : FVec Ideal S4x4096x1024 .f32) (a1 : FVec Ideal S1x1024 .f32) : FVec Ideal S4x4096x1024 .f32 :=
  mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 a1 shapeCasts_S1x1024_S1024)))

/-- The projection of the normalised rows by the whole input weight. -/
def refProj (a0 : FVec Ideal S4x4096x1024 .f32) (a1 : FVec Ideal S1x1024 .f32) (a2 : FVec Ideal S1x1024x3144 .f32) : FVec Ideal S4x4096x3144 .f32 :=
  Host.dotGeneral dot_S4x4096x1024_S1024x3144_S4x4096x3144_2_0_01_1_n_n none (refNorm a0 a1) (shapeCast S1024x3144 a2 shapeCasts_S1x1024x3144_S1024x3144)

/-- The gated linear unit: one half times the sigmoid of the other. -/
def refU (a0 : FVec Ideal S4x4096x1024 .f32) (a1 : FVec Ideal S1x1024 .f32) (a2 : FVec Ideal S1x1024x3144 .f32) : FVec Ideal S4x4096x512 .f32 :=
  mulf (extractStridedSlice S4x4096x512 ![0, 0, 0] (extractStridedSlice S4x4096x1024 ![0, 0, 2120] (refProj a0 a1 a2) slices_S4x4096x3144_S4x4096x1024_0_0_2120) slices_S4x4096x1024_S4x4096x512_0_0_0) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 512] (extractStridedSlice S4x4096x1024 ![0, 0, 2120] (refProj a0 a1 a2) slices_S4x4096x3144_S4x4096x1024_0_0_2120) slices_S4x4096x1024_S4x4096x512_0_0_512)))))

/-- Index keys and index weights, filled up with zeros to the lane width. -/
def refSmall (a0 : FVec Ideal S4x4096x1024 .f32) (a1 : FVec Ideal S1x1024 .f32) (a2 : FVec Ideal S1x1024x3144 .f32) : FVec Ideal S4x4096x128 .f32 :=
  concatenate S4x4096x128 2 [⟨S4x4096x64, ((extractStridedSlice S4x4096x64 ![0, 0, 2048] (refProj a0 a1 a2) slices_S4x4096x3144_S4x4096x64_0_0_2048))⟩, ⟨S4x4096x8, ((extractStridedSlice S4x4096x8 ![0, 0, 2112] (refProj a0 a1 a2) slices_S4x4096x3144_S4x4096x8_0_0_2112))⟩, ⟨S4x4096x56, ((broadcastInDim S4x4096x56 ![] bcast_S_S4x4096x56 (constant S_ .f32 0x00000000#32)))⟩] concatenates_S4x4096x64_S4x4096x8_S4x4096x56_S4x4096x128_d2

/-- The keys, positions last. -/
def refK (a0 : FVec Ideal S4x4096x1024 .f32) (a1 : FVec Ideal S1x1024 .f32) (a2 : FVec Ideal S1x1024x3144 .f32) : FVec Ideal S4x512x4096 .f32 :=
  transpose S4x512x4096 [0, 2, 1] (extractStridedSlice S4x4096x512 ![0, 0, 512] (refProj a0 a1 a2) slices_S4x4096x3144_S4x4096x512_0_0_512) transposes_S4x4096x512_S4x512x4096_0_2_1

/-- The values, positions last. -/
def refV (a0 : FVec Ideal S4x4096x1024 .f32) (a1 : FVec Ideal S1x1024 .f32) (a2 : FVec Ideal S1x1024x3144 .f32) : FVec Ideal S4x512x4096 .f32 :=
  transpose S4x512x4096 [0, 2, 1] (extractStridedSlice S4x4096x512 ![0, 0, 1024] (refProj a0 a1 a2) slices_S4x4096x3144_S4x4096x512_0_0_1024) transposes_S4x4096x512_S4x512x4096_0_2_1

/-- The index keys, positions last. -/
def refIdxK (a0 : FVec Ideal S4x4096x1024 .f32) (a1 : FVec Ideal S1x1024 .f32) (a2 : FVec Ideal S1x1024x3144 .f32) : FVec Ideal S4x64x4096 .f32 :=
  transpose S4x64x4096 [0, 2, 1] (extractStridedSlice S4x4096x64 ![0, 0, 2048] (refProj a0 a1 a2) slices_S4x4096x3144_S4x4096x64_0_0_2048) transposes_S4x4096x64_S4x64x4096_0_2_1

/-- The scaled queries in the short format. -/
def refQb (a0 : FVec Ideal S4x4096x1024 .f32) (a1 : FVec Ideal S1x1024 .f32) (a2 : FVec Ideal S1x1024x3144 .f32) : FVec Ideal S4x4096x512 .bf16 :=
  truncf .bf16 (mulf (extractStridedSlice S4x4096x512 ![0, 0, 0] (refProj a0 a1 a2) slices_S4x4096x3144_S4x4096x512_0_0_0) (broadcastInDim S4x4096x512 ![] bcast_S_S4x4096x512 (constant S_ .f32 0x3E000000#32))) bitsLt_bf16_f32

/-- The keys in the short format. -/
def refKb (a0 : FVec Ideal S4x4096x1024 .f32) (a1 : FVec Ideal S1x1024 .f32) (a2 : FVec Ideal S1x1024x3144 .f32) : FVec Ideal S4x4096x512 .bf16 :=
  truncf .bf16 (extractStridedSlice S4x4096x512 ![0, 0, 512] (refProj a0 a1 a2) slices_S4x4096x3144_S4x4096x512_0_0_512) bitsLt_bf16_f32

/-- The values, positions last, in the short format. -/
def refVb (a0 : FVec Ideal S4x4096x1024 .f32) (a1 : FVec Ideal S1x1024 .f32) (a2 : FVec Ideal S1x1024x3144 .f32) : FVec Ideal S4x512x4096 .bf16 :=
  truncf .bf16 (transpose S4x512x4096 [0, 2, 1] (extractStridedSlice S4x4096x512 ![0, 0, 1024] (refProj a0 a1 a2) slices_S4x4096x3144_S4x4096x512_0_0_1024) transposes_S4x4096x512_S4x512x4096_0_2_1) bitsLt_bf16_f32

/-- The scaled index queries in the short format. -/
def refIqb (a0 : FVec Ideal S4x4096x1024 .f32) (a1 : FVec Ideal S1x1024 .f32) (a2 : FVec Ideal S1x1024x3144 .f32) : FVec Ideal S4x4096x512 .bf16 :=
  truncf .bf16 (mulf (extractStridedSlice S4x4096x512 ![0, 0, 1536] (refProj a0 a1 a2) slices_S4x4096x3144_S4x4096x512_0_0_1536) (broadcastInDim S4x4096x512 ![] bcast_S_S4x4096x512 (constant S_ .f32 0x3E000000#32))) bitsLt_bf16_f32

/-- The index keys in the short format. -/
def refIkb (a0 : FVec Ideal S4x4096x1024 .f32) (a1 : FVec Ideal S1x1024 .f32) (a2 : FVec Ideal S1x1024x3144 .f32) : FVec Ideal S4x4096x64 .bf16 :=
  truncf .bf16 (extractStridedSlice S4x4096x64 ![0, 0, 2048] (refProj a0 a1 a2) slices_S4x4096x3144_S4x4096x64_0_0_2048) bitsLt_bf16_f32

end Cert.InprojRef

end
-- ==== Proof.InprojPure.lean ====
/- The input projection: each payload of the kernel's tile, read at a row, is the reference's result at that row. -/
module

public import proofs.«01_k».proof.Proof.Gen.InprojIdeal.Skeleton
public import proofs.«01_k».proof.Proof.InprojRef
public import Idealize.ShloMosaic.Lib.Pointwise

@[expose] public section

set_option maxRecDepth 16384

noncomputable section

namespace Cert.InprojPure

open Cert.InprojIdeal Cert.InprojIdeal.Gen Cert.InprojRef
open Idealize.ShloMosaic Idealize.ShloMosaic.TcCoe Idealize.SL.Sem

variable (a0 : FVec Ideal S4x4096x1024 .f32) (a1 : FVec Ideal S1x1024 .f32) (a2 : FVec Ideal S1x1024x3144 .f32)
  (b : Fin 4) (s : Fin 4096) (r : Fin 512)

/-- The normed row. -/
theorem row_norm (x : FVec Ideal S1x512x1024 .f32) (g : FVec Ideal S1x1024 .f32)
    (hx : ∀ k : Fin 1024, x (ix3 (0 : Fin 1) r k) = a0 (ix3 b s k)) (hg : ∀ k : Fin 1024, g (ix2 (0 : Fin 1) k) = a1 (ix2 (0 : Fin 1) k))
    (j : Fin 1024) : @Eq EReal (k0_pay6 (F := Ideal) x g (ix2 r j)) (refNorm a0 a1 (ix3 b s j)) := by
  pointwise [k0_pay6, refNorm, hx, hg]

variable (x : FVec Ideal S1x512x1024 .f32) (g : FVec Ideal S1x1024 .f32)
  (h : ∀ j : Fin 1024, @Eq EReal (k0_pay6 (F := Ideal) x g (ix2 r j)) (refNorm a0 a1 (ix3 b s j)))

include h

/-- The keys, transposed. -/
theorem pay_k (w : FVec Ideal S1024x512 .bf16)
    (hw : ∀ (k : Fin 1024) (j : Fin 512), @Eq EReal (w (ix2 k j)) (a2 (ix3 (0 : Fin 1) k (⟨512 + j.val, by omega⟩ : Fin 3144)))) (j : Fin 512) :
    k0_pay9 x g w (ix3 (0 : Fin 1) j r) = refK a0 a1 a2 (ix3 b j s) := by
  pointwise [k0_pay9, k0_pay8, refK, refProj, h, hw]

/-- The values, transposed. -/
theorem pay_v (w : FVec Ideal S1024x512 .bf16)
    (hw : ∀ (k : Fin 1024) (j : Fin 512), @Eq EReal (w (ix2 k j)) (a2 (ix3 (0 : Fin 1) k (⟨1024 + j.val, by omega⟩ : Fin 3144)))) (j : Fin 512) :
    k0_pay13 (k0_pay6 x g) w (ix3 (0 : Fin 1) j r) = refV a0 a1 a2 (ix3 b j s) := by
  pointwise [k0_pay13, k0_pay12, refV, refProj, h, hw]

/-- The values once more, rounded. -/
theorem pay_vb (w : FVec Ideal S1024x512 .bf16)
    (hw : ∀ (k : Fin 1024) (j : Fin 512), @Eq EReal (w (ix2 k j)) (a2 (ix3 (0 : Fin 1) k (⟨1024 + j.val, by omega⟩ : Fin 3144)))) (j : Fin 512) :
    k0_pay14 (k0_pay6 x g) w (ix3 (0 : Fin 1) j r) = refVb a0 a1 a2 (ix3 b j s) := by
  pointwise [k0_pay14, k0_pay12, refVb, refProj, h, hw]

/-- The queries, scaled. -/
theorem pay_qb (w : FVec Ideal S1024x512 .bf16)
    (hw : ∀ (k : Fin 1024) (j : Fin 512), @Eq EReal (w (ix2 k j)) (a2 (ix3 (0 : Fin 1) k (⟨j.val, by omega⟩ : Fin 3144)))) (j : Fin 512) :
    k0_pay7 x g w (ix3 (0 : Fin 1) r j) = refQb a0 a1 a2 (ix3 b s j) := by
  pointwise [k0_pay7, refQb, refProj, h, hw]

/-- The keys, rounded. -/
theorem pay_kb (w : FVec Ideal S1024x512 .bf16)
    (hw : ∀ (k : Fin 1024) (j : Fin 512), @Eq EReal (w (ix2 k j)) (a2 (ix3 (0 : Fin 1) k (⟨512 + j.val, by omega⟩ : Fin 3144)))) (j : Fin 512) :
    k0_pay11 (k0_pay10 x g w) (ix3 (0 : Fin 1) r j) = refKb a0 a1 a2 (ix3 b s j) := by
  pointwise [k0_pay11, k0_pay10, k0_pay8, refKb, refProj, h, hw]

/-- The index queries, scaled. -/
theorem pay_iqb (w : FVec Ideal S1024x512 .bf16)
    (hw : ∀ (k : Fin 1024) (j : Fin 512), @Eq EReal (w (ix2 k j)) (a2 (ix3 (0 : Fin 1) k (⟨1536 + j.val, by omega⟩ : Fin 3144)))) (j : Fin 512) :
    k0_pay15 (k0_pay6 x g) w (ix3 (0 : Fin 1) r j) = refIqb a0 a1 a2 (ix3 b s j) := by
  pointwise [k0_pay15, refIqb, refProj, h, hw]

/-- The gated linear unit. -/
theorem pay_u (w w' : FVec Ideal S1024x512 .bf16)
    (hw : ∀ (k : Fin 1024) (j : Fin 512), @Eq EReal (w (ix2 k j)) (a2 (ix3 (0 : Fin 1) k (⟨2120 + j.val, by omega⟩ : Fin 3144))))
    (hw' : ∀ (k : Fin 1024) (j : Fin 512), @Eq EReal (w' (ix2 k j)) (a2 (ix3 (0 : Fin 1) k (⟨2632 + j.val, by omega⟩ : Fin 3144)))) (j : Fin 512) :
    k0_pay1 (k0_pay16 (k0_pay6 x g) w) (k0_pay17 (k0_pay6 x g) w') (ix3 (0 : Fin 1) r j) = refU a0 a1 a2 (ix3 b s j) := by
  pointwise [k0_pay1, k0_pay16, k0_pay17, refU, refProj, h, hw, hw']
  have e : ∀ x : Fin 1024, a2 (ix3 (0 : Fin 1) x (⟨2120 + (512 + j.val), by omega⟩ : Fin 3144)) = a2 (ix3 (0 : Fin 1) x (⟨2632 + j.val, by omega⟩ : Fin 3144)) :=
    fun x => congrArg a2 (congrArg (ix3 (0 : Fin 1) x) (Fin.ext (by show 2120 + (512 + j.val) = 2632 + j.val; omega)))
  simp only [e, zero_sub]

/-- The index keys, transposed. -/
theorem pay_idxk (w : FVec Ideal S1024x128 .bf16)
    (hw : ∀ (k : Fin 1024) (j : Fin 64), @Eq EReal (w (ix2 k (⟨j.val, by omega⟩ : Fin 128))) (a2 (ix3 (0 : Fin 1) k (⟨2048 + j.val, by omega⟩ : Fin 3144)))) (j : Fin 64) :
    k0_pay4 (k0_pay6 x g) w (ix3 (0 : Fin 1) j r) = refIdxK a0 a1 a2 (ix3 b j s) := by
  pointwise [k0_pay4, k0_pay2, refIdxK, refProj, h, hw]

/-- The index keys, rounded. -/
theorem pay_ikb (w : FVec Ideal S1024x128 .bf16)
    (hw : ∀ (k : Fin 1024) (j : Fin 64), @Eq EReal (w (ix2 k (⟨j.val, by omega⟩ : Fin 128))) (a2 (ix3 (0 : Fin 1) k (⟨2048 + j.val, by omega⟩ : Fin 3144)))) (j : Fin 64) :
    k0_pay5 (k0_pay6 x g) w (ix3 (0 : Fin 1) r j) = refIkb a0 a1 a2 (ix3 b s j) := by
  pointwise [k0_pay5, k0_pay2, refIkb, refProj, h, hw]

/-- The index keys and the index weights, side by side, with zeros after them. -/
theorem pay_small (w : FVec Ideal S1024x128 .bf16)
    (hw : ∀ (k : Fin 1024) (j : Fin 128), @Eq EReal (w (ix2 k j)) (if hj : j.val < 72 then a2 (ix3 (0 : Fin 1) k (⟨2048 + j.val, by omega⟩ : Fin 3144)) else 0)) (j : Fin 128) :
    k0_pay3 (k0_pay6 x g) w (ix3 (0 : Fin 1) r j) = refSmall a0 a1 a2 (ix3 b s j) := by
  pointwise [k0_pay3, k0_pay2, refSmall, refProj, h, hw]
  by_cases h1 : j.val < 64
  · rw [dif_pos h1]
    exact Finset.sum_congr rfl fun x _ => by rw [dif_pos (by omega)]
  · rw [dif_neg h1]
    by_cases h2 : j.val < 72
    · rw [dif_pos (by omega)]
      refine Finset.sum_congr rfl fun x _ => ?_
      rw [dif_pos h2]
      exact congrArg (refNorm a0 a1 (ix3 b s x) * ·) (congrArg a2 (congrArg (ix3 (0 : Fin 1) x) (Fin.ext (by show 2048 + j.val = 2112 + (j.val - 64); omega))))
    · rw [dif_neg (by omega)]
      refine Finset.sum_eq_zero fun x _ => ?_
      rw [dif_neg h2, mul_zero]

end Cert.InprojPure

end
-- ==== Proof.InprojValue.lean ====
/- The input projection of the prompt group: what the kernel leaves in its ten result arrays is the reference's term. -/
module

public import proofs.«01_k».proof.Proof.Gen.InprojIdeal.Frame
public import proofs.«01_k».proof.Proof.InprojPure
public import Idealize.ShloMosaic.Lib.Pipeline.ValueKit
public import Idealize.ShloMosaic.Lib.Claim

@[expose] public section

set_option maxRecDepth 16384

noncomputable section

namespace Cert.InprojValue

open Cert.InprojIdeal Cert.InprojIdeal.Gen Cert.InprojRef Cert.InprojPure
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 0]
    ∧ win0_1.index t = ![0, 0]
    ∧ win0_2.index t = ![0, 0]
    ∧ win0_3.index t = ![t.val / 8, 0, t.val % 8]
    ∧ win0_4.index t = ![t.val / 8, 0, t.val % 8]
    ∧ win0_5.index t = ![t.val / 8, 0, t.val % 8]
    ∧ win0_6.index t = ![t.val / 8, t.val % 8, 0]
    ∧ win0_7.index t = ![t.val / 8, t.val % 8, 0]
    ∧ win0_8.index t = ![t.val / 8, t.val % 8, 0]
    ∧ win0_9.index t = ![t.val / 8, 0, t.val % 8]
    ∧ win0_10.index t = ![t.val / 8, t.val % 8, 0]
    ∧ win0_11.index t = ![t.val / 8, t.val % 8, 0]
    ∧ win0_12.index t = ![t.val / 8, t.val % 8, 0] :=
  (by decide +kernel : ∀ t : Fin grid0.N, _)

abbrev A0 (c : Dev nD) := m ((c : Thread nD τ).loc main_arg0)
abbrev A1 (c : Dev nD) := m ((c : Thread nD τ).loc main_arg1)
abbrev A2 (c : Dev nD) := m ((c : Thread nD τ).loc main_arg2)

theorem idx3_ext {n0 n1 n2 : ℕ} {x y : (⟨3, ![n0, n1, n2]⟩ : Shape).Idx} (h0 : (x 0).val = (y 0).val) (h1 : (x 1).val = (y 1).val) (h2 : (x 2).val = (y 2).val) : x = y :=
  funext fun a => by
    fin_cases a
    · exact Fin.ext h0
    · exact Fin.ext h1
    · exact Fin.ext h2

theorem pay18_eq (x0 : FVec Ideal S1x512x1024 .f32) (x1 : FVec Ideal S1x1024 .f32) (x2 : FVec Ideal S1024x3200 .bf16) :
    k0_pay18 (F := Ideal) x0 x1 x2 = k0_pay6 (F := Ideal) x0 x1 := by
  unfold k0_pay18; frame_out

theorem tlt (t : Fin cfg0.N) : t.val < 32 := t.isLt

theorem blk_x (c : Dev nD) (t : Fin cfg0.N) (r : Fin 512) (k : Fin 1024) :
    @Eq EReal (iblk m c 0 t (ix3 (0 : Fin 1) r k))
      (A0 m c (ix3 (⟨t.val / 8, by have := tlt t; omega⟩ : Fin 4) (⟨512 * (t.val % 8) + r.val, by omega⟩ : Fin 4096) k)) := by
  blk_point [iblk, V, idx t]

theorem blk_g (c : Dev nD) (t : Fin cfg0.N) (k : Fin 1024) :
    @Eq EReal (iblk m c 1 t (ix2 (0 : Fin 1) k)) (A1 m c (ix2 (0 : Fin 1) k)) := by
  blk_point [iblk, V, idx t]

theorem V8 (c : Dev nD) : V m c main_v8 = truncf (F := Ideal) .bf16 (V m c main_v7 : FVec Ideal S1024x3200 .f32) bitsLt_bf16_f32 := rfl

theorem V7 (c : Dev nD) : V m c main_v7 = concatenate S1024x3200 1 [⟨S1024x2048, (V m c main_v3 : S1024x2048.Idx → EReal)⟩, ⟨S1024x1024, (V m c main_v4 : S1024x1024.Idx → EReal)⟩,
   ⟨S1024x72, (V m c main_v5 : S1024x72.Idx → EReal)⟩, ⟨S1024x56, (V m c main_v6 : S1024x56.Idx → EReal)⟩] concatenates_S1024x2048_S1024x1024_S1024x72_S1024x56_S1024x3200_d1 := rfl

theorem V3 (c : Dev nD) (k : Fin 1024) (j : Fin 2048) : @Eq EReal (V m c main_v3 (ix2 k j)) (A2 m c (ix3 (0 : Fin 1) k ⟨j.val, by omega⟩)) := by
  entry_read; pointwise
theorem V4 (c : Dev nD) (k : Fin 1024) (j : Fin 1024) : @Eq EReal (V m c main_v4 (ix2 k j)) (A2 m c (ix3 (0 : Fin 1) k ⟨2120 + j.val, by omega⟩)) := by
  entry_read; pointwise
theorem V5 (c : Dev nD) (k : Fin 1024) (j : Fin 72) : @Eq EReal (V m c main_v5 (ix2 k j)) (A2 m c (ix3 (0 : Fin 1) k ⟨2048 + j.val, by omega⟩)) := by
  entry_read; pointwise
theorem V6 (c : Dev nD) (k : Fin 1024) (j : Fin 56) : @Eq EReal (V m c main_v6 (ix2 k j)) 0 := by
  entry_read; pointwise

/-- The four column ranges of the concatenated weight. -/
theorem cat_at (x3 : S1024x2048.Idx → EReal) (x4 : S1024x1024.Idx → EReal) (x5 : S1024x72.Idx → EReal) (x6 : S1024x56.Idx → EReal) (k : Fin 1024) (j : Fin 3200) :
    truncf (F := Ideal) .bf16 (concatenate S1024x3200 1 [⟨S1024x2048, x3⟩, ⟨S1024x1024, x4⟩, ⟨S1024x72, x5⟩, ⟨S1024x56, x6⟩]
      concatenates_S1024x2048_S1024x1024_S1024x72_S1024x56_S1024x3200_d1 : FVec Ideal S1024x3200 .f32) bitsLt_bf16_f32 (ix2 k j)
    = if h : j.val < 2048 then x3 (ix2 k ⟨j.val, h⟩) else if h1 : j.val - 2048 < 1024 then x4 (ix2 k ⟨j.val - 2048, h1⟩)
      else if h2 : j.val - 2048 - 1024 < 72 then x5 (ix2 k ⟨j.val - 2048 - 1024, h2⟩) else x6 (ix2 k ⟨j.val - 2048 - 1024 - 72, by omega⟩) := by
  pointwise

theorem blk_w (c : Dev nD) (t : Fin cfg0.N) (k : Fin 1024) (j : Fin 3200) :
    @Eq EReal (iblk m c 2 t (ix2 k j)) (V m c main_v8 (ix2 k j)) := by
  blk_ext [iblk, idx t]

theorem w_at (c : Dev nD) (t : Fin cfg0.N) (k : Fin 1024) (j : Fin 3200) :
    @Eq EReal (iblk m c 2 t (ix2 k j))
      (if h : j.val < 2048 then A2 m c (ix3 (0 : Fin 1) k (⟨j.val, by omega⟩ : Fin 3144))
       else if h1 : j.val - 2048 < 1024 then A2 m c (ix3 (0 : Fin 1) k (⟨2120 + (j.val - 2048), by omega⟩ : Fin 3144))
       else if h2 : j.val - 2048 - 1024 < 72 then A2 m c (ix3 (0 : Fin 1) k (⟨2048 + (j.val - 2048 - 1024), by omega⟩ : Fin 3144)) else 0) := by
  refine (blk_w m c t k j).trans ?_
  refine (congrFun ((V8 m c).trans (congrArg (fun z => truncf (F := Ideal) .bf16 (z : FVec Ideal S1024x3200 .f32) bitsLt_bf16_f32) (V7 m c))) (ix2 k j)).trans ?_
  refine (cat_at _ _ _ _ k j).trans ?_
  split
  · exact V3 m c k _
  · split
    · exact V4 m c k _
    · split
      · exact V5 m c k _
      · exact V6 m c k _

/-- A 512-column block of the weight, loaded at an offset below 2048. -/
theorem ld_low (c : Dev nD) (t : Fin cfg0.N) (o : ℕ) (inb) (ho : o + 512 ≤ 2048) (k : Fin 1024) (j : Fin 512) :
    @Eq EReal (View.ld (iblk m c 2 t) (Rect.unit (s := S1024x3200) ![0, o] ![1024, 512] inb) (ix2 k j))
      (A2 m c (ix3 (0 : Fin 1) k (⟨o + j.val, by omega⟩ : Fin 3144))) := by
  have e : (Rect.unit (s := S1024x3200) ![0, o] ![1024, 512] inb).emb (ix2 k j) = ix2 k (⟨o + j.val, by omega⟩ : Fin 3200) := funext fun a => by
    fin_cases a
    · exact Fin.ext (show 0 + 1 * k.val = k.val by omega)
    · exact Fin.ext (show o + 1 * j.val = o + j.val by omega)
  refine (congrArg (iblk m c 2 t) e).trans ((w_at m c t k _).trans ?_)
  rw [dif_pos (show o + j.val < 2048 by omega)]

/-- A 512-column block of the weight, loaded at an offset from 2048 on. -/
theorem ld_mid (c : Dev nD) (t : Fin cfg0.N) (o : ℕ) (inb) (ho : 2048 ≤ o) (ho' : o + 512 ≤ 3072) (k : Fin 1024) (j : Fin 512) :
    @Eq EReal (View.ld (iblk m c 2 t) (Rect.unit (s := S1024x3200) ![0, o] ![1024, 512] inb) (ix2 k j))
      (A2 m c (ix3 (0 : Fin 1) k (⟨o + 72 + j.val, by omega⟩ : Fin 3144))) := by
  have e : (Rect.unit (s := S1024x3200) ![0, o] ![1024, 512] inb).emb (ix2 k j) = ix2 k (⟨o + j.val, by omega⟩ : Fin 3200) := funext fun a => by
    fin_cases a
    · exact Fin.ext (show 0 + 1 * k.val = k.val by omega)
    · exact Fin.ext (show o + 1 * j.val = o + j.val by omega)
  refine (congrArg (iblk m c 2 t) e).trans ((w_at m c t k _).trans ?_)
  rw [dif_neg (show ¬ o + j.val < 2048 by omega), dif_pos (show o + j.val - 2048 < 1024 by omega)]
  exact congrArg (fun z : Fin 3144 => A2 m c (ix3 (0 : Fin 1) k z)) (Fin.ext (show 2120 + (o + j.val - 2048) = o + 72 + j.val by omega))

/-- The last 128 columns: 72 of the weight's and then zeros. -/
theorem ld_small (c : Dev nD) (t : Fin cfg0.N) (k : Fin 1024) (j : Fin 128) :
    @Eq EReal (View.ld (iblk m c 2 t) r0_9 (ix2 k j))
      (if hj : j.val < 72 then A2 m c (ix3 (0 : Fin 1) k (⟨2048 + j.val, by omega⟩ : Fin 3144)) else 0) := by
  have e : r0_9.emb (ix2 k j) = ix2 k (⟨3072 + j.val, by omega⟩ : Fin 3200) := funext fun a => by
    fin_cases a
    · exact Fin.ext (show 0 + 1 * k.val = k.val by omega)
    · exact Fin.ext (show 3072 + 1 * j.val = 3072 + j.val by omega)
  refine (congrArg (iblk m c 2 t) e).trans ((w_at m c t k _).trans ?_)
  rw [dif_neg (show ¬ 3072 + j.val < 2048 by omega), dif_neg (show ¬ 3072 + j.val - 2048 < 1024 by omega)]
  by_cases hj : j.val < 72
  · rw [dif_pos hj, dif_pos (show 3072 + j.val - 2048 - 1024 < 72 by omega)]
    exact congrArg (fun z : Fin 3144 => A2 m c (ix3 (0 : Fin 1) k z)) (Fin.ext (show 2048 + (3072 + j.val - 2048 - 1024) = 2048 + j.val by omega))
  · rw [dif_neg hj, dif_neg (show ¬ 3072 + j.val - 2048 - 1024 < 72 by omega)]

/-- The normed row of a tile. -/
theorem norm_at (c : Dev nD) (t : Fin cfg0.N) (r : Fin 512) (j : Fin 1024) :
    @Eq EReal (k0_pay6 (F := Ideal) (iblk m c 0 t) (iblk m c 1 t) (ix2 r j))
      (refNorm (A0 m c) (A1 m c) (ix3 (⟨t.val / 8, by have := tlt t; omega⟩ : Fin 4) (⟨512 * (t.val % 8) + r.val, by omega⟩ : Fin 4096) j)) :=
  row_norm _ _ _ _ r _ _ (fun k => blk_x m c t r k) (fun k => blk_g m c t k) j

theorem point_k (c : Dev nD) (t : Fin cfg0.N) (y : S1x512x512.Idx) (Y : S4x512x4096.Idx) (h0 : (Y 0).val = t.val / 8)
    (h1 : (Y 1).val = (y 1).val) (h2 : (Y 2).val = 512 * (t.val % 8) + (y 2).val) :
    k0_pay9 (iblk m c 0 t) (iblk m c 1 t) (View.ld (iblk m c 2 t) r0_4) y = refK (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (y 1 : Fin 512) (⟨512 * (t.val % 8) + (y 2).val, by have : (y 2).val < 512 := (y 2).isLt; omega⟩ : Fin 4096) := idx3_ext h0 h1 h2
  rw [eY]
  refine (congrArg (k0_pay9 (iblk m c 0 t) (iblk m c 1 t) (View.ld (iblk m c 2 t) r0_4)) ey).trans ?_
  exact pay_k (A0 m c) (A1 m c) (A2 m c) _ _ (y 2) _ _ (fun j => norm_at m c t (y 2) j) _ (fun k j => ld_low m c t 512 _ (by omega) k j) (y 1)

theorem final_k (c : Dev nD) : (dats m 0 c).arrAt 3 (cfgs 0).N = refK (A0 m c) (A1 m c) (A2 m c) := by
  refine (dats m 0 c).arrAt_eq_of_covers 3 _ (by decide +kernel) fun t hf y => ?_
  blk_simp; rw [after0_3]; frame_out
  exact point_k m c t y _ (by blk_simp [idx t]) (by blk_simp [idx t]) (by blk_simp [idx t]; omega)

theorem point_v (c : Dev nD) (t : Fin cfg0.N) (y : S1x512x512.Idx) (Y : S4x512x4096.Idx) (h0 : (Y 0).val = t.val / 8)
    (h1 : (Y 1).val = (y 1).val) (h2 : (Y 2).val = 512 * (t.val % 8) + (y 2).val) :
    k0_pay13 (k0_pay6 (iblk m c 0 t) (iblk m c 1 t)) (View.ld (iblk m c 2 t) r0_5) y = refV (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (y 1 : Fin 512) (⟨512 * (t.val % 8) + (y 2).val, by have : (y 2).val < 512 := (y 2).isLt; omega⟩ : Fin 4096) := idx3_ext h0 h1 h2
  rw [eY]
  refine (congrArg (k0_pay13 (k0_pay6 (iblk m c 0 t) (iblk m c 1 t)) (View.ld (iblk m c 2 t) r0_5)) ey).trans ?_
  exact pay_v (A0 m c) (A1 m c) (A2 m c) _ _ (y 2) _ _ (fun j => norm_at m c t (y 2) j) _ (fun k j => ld_low m c t 1024 _ (by omega) k j) (y 1)

theorem final_v (c : Dev nD) : (dats m 0 c).arrAt 4 (cfgs 0).N = refV (A0 m c) (A1 m c) (A2 m c) := by
  refine (dats m 0 c).arrAt_eq_of_covers 4 _ (by decide +kernel) fun t hf y => ?_
  blk_simp; rw [after0_4]; frame_out
  rw [pay18_eq]
  exact point_v m c t y _ (by blk_simp [idx t]) (by blk_simp [idx t]) (by blk_simp [idx t]; omega)

theorem point_idxk (c : Dev nD) (t : Fin cfg0.N) (y : S1x64x512.Idx) (Y : S4x64x4096.Idx) (h0 : (Y 0).val = t.val / 8)
    (h1 : (Y 1).val = (y 1).val) (h2 : (Y 2).val = 512 * (t.val % 8) + (y 2).val) :
    k0_pay4 (k0_pay6 (iblk m c 0 t) (iblk m c 1 t)) (View.ld (iblk m c 2 t) r0_9) y = refIdxK (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (y 1 : Fin 64) (⟨512 * (t.val % 8) + (y 2).val, by have : (y 2).val < 512 := (y 2).isLt; omega⟩ : Fin 4096) := idx3_ext h0 h1 h2
  rw [eY]
  refine (congrArg (k0_pay4 (k0_pay6 (iblk m c 0 t) (iblk m c 1 t)) (View.ld (iblk m c 2 t) r0_9)) ey).trans ?_
  exact pay_idxk (A0 m c) (A1 m c) (A2 m c) _ _ (y 2) _ _ (fun j => norm_at m c t (y 2) j) _ (fun k j => (ld_small m c t k ⟨j.val, by omega⟩).trans (dif_pos (show j.val < 72 by omega))) (y 1)

theorem final_idxk (c : Dev nD) : (dats m 0 c).arrAt 5 (cfgs 0).N = refIdxK (A0 m c) (A1 m c) (A2 m c) := by
  refine (dats m 0 c).arrAt_eq_of_covers 5 _ (by decide +kernel) fun t hf y => ?_
  blk_simp; rw [after0_5]; frame_out
  rw [pay18_eq]
  exact point_idxk m c t y _ (by blk_simp [idx t]) (by blk_simp [idx t]) (by blk_simp [idx t]; omega)

theorem point_small (c : Dev nD) (t : Fin cfg0.N) (y : S1x512x128.Idx) (Y : S4x4096x128.Idx) (h0 : (Y 0).val = t.val / 8)
    (h1 : (Y 1).val = 512 * (t.val % 8) + (y 1).val) (h2 : (Y 2).val = (y 2).val) :
    k0_pay3 (k0_pay6 (iblk m c 0 t) (iblk m c 1 t)) (View.ld (iblk m c 2 t) r0_9) y = refSmall (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (⟨512 * (t.val % 8) + (y 1).val, by have : (y 1).val < 512 := (y 1).isLt; omega⟩ : Fin 4096) (y 2 : Fin 128) := idx3_ext h0 h1 h2
  rw [eY]
  refine (congrArg (k0_pay3 (k0_pay6 (iblk m c 0 t) (iblk m c 1 t)) (View.ld (iblk m c 2 t) r0_9)) ey).trans ?_
  exact pay_small (A0 m c) (A1 m c) (A2 m c) _ _ (y 1) _ _ (fun j => norm_at m c t (y 1) j) _ (fun k j => ld_small m c t k j) (y 2)

theorem final_small (c : Dev nD) : (dats m 0 c).arrAt 6 (cfgs 0).N = refSmall (A0 m c) (A1 m c) (A2 m c) := by
  refine (dats m 0 c).arrAt_eq_of_covers 6 _ (by decide +kernel) fun t hf y => ?_
  blk_simp; rw [after0_6]; frame_out
  rw [pay18_eq]
  exact point_small m c t y _ (by blk_simp [idx t]) (by blk_simp [idx t]; omega) (by blk_simp [idx t])

theorem point_qb (c : Dev nD) (t : Fin cfg0.N) (y : S1x512x512.Idx) (Y : S4x4096x512.Idx) (h0 : (Y 0).val = t.val / 8)
    (h1 : (Y 1).val = 512 * (t.val % 8) + (y 1).val) (h2 : (Y 2).val = (y 2).val) :
    k0_pay7 (iblk m c 0 t) (iblk m c 1 t) (View.ld (iblk m c 2 t) r0_2) y = refQb (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (⟨512 * (t.val % 8) + (y 1).val, by have : (y 1).val < 512 := (y 1).isLt; omega⟩ : Fin 4096) (y 2 : Fin 512) := idx3_ext h0 h1 h2
  rw [eY]
  refine (congrArg (k0_pay7 (iblk m c 0 t) (iblk m c 1 t) (View.ld (iblk m c 2 t) r0_2)) ey).trans ?_
  exact pay_qb (A0 m c) (A1 m c) (A2 m c) _ _ (y 1) _ _ (fun j => norm_at m c t (y 1) j) _ (fun k j => (ld_low m c t 0 _ (by omega) k j).trans (congrArg (fun z : Fin 3144 => A2 m c (ix3 (0 : Fin 1) k z)) (Fin.ext (Nat.zero_add _)))) (y 2)

theorem final_qb (c : Dev nD) : (dats m 0 c).arrAt 7 (cfgs 0).N = refQb (A0 m c) (A1 m c) (A2 m c) := by
  refine (dats m 0 c).arrAt_eq_of_covers 7 _ (by decide +kernel) fun t hf y => ?_
  blk_simp; rw [after0_7]; frame_out
  exact point_qb m c t y _ (by blk_simp [idx t]) (by blk_simp [idx t]; omega) (by blk_simp [idx t])

theorem point_kb (c : Dev nD) (t : Fin cfg0.N) (y : S1x512x512.Idx) (Y : S4x4096x512.Idx) (h0 : (Y 0).val = t.val / 8)
    (h1 : (Y 1).val = 512 * (t.val % 8) + (y 1).val) (h2 : (Y 2).val = (y 2).val) :
    k0_pay11 (k0_pay10 (iblk m c 0 t) (iblk m c 1 t) (View.ld (iblk m c 2 t) r0_4)) y = refKb (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (⟨512 * (t.val % 8) + (y 1).val, by have : (y 1).val < 512 := (y 1).isLt; omega⟩ : Fin 4096) (y 2 : Fin 512) := idx3_ext h0 h1 h2
  rw [eY]
  refine (congrArg (k0_pay11 (k0_pay10 (iblk m c 0 t) (iblk m c 1 t) (View.ld (iblk m c 2 t) r0_4))) ey).trans ?_
  exact pay_kb (A0 m c) (A1 m c) (A2 m c) _ _ (y 1) _ _ (fun j => norm_at m c t (y 1) j) _ (fun k j => ld_low m c t 512 _ (by omega) k j) (y 2)

theorem final_kb (c : Dev nD) : (dats m 0 c).arrAt 8 (cfgs 0).N = refKb (A0 m c) (A1 m c) (A2 m c) := by
  refine (dats m 0 c).arrAt_eq_of_covers 8 _ (by decide +kernel) fun t hf y => ?_
  blk_simp; rw [after0_8]; frame_out
  exact point_kb m c t y _ (by blk_simp [idx t]) (by blk_simp [idx t]; omega) (by blk_simp [idx t])

theorem point_vb (c : Dev nD) (t : Fin cfg0.N) (y : S1x512x512.Idx) (Y : S4x512x4096.Idx) (h0 : (Y 0).val = t.val / 8)
    (h1 : (Y 1).val = (y 1).val) (h2 : (Y 2).val = 512 * (t.val % 8) + (y 2).val) :
    k0_pay14 (k0_pay6 (iblk m c 0 t) (iblk m c 1 t)) (View.ld (iblk m c 2 t) r0_5) y = refVb (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (y 1 : Fin 512) (⟨512 * (t.val % 8) + (y 2).val, by have : (y 2).val < 512 := (y 2).isLt; omega⟩ : Fin 4096) := idx3_ext h0 h1 h2
  rw [eY]
  refine (congrArg (k0_pay14 (k0_pay6 (iblk m c 0 t) (iblk m c 1 t)) (View.ld (iblk m c 2 t) r0_5)) ey).trans ?_
  exact pay_vb (A0 m c) (A1 m c) (A2 m c) _ _ (y 2) _ _ (fun j => norm_at m c t (y 2) j) _ (fun k j => ld_low m c t 1024 _ (by omega) k j) (y 1)

theorem final_vb (c : Dev nD) : (dats m 0 c).arrAt 9 (cfgs 0).N = refVb (A0 m c) (A1 m c) (A2 m c) := by
  refine (dats m 0 c).arrAt_eq_of_covers 9 _ (by decide +kernel) fun t hf y => ?_
  blk_simp; rw [after0_9]; frame_out
  rw [pay18_eq]
  exact point_vb m c t y _ (by blk_simp [idx t]) (by blk_simp [idx t]) (by blk_simp [idx t]; omega)

theorem point_iqb (c : Dev nD) (t : Fin cfg0.N) (y : S1x512x512.Idx) (Y : S4x4096x512.Idx) (h0 : (Y 0).val = t.val / 8)
    (h1 : (Y 1).val = 512 * (t.val % 8) + (y 1).val) (h2 : (Y 2).val = (y 2).val) :
    k0_pay15 (k0_pay6 (iblk m c 0 t) (iblk m c 1 t)) (View.ld (iblk m c 2 t) r0_6) y = refIqb (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (⟨512 * (t.val % 8) + (y 1).val, by have : (y 1).val < 512 := (y 1).isLt; omega⟩ : Fin 4096) (y 2 : Fin 512) := idx3_ext h0 h1 h2
  rw [eY]
  refine (congrArg (k0_pay15 (k0_pay6 (iblk m c 0 t) (iblk m c 1 t)) (View.ld (iblk m c 2 t) r0_6)) ey).trans ?_
  exact pay_iqb (A0 m c) (A1 m c) (A2 m c) _ _ (y 1) _ _ (fun j => norm_at m c t (y 1) j) _ (fun k j => ld_low m c t 1536 _ (by omega) k j) (y 2)

theorem final_iqb (c : Dev nD) : (dats m 0 c).arrAt 10 (cfgs 0).N = refIqb (A0 m c) (A1 m c) (A2 m c) := by
  refine (dats m 0 c).arrAt_eq_of_covers 10 _ (by decide +kernel) fun t hf y => ?_
  blk_simp; rw [after0_10]; frame_out
  rw [pay18_eq]
  exact point_iqb m c t y _ (by blk_simp [idx t]) (by blk_simp [idx t]; omega) (by blk_simp [idx t])

theorem point_ikb (c : Dev nD) (t : Fin cfg0.N) (y : S1x512x64.Idx) (Y : S4x4096x64.Idx) (h0 : (Y 0).val = t.val / 8)
    (h1 : (Y 1).val = 512 * (t.val % 8) + (y 1).val) (h2 : (Y 2).val = (y 2).val) :
    k0_pay5 (k0_pay6 (iblk m c 0 t) (iblk m c 1 t)) (View.ld (iblk m c 2 t) r0_9) y = refIkb (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (⟨512 * (t.val % 8) + (y 1).val, by have : (y 1).val < 512 := (y 1).isLt; omega⟩ : Fin 4096) (y 2 : Fin 64) := idx3_ext h0 h1 h2
  rw [eY]
  refine (congrArg (k0_pay5 (k0_pay6 (iblk m c 0 t) (iblk m c 1 t)) (View.ld (iblk m c 2 t) r0_9)) ey).trans ?_
  exact pay_ikb (A0 m c) (A1 m c) (A2 m c) _ _ (y 1) _ _ (fun j => norm_at m c t (y 1) j) _ (fun k j => (ld_small m c t k ⟨j.val, by omega⟩).trans (dif_pos (show j.val < 72 by omega))) (y 2)

theorem final_ikb (c : Dev nD) : (dats m 0 c).arrAt 11 (cfgs 0).N = refIkb (A0 m c) (A1 m c) (A2 m c) := by
  refine (dats m 0 c).arrAt_eq_of_covers 11 _ (by decide +kernel) fun t hf y => ?_
  blk_simp; rw [after0_11]; frame_out
  rw [pay18_eq]
  exact point_ikb m c t y _ (by blk_simp [idx t]) (by blk_simp [idx t]; omega) (by blk_simp [idx t])

theorem point_u (c : Dev nD) (t : Fin cfg0.N) (y : S1x512x512.Idx) (Y : S4x4096x512.Idx) (h0 : (Y 0).val = t.val / 8)
    (h1 : (Y 1).val = 512 * (t.val % 8) + (y 1).val) (h2 : (Y 2).val = (y 2).val) :
    k0_pay1 (k0_pay16 (k0_pay6 (iblk m c 0 t) (iblk m c 1 t)) (View.ld (iblk m c 2 t) r0_7)) (k0_pay17 (k0_pay6 (iblk m c 0 t) (iblk m c 1 t)) (View.ld (iblk m c 2 t) r0_8)) y = refU (A0 m c) (A1 m c) (A2 m c) Y := by
  have ey : y = ix3 (0 : Fin 1) (y 1) (y 2) := idx3_ext (by have : (y 0).val < 1 := (y 0).isLt; show (y 0).val = 0; omega) rfl rfl
  have eY : Y = ix3 (⟨t.val / 8, by have := tlt t; omega⟩ : Fin 4) (⟨512 * (t.val % 8) + (y 1).val, by have : (y 1).val < 512 := (y 1).isLt; omega⟩ : Fin 4096) (y 2 : Fin 512) := idx3_ext h0 h1 h2
  rw [eY]
  refine (congrArg (k0_pay1 (k0_pay16 (k0_pay6 (iblk m c 0 t) (iblk m c 1 t)) (View.ld (iblk m c 2 t) r0_7)) (k0_pay17 (k0_pay6 (iblk m c 0 t) (iblk m c 1 t)) (View.ld (iblk m c 2 t) r0_8))) ey).trans ?_
  exact pay_u (A0 m c) (A1 m c) (A2 m c) _ _ (y 1) _ _ (fun j => norm_at m c t (y 1) j) _ _ (fun k j => ld_mid m c t 2048 _ (by omega) (by omega) k j) (fun k j => ld_mid m c t 2560 _ (by omega) (by omega) k j) (y 2)

theorem final_u (c : Dev nD) : (dats m 0 c).arrAt 12 (cfgs 0).N = refU (A0 m c) (A1 m c) (A2 m c) := by
  refine (dats m 0 c).arrAt_eq_of_covers 12 _ (by decide +kernel) fun t hf y => ?_
  blk_simp; rw [after0_12]; frame_out
  rw [pay18_eq]
  exact point_u m c t y _ (by blk_simp [idx t]) (by blk_simp [idx t]; omega) (by blk_simp [idx t])

end Cert.InprojValue

end
-- ==== Proof.InprojClaim.lean ====
/- The call `Inproj`: the run of its reference with the results named, the reference's frame, and the equality of the results
   of the kernel and of the reference over the extended reals. -/
module

public import proofs.«01_k».proof.Defs
public import proofs.«01_k».proof.Proof.Gen.InprojIdeal.Frame
public import proofs.«01_k».proof.Proof.Gen.InprojReferenceIdeal.Run
public import proofs.«01_k».proof.Proof.InprojValue
public import Idealize.ShloMosaic.Lib.Claim

@[expose] public section

set_option maxRecDepth 16384

noncomputable section

namespace Cert.InprojClaim

open Idealize.ShloMosaic Idealize.SL.Sem

section

open Cert.InprojReferenceIdeal Cert.InprojRef
open Idealize.ShloMosaic.TcCoe

set_option maxHeartbeats 1600000 in
/-- Every run of the reference ends with each result at the function of the arguments that `InprojRef` names, and with the
    arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v34) = refK (m ((c.tc : Thread nD τ).loc main_arg0)) (m ((c.tc : Thread nD τ).loc main_arg1)) (m ((c.tc : Thread nD τ).loc main_arg2))
      ∧ r.2.mem ((c.tc : Thread nD τ).loc main_v35) = refV (m ((c.tc : Thread nD τ).loc main_arg0)) (m ((c.tc : Thread nD τ).loc main_arg1)) (m ((c.tc : Thread nD τ).loc main_arg2))
      ∧ r.2.mem ((c.tc : Thread nD τ).loc main_v36) = refIdxK (m ((c.tc : Thread nD τ).loc main_arg0)) (m ((c.tc : Thread nD τ).loc main_arg1)) (m ((c.tc : Thread nD τ).loc main_arg2))
      ∧ r.2.mem ((c.tc : Thread nD τ).loc main_v33) = refSmall (m ((c.tc : Thread nD τ).loc main_arg0)) (m ((c.tc : Thread nD τ).loc main_arg1)) (m ((c.tc : Thread nD τ).loc main_arg2))
      ∧ r.2.mem ((c.tc : Thread nD τ).loc main_v39) = refQb (m ((c.tc : Thread nD τ).loc main_arg0)) (m ((c.tc : Thread nD τ).loc main_arg1)) (m ((c.tc : Thread nD τ).loc main_arg2))
      ∧ r.2.mem ((c.tc : Thread nD τ).loc main_v40) = refKb (m ((c.tc : Thread nD τ).loc main_arg0)) (m ((c.tc : Thread nD τ).loc main_arg1)) (m ((c.tc : Thread nD τ).loc main_arg2))
      ∧ r.2.mem ((c.tc : Thread nD τ).loc main_v42) = refVb (m ((c.tc : Thread nD τ).loc main_arg0)) (m ((c.tc : Thread nD τ).loc main_arg1)) (m ((c.tc : Thread nD τ).loc main_arg2))
      ∧ r.2.mem ((c.tc : Thread nD τ).loc main_v45) = refIqb (m ((c.tc : Thread nD τ).loc main_arg0)) (m ((c.tc : Thread nD τ).loc main_arg1)) (m ((c.tc : Thread nD τ).loc main_arg2))
      ∧ r.2.mem ((c.tc : Thread nD τ).loc main_v46) = refIkb (m ((c.tc : Thread nD τ).loc main_arg0)) (m ((c.tc : Thread nD τ).loc main_arg1)) (m ((c.tc : Thread nD τ).loc main_arg2))
      ∧ r.2.mem ((c.tc : Thread nD τ).loc main_v31) = refU (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2.1.trans rfl, (h c).2.2.2.2.2.2.2.2.1.trans rfl, (h c).2.2.2.2.2.2.2.2.2.1.trans rfl, (h c).2.2.2.2.2.2.2.2.2.2⟩) (Cert.InprojReferenceIdeal.Value.run m g)

/-- The reference runs, leaves its arguments unchanged and ends with every counter at zero. -/
theorem reference_frame : Cert.quiescent_InprojReferenceIdeal := fun m g _ =>
  (θ_run _ _ _).mono (fun r h => ⟨fun c => (h c).2.2.2.2.2.2.2.2.2.2, Idealize.ShloMosaic.sem_eq_zero_of_no_sems (by decide) r.2⟩)
    (Cert.InprojReferenceIdeal.Value.run m g)

end

open Cert.InprojValue in
set_option maxHeartbeats 1600000 in
/-- Over the extended reals the call's results are the reference's. -/
theorem algebraic : Cert.algebraic_InprojIdeal_InprojReferenceIdeal := by
  pair_intro
  · run_from Cert.InprojIdeal.Gen.run_main m g
  · run_from reference_run m' g'
    · exact (final_k m c).symm
    · exact (final_v m c).symm
    · exact (final_idxk m c).symm
    · exact (final_small m c).symm
    · exact (final_qb m c).symm
    · exact (final_kb m c).symm
    · exact (final_vb m c).symm
    · exact (final_iqb m c).symm
    · exact (final_ikb m c).symm
    · exact (final_u m c).symm

end Cert.InprojClaim

end
-- ==== Proof.PostRef.lean ====
/- The reference `PostReferenceIdeal`, stage by stage: each definition is one stage of its result as a function of the arguments. -/
module

public import proofs.«01_k».proof.Proof.Gen.PostReferenceIdeal
public import proofs.«01_k».proof.Proof.Gen.PostReferenceIdeal.Run
public import Idealize.ShloMosaic.Lib.Pipeline.ValueKit

@[expose] public section

set_option maxRecDepth 16384

noncomputable section

namespace Cert.PostRef

open Cert.PostReferenceIdeal Cert.PostReferenceIdeal.Gen
open Idealize.ShloMosaic Idealize.ShloMosaic.TcCoe Idealize.SL.Sem

/-- The residual stream after the output projection of attention and convolution. -/
def refX1 (a0 : FVec Ideal S4x4096x1024 .f32) (a1 : FVec Ideal S4x4096x512 .bf16) (a2 : FVec Ideal S4x4096x512 .bf16) (a5 : FVec Ideal S1024x1024 .bf16) : FVec Ideal S4x4096x1024 .f32 :=
  addf a0 (Host.dotGeneral dot_S4x4096x1024_S1024x1024_S4x4096x1024_2_0_01_1_n_n none (concatenate S4x4096x1024 2 [⟨S4x4096x512, (extf .f32 a1 bitsLt_bf16_f32)⟩, ⟨S4x4096x512, (extf .f32 a2 bitsLt_bf16_f32)⟩] concatenates_S4x4096x512_S4x4096x512_S4x4096x1024_d2) (extf .f32 a5 bitsLt_bf16_f32))

/-- The normalised stream that the memory queries are made of. -/
def refHq (a0 : FVec Ideal S4x4096x1024 .f32) (a1 : FVec Ideal S4x4096x512 .bf16) (a2 : FVec Ideal S4x4096x512 .bf16) (a5 : FVec Ideal S1024x1024 .bf16) (a6 : FVec Ideal S1x1024 .f32) : FVec Ideal S4x4096x1024 .f32 :=
  mulf (mulf (refX1 a0 a1 a2 a5) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refX1 a0 a1 a2 a5) (refX1 a0 a1 a2 a5)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 a6 shapeCasts_S1x1024_S1024)))

/-- The memory queries. -/
def refQ (a0 : FVec Ideal S4x4096x1024 .f32) (a1 : FVec Ideal S4x4096x512 .bf16) (a2 : FVec Ideal S4x4096x512 .bf16) (a5 : FVec Ideal S1024x1024 .bf16) (a6 : FVec Ideal S1x1024 .f32) (a7 : FVec Ideal S1024x256 .bf16) : FVec Ideal S4x4096x256 .f32 :=
  Host.dotGeneral dot_S4x4096x1024_S1024x256_S4x4096x256_2_0_01_1_n_n none (refHq a0 a1 a2 a5 a6) (extf .f32 a7 bitsLt_bf16_f32)

/-- The scaled products of queries and memory keys, head by head. -/
def refLogits (a0 : FVec Ideal S4x4096x1024 .f32) (a1 : FVec Ideal S4x4096x512 .bf16) (a2 : FVec Ideal S4x4096x512 .bf16) (a3 : FVec Ideal S4x256x256 .bf16) (a5 : FVec Ideal S1024x1024 .bf16) (a6 : FVec Ideal S1x1024 .f32) (a7 : FVec Ideal S1024x256 .bf16) : FVec Ideal S4x4x4096x256 .f32 :=
  mulf (Host.dotGeneral dot_S4x4096x4x64_S4x256x4x64_S4x4x4096x256_3_3_1_1_02_02 none (shapeCast S4x4096x4x64 (refQ a0 a1 a2 a5 a6 a7) shapeCasts_S4x4096x256_S4x4096x4x64) (shapeCast S4x256x4x64 (extf .f32 a3 bitsLt_bf16_f32) shapeCasts_S4x256x256_S4x256x4x64)) (broadcastInDim S4x4x4096x256 ![] bcast_S_S4x4x4096x256 (constant S_ .f32 0x3E000000#32))

/-- The exponentials of the logits less their row maximum. -/
def refE (a0 : FVec Ideal S4x4096x1024 .f32) (a1 : FVec Ideal S4x4096x512 .bf16) (a2 : FVec Ideal S4x4096x512 .bf16) (a3 : FVec Ideal S4x256x256 .bf16) (a5 : FVec Ideal S1024x1024 .bf16) (a6 : FVec Ideal S1x1024 .f32) (a7 : FVec Ideal S1024x256 .bf16) : FVec Ideal S4x4x4096x256 .f32 :=
  Host.exp (subf (refLogits a0 a1 a2 a3 a5 a6 a7) (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduce FloatOps.maximumf (refLogits a0 a1 a2 a3 a5 a6 a7) (constant S_ .f32 0xFF800000#32) reducesTo_S4x4x4096x256_S4x4x4096_d3 h_S_))))

/-- The attention weights. -/
def refP (a0 : FVec Ideal S4x4096x1024 .f32) (a1 : FVec Ideal S4x4096x512 .bf16) (a2 : FVec Ideal S4x4096x512 .bf16) (a3 : FVec Ideal S4x256x256 .bf16) (a5 : FVec Ideal S1024x1024 .bf16) (a6 : FVec Ideal S1x1024 .f32) (a7 : FVec Ideal S1024x256 .bf16) : FVec Ideal S4x4x4096x256 .f32 :=
  mulf (refE a0 a1 a2 a3 a5 a6 a7) (broadcastInDim S4x4x4096x256 ![0, 1, 2, 3] bcast_S4x4x4096x1_S4x4x4096x256_0_1_2_3 (Host.divf (broadcastInDim S4x4x4096x1 ![] bcast_S_S4x4x4096x1 (constant S_ .f32 0x3F800000#32)) (broadcastInDim S4x4x4096x1 ![0, 1, 2] bcast_S4x4x4096_S4x4x4096x1_0_1_2 (Host.reduceAdd (refE a0 a1 a2 a3 a5 a6 a7) (constant S_ .f32 0x00000000#32) reducesTo_S4x4x4096x256_S4x4x4096_d3 h_S_))))

/-- The weighted sums of the memory values, heads side by side. -/
def refO (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) : FVec Ideal S4x4096x256 .f32 :=
  shapeCast S4x4096x256 (transpose S4x4096x4x64 [0, 3, 1, 2] (Host.dotGeneral dot_S4x256x4x64_S4x4x4096x256_S4x4x64x4096_1_3_3_2_02_01 none (shapeCast S4x256x4x64 (extf .f32 a4 bitsLt_bf16_f32) shapeCasts_S4x256x256_S4x256x4x64) (refP a0 a1 a2 a3 a5 a6 a7)) transposes_S4x4x64x4096_S4x4096x4x64_0_3_1_2) shapeCasts_S4x4096x4x64_S4x4096x256

/-- The residual stream after the memory attention. -/
def refX2 (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) : FVec Ideal S4x4096x1024 .f32 :=
  addf (refX1 a0 a1 a2 a5) (Host.dotGeneral dot_S4x4096x256_S256x1024_S4x4096x1024_2_0_01_1_n_n none (refO a0 a1 a2 a3 a4 a5 a6 a7) (extf .f32 a8 bitsLt_bf16_f32))

/-- The normalised stream that enters the feed-forward part. -/
def refHf (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) : FVec Ideal S4x4096x1024 .f32 :=
  mulf (mulf (refX2 a0 a1 a2 a3 a4 a5 a6 a7 a8) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refX2 a0 a1 a2 a3 a4 a5 a6 a7 a8) (refX2 a0 a1 a2 a3 a4 a5 a6 a7 a8)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 a9 shapeCasts_S1x1024_S1024)))

/-- The first feed-forward product. -/
def refUp (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) : FVec Ideal S4x4096x5632 .f32 :=
  Host.dotGeneral dot_S4x4096x1024_S1024x5632_S4x4096x5632_2_0_01_1_n_n none (refHf a0 a1 a2 a3 a4 a5 a6 a7 a8 a9) (extf .f32 a10 bitsLt_bf16_f32)

/-- The first feed-forward product with two zero rows before it. -/
def refUpExt (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) : FVec Ideal S4x4098x5632 .f32 :=
  concatenate S4x4098x5632 1 [⟨S4x2x5632, (broadcastInDim S4x2x5632 ![] bcast_S_S4x2x5632 (constant S_ .f32 0x00000000#32))⟩, ⟨S4x4096x5632, (refUp a0 a1 a2 a3 a4 a5 a6 a7 a8 a9 a10)⟩] concatenates_S4x2x5632_S4x4096x5632_S4x4098x5632_d1

/-- The three-tap convolution along positions of the first feed-forward product. -/
def refConv (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) : FVec Ideal S4x4096x5632 .f32 :=
  addf (addf (addf (addf (broadcastInDim S4x4096x5632 ![] bcast_S_S4x4096x5632 (constant S_ .f32 0x00000000#32)) (mulf (broadcastInDim S4x4096x5632 ![0, 1, 2] bcast_S1x1x5632_S4x4096x5632_0_1_2 (broadcastInDim S1x1x5632 ![2] bcast_S5632_S1x1x5632_2 (shapeCast S5632 (extractStridedSlice S1x5632 ![0, 0] a11 slices_S3x5632_S1x5632_0_0) shapeCasts_S1x5632_S5632))) (extractStridedSlice S4x4096x5632 ![0, 0, 0] (refUpExt a0 a1 a2 a3 a4 a5 a6 a7 a8 a9 a10) slices_S4x4098x5632_S4x4096x5632_0_0_0))) (mulf (broadcastInDim S4x4096x5632 ![0, 1, 2] bcast_S1x1x5632_S4x4096x5632_0_1_2 (broadcastInDim S1x1x5632 ![2] bcast_S5632_S1x1x5632_2 (shapeCast S5632 (extractStridedSlice S1x5632 ![1, 0] a11 slices_S3x5632_S1x5632_1_0) shapeCasts_S1x5632_S5632))) (extractStridedSlice S4x4096x5632 ![0, 1, 0] (refUpExt a0 a1 a2 a3 a4 a5 a6 a7 a8 a9 a10) slices_S4x4098x5632_S4x4096x5632_0_1_0))) (mulf (broadcastInDim S4x4096x5632 ![0, 1, 2] bcast_S1x1x5632_S4x4096x5632_0_1_2 (broadcastInDim S1x1x5632 ![2] bcast_S5632_S1x1x5632_2 (shapeCast S5632 (extractStridedSlice S1x5632 ![2, 0] a11 slices_S3x5632_S1x5632_2_0) shapeCasts_S1x5632_S5632))) (extractStridedSlice S4x4096x5632 ![0, 2, 0] (refUpExt a0 a1 a2 a3 a4 a5 a6 a7 a8 a9 a10) slices_S4x4098x5632_S4x4096x5632_0_2_0))) (broadcastInDim S4x4096x5632 ![0, 1, 2] bcast_S1x1x5632_S4x4096x5632_0_1_2 (broadcastInDim S1x1x5632 ![2] bcast_S5632_S1x1x5632_2 (shapeCast S5632 a12 shapeCasts_S1x5632_S5632)))

/-- The gated product of the two halves. -/
def refGate (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) : FVec Ideal S4x4096x2816 .f32 :=
  mulf (mulf (extractStridedSlice S4x4096x2816 ![0, 0, 0] (refConv a0 a1 a2 a3 a4 a5 a6 a7 a8 a9 a10 a11 a12) slices_S4x4096x5632_S4x4096x2816_0_0_0) (Host.divf ((broadcastInDim S4x4096x2816 ![] bcast_S_S4x4096x2816) (constant S_ .f32 0x3F800000#32)) (addf ((broadcastInDim S4x4096x2816 ![] bcast_S_S4x4096x2816) (constant S_ .f32 0x3F800000#32)) (Host.exp (Host.negf (extractStridedSlice S4x4096x2816 ![0, 0, 0] (refConv a0 a1 a2 a3 a4 a5 a6 a7 a8 a9 a10 a11 a12) slices_S4x4096x5632_S4x4096x2816_0_0_0)))))) (extractStridedSlice S4x4096x2816 ![0, 0, 2816] (refConv a0 a1 a2 a3 a4 a5 a6 a7 a8 a9 a10 a11 a12) slices_S4x4096x5632_S4x4096x2816_0_0_2816)

/-- The residual stream after the feed-forward part. -/
def refX3 (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) (a13 : FVec Ideal S2816x1024 .bf16) : FVec Ideal S4x4096x1024 .f32 :=
  addf (refX2 a0 a1 a2 a3 a4 a5 a6 a7 a8) (Host.dotGeneral dot_S4x4096x2816_S2816x1024_S4x4096x1024_2_0_01_1_n_n none (refGate a0 a1 a2 a3 a4 a5 a6 a7 a8 a9 a10 a11 a12) (extf .f32 a13 bitsLt_bf16_f32))

/-- The first result: the final normalised stream. -/
def refOut (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) (a13 : FVec Ideal S2816x1024 .bf16) (a14 : FVec Ideal S1x1024 .f32) : FVec Ideal S4x4096x1024 .f32 :=
  mulf (mulf (refX3 a0 a1 a2 a3 a4 a5 a6 a7 a8 a9 a10 a11 a12 a13) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refX3 a0 a1 a2 a3 a4 a5 a6 a7 a8 a9 a10 a11 a12 a13) (refX3 a0 a1 a2 a3 a4 a5 a6 a7 a8 a9 a10 a11 a12 a13)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 a14 shapeCasts_S1x1024_S1024)))

/-- The second result: the last two rows of the first feed-forward product. -/
def refTail (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) : FVec Ideal S4x2x5632 .f32 :=
  extractStridedSlice S4x2x5632 ![0, 4096, 0] (refUpExt a0 a1 a2 a3 a4 a5 a6 a7 a8 a9 a10) slices_S4x4098x5632_S4x2x5632_0_4096_0

end Cert.PostRef

end
-- ==== Proof.PostPure.lean ====
/- The output block of the prompt group: each stage of the kernel's tile, read at a row, is the reference's stage at that row. -/
module

public import proofs.«01_k».proof.Proof.Gen.PostIdeal.Skeleton
public import proofs.«01_k».proof.Proof.PostRef
public import Idealize.ShloMosaic.Lib.Pointwise
public import Idealize.ShloMosaic.Lib.IdealHost

@[expose] public section

set_option maxRecDepth 16384

noncomputable section

namespace Cert.PostPure

open Cert.PostIdeal Cert.PostIdeal.Gen Cert.PostRef
open Idealize.ShloMosaic Idealize.ShloMosaic.TcCoe Idealize.SL.Sem

variable (a0 : FVec Ideal S4x4096x1024 .f32) (a1 a2 : FVec Ideal S4x4096x512 .bf16) (a3 a4 : FVec Ideal S4x256x256 .bf16)
  (a5 : FVec Ideal S1024x1024 .bf16) (a6 : FVec Ideal S1x1024 .f32) (a7 : FVec Ideal S1024x256 .bf16)
  (a8 : FVec Ideal S256x1024 .bf16) (a9 : FVec Ideal S1x1024 .f32) (a10 : FVec Ideal S1024x5632 .bf16)
  (a11 : FVec Ideal S3x5632 .f32) (a12 : FVec Ideal S1x5632 .f32) (a13 : FVec Ideal S2816x1024 .bf16)
  (a14 : FVec Ideal S1x1024 .f32)

/-- The first residual: the two attention outputs through the two halves of the projection. -/
theorem row_x1 (b : Fin 4) (s : Fin 4096) (r : Fin 256) (x : FVec Ideal S1x256x1024 .f32) (a c : FVec Ideal S1x256x512 .bf16)
    (wa wc : FVec Ideal S512x1024 .bf16)
    (hx : ∀ k : Fin 1024, @Eq EReal (x (ix3 (0 : Fin 1) r k)) (a0 (ix3 b s k))) (ha : ∀ k : Fin 512, @Eq EReal (a (ix3 (0 : Fin 1) r k)) (a1 (ix3 b s k)))
    (hc : ∀ k : Fin 512, @Eq EReal (c (ix3 (0 : Fin 1) r k)) (a2 (ix3 b s k)))
    (hwa : ∀ (k : Fin 512) (j : Fin 1024), @Eq EReal (wa (ix2 k j)) (a5 (ix2 (⟨k.val, by omega⟩ : Fin 1024) j)))
    (hwc : ∀ (k : Fin 512) (j : Fin 1024), @Eq EReal (wc (ix2 k j)) (a5 (ix2 (⟨512 + k.val, by omega⟩ : Fin 1024) j))) (j : Fin 1024) :
    @Eq EReal (k0_pay4 (F := Ideal) x a c wa wc (ix2 r j)) (refX1 a0 a1 a2 a5 (ix3 b s j)) := by
  pointwise [k0_pay4, refX1, hx, ha, hc, hwa, hwc]
  rw [add_assoc]

/-- The query projection of the normed row. -/
theorem row_q (b : Fin 4) (s : Fin 4096) (r : Fin 256) (x : FVec Ideal S1x256x1024 .f32) (a c : FVec Ideal S1x256x512 .bf16)
    (wa wc : FVec Ideal S512x1024 .bf16) (g : FVec Ideal S1x1024 .f32) (w : FVec Ideal S1024x256 .bf16)
    (h : ∀ j : Fin 1024, @Eq EReal (k0_pay4 (F := Ideal) x a c wa wc (ix2 r j)) (refX1 a0 a1 a2 a5 (ix3 b s j)))
    (hg : ∀ k : Fin 1024, @Eq EReal (g (ix2 (0 : Fin 1) k)) (a6 (ix2 (0 : Fin 1) k)))
    (hw : ∀ (k : Fin 1024) (l : Fin 256), @Eq EReal (w (ix2 k l)) (a7 (ix2 k l))) (l : Fin 256) :
    @Eq EReal (k0_pay5 (F := Ideal) x a c wa wc g w (ix2 r l)) (refQ a0 a1 a2 a5 a6 a7 (ix3 b s l)) := by
  pointwise [k0_pay5, refQ, refHq, h, hg, hw]

theorem row_x2 (b : Fin 4) (s : Fin 4096) (r : Fin 256) (X : FVec Ideal S256x1024 .f32) (O : FVec Ideal S256x256 .bf16)
    (w : FVec Ideal S256x1024 .bf16)
    (h : ∀ j : Fin 1024, @Eq EReal (X (ix2 r j)) (refX1 a0 a1 a2 a5 (ix3 b s j)))
    (ho : ∀ l : Fin 256, @Eq EReal (O (ix2 r l)) (refO a0 a1 a2 a3 a4 a5 a6 a7 (ix3 b s l)))
    (hw : ∀ (k : Fin 256) (j : Fin 1024), @Eq EReal (w (ix2 k j)) (a8 (ix2 k j))) (j : Fin 1024) :
    @Eq EReal (k0_pay19 (F := Ideal) X O w (ix2 r j)) (refX2 a0 a1 a2 a3 a4 a5 a6 a7 a8 (ix3 b s j)) := by
  pointwise [k0_pay19, refX2, h, ho, hw]

theorem row_hf (b : Fin 4) (s : Fin 4096) (r : Fin 256) (X : FVec Ideal S256x1024 .f32) (O : FVec Ideal S256x256 .bf16)
    (w : FVec Ideal S256x1024 .bf16) (g : FVec Ideal S1x1024 .f32)
    (h : ∀ j : Fin 1024, @Eq EReal (k0_pay19 (F := Ideal) X O w (ix2 r j)) (refX2 a0 a1 a2 a3 a4 a5 a6 a7 a8 (ix3 b s j)))
    (hg : ∀ k : Fin 1024, @Eq EReal (g (ix2 (0 : Fin 1) k)) (a9 (ix2 (0 : Fin 1) k))) (j : Fin 1024) :
    @Eq EReal (k0_pay20 (F := Ideal) X O w g (ix2 r j)) (refHf a0 a1 a2 a3 a4 a5 a6 a7 a8 a9 (ix3 b s j)) := by
  pointwise [k0_pay20, refHf, h, hg]

/-- A column block of the up-projection, under each of its four names. -/
theorem row_up (b : Fin 4) (s : Fin 4096) (r : Fin 256) (X : FVec Ideal S256x1024 .f32) (O : FVec Ideal S256x256 .bf16)
    (w : FVec Ideal S256x1024 .bf16) (g : FVec Ideal S1x1024 .f32) (u : FVec Ideal S1024x1408 .bf16)
    (h : ∀ j : Fin 1024, @Eq EReal (k0_pay20 (F := Ideal) X O w g (ix2 r j)) (refHf a0 a1 a2 a3 a4 a5 a6 a7 a8 a9 (ix3 b s j)))
    (col : Fin 1408 → Fin 5632) (hu : ∀ (k : Fin 1024) (j : Fin 1408), @Eq EReal (u (ix2 k j)) (a10 (ix2 k (col j)))) (j : Fin 1408) :
    @Eq EReal (k0_pay24 (F := Ideal) (k0_pay20 X O w g) u (ix2 r j)) (refUp a0 a1 a2 a3 a4 a5 a6 a7 a8 a9 a10 (ix3 b s (col j))) := by
  pointwise [k0_pay24, refUp, h, hu]

theorem pay21_eq (X : FVec Ideal S256x1024 .f32) (O : FVec Ideal S256x256 .bf16) (w : FVec Ideal S256x1024 .bf16) (g : FVec Ideal S1x1024 .f32)
    (u : FVec Ideal S1024x1408 .bf16) : k0_pay21 X O w g u = k0_pay24 (k0_pay20 X O w g) u := rfl

theorem pay22_eq (X : FVec Ideal S256x1024 .f32) (O : FVec Ideal S256x256 .bf16) (w : FVec Ideal S256x1024 .bf16) (g : FVec Ideal S1x1024 .f32)
    (u : FVec Ideal S1024x1408 .bf16) : k0_pay22 X O w g u = k0_pay24 (k0_pay20 X O w g) u := rfl

theorem pay23_eq (X : FVec Ideal S256x1024 .f32) (O : FVec Ideal S256x256 .bf16) (w : FVec Ideal S256x1024 .bf16) (g : FVec Ideal S1x1024 .f32)
    (u : FVec Ideal S1024x1408 .bf16) : k0_pay23 X O w g u = k0_pay24 (k0_pay20 X O w g) u := rfl

theorem word_head : ∀ l : Fin 256, k0_pay7 (ix2 (0 : Fin 1) l) = BitVec.ofNat 32 (l.val / 64) := by
  decide +kernel

theorem logits_at (b h : Fin 4) (s : Fin 4096) (n : Fin 256) :
    refLogits a0 a1 a2 a3 a5 a6 a7 (ix4 b h s n)
      = (∑ d : Fin 64, refQ a0 a1 a2 a5 a6 a7 (ix3 b s ⟨h.val * 64 + d.val, by omega⟩) * a3 (ix3 b n ⟨h.val * 64 + d.val, by omega⟩))
        * Ideal.ofBits .f32 0x3E000000#32 := by
  pointwise [refLogits]

theorem o_at (b : Fin 4) (s : Fin 4096) (l : Fin 256) :
    refO a0 a1 a2 a3 a4 a5 a6 a7 (ix3 b s l)
      = ∑ n : Fin 256, refP a0 a1 a2 a3 a5 a6 a7 (ix4 b (⟨l.val / 64, by omega⟩ : Fin 4) s n) * a4 (ix3 b n l) := by
  pointwise [refO]
  exact Finset.sum_congr rfl fun n _ => mul_comm _ _

/-- The scale of the logits is a nonnegative real. -/
theorem scale_real : Ideal.ofBits .f32 0x3E000000#32 = (((1 : ℝ) / 8 : ℝ) : EReal) := by
  simp [Ideal.ofBits, Ideal.ieee]
  rw [← EReal.coe_mul]
  exact congrArg _ (by norm_num)

theorem scale_nonneg : 0 ≤ Ideal.ofBits .f32 0x3E000000#32 := by
  rw [scale_real]; exact_mod_cast (by norm_num : (0 : ℝ) ≤ 1 / 8)

theorem scale_ne_top : Ideal.ofBits .f32 0x3E000000#32 ≠ ⊤ := by
  rw [scale_real]; exact EReal.coe_ne_top _

/-- A nonnegative finite scale moves out of a sum. -/
theorem sum_scale {ι : Type} (S : Finset ι) (f : ι → EReal) {z : EReal} (h0 : 0 ≤ z) (h1 : z ≠ ⊤) :
    ∑ i ∈ S, f i * z = (∑ i ∈ S, f i) * z := by
  classical
  induction S using Finset.induction_on with
  | empty => simp
  | insert a S ha ih => rw [Finset.sum_insert ha, Finset.sum_insert ha, ih, EReal.right_distrib_of_nonneg_of_ne_top h0 h1]

/-- The word comparison that picks a head's lanes. -/
theorem pick (a h : Fin 4) (X : EReal) :
    Scalar.select (IntOp.cmpi .eq (BitVec.ofNat 32 a.val) (BitVec.ofNat 32 h.val)) X 0 = if a = h then X else 0 := by
  by_cases e : a = h
  · subst e
    rw [if_pos rfl]
    simp [Scalar.select, IntOp.cmpi]
  · rw [if_neg e]
    have : (IntOp.cmpi .eq (BitVec.ofNat 32 a.val) (BitVec.ofNat 32 h.val)) = 0#1 := by
      revert a h; decide
    rw [this]
    simp [Scalar.select]

/-- A row of queries masked to one head's lanes, against a row of keys: the head's own product, scaled. -/
theorem masked_dot (h : Fin 4) (q k : Fin 256 → EReal) {z : EReal} (h0 : 0 ≤ z) (h1 : z ≠ ⊤) :
    ∑ x : Fin 256, Scalar.select (IntOp.cmpi .eq (BitVec.ofNat 32 (x.val / 64)) (BitVec.ofNat 32 h.val)) (q x * z * k x) 0
      = (∑ d : Fin 64, q ⟨h.val * 64 + d.val, by omega⟩ * k ⟨h.val * 64 + d.val, by omega⟩) * z := by
  rw [Fin.sum_univ_tiles 4 64 rfl, Finset.sum_eq_single h, ← sum_scale _ _ h0 h1]
  · refine Finset.sum_congr rfl fun d _ => ?_
    have e : (h.val * 64 + d.val) / 64 = h.val := by omega
    simp only [e, pick, if_true]
    ac_rfl
  · intro a _ ha
    refine Finset.sum_eq_zero fun d _ => ?_
    have e : (a.val * 64 + d.val) / 64 = a.val := by omega
    simp only [e, pick, if_neg ha]
  · intro hn; exact absurd (Finset.mem_univ h) hn

/-- A head's share of a lane: the whole product on the head's own lanes and nothing elsewhere. -/
theorem lane_share (h : Fin 4) (l : Fin 256) (f : Fin 256 → EReal) :
    ∑ x : Fin 256, Scalar.select (IntOp.cmpi .eq (BitVec.ofNat 32 (l.val / 64)) (BitVec.ofNat 32 h.val)) (f x) 0
      = if (⟨l.val / 64, by omega⟩ : Fin 4) = h then ∑ x, f x else 0 := by
  have e : ∀ X : EReal, Scalar.select (IntOp.cmpi .eq (BitVec.ofNat 32 (l.val / 64)) (BitVec.ofNat 32 h.val)) X 0
      = if (⟨l.val / 64, by omega⟩ : Fin 4) = h then X else 0 := fun X => pick ⟨l.val / 64, by omega⟩ h X
  simp only [e]
  by_cases hh : (⟨l.val / 64, by omega⟩ : Fin 4) = h
  · simp only [if_pos hh]
  · simp only [if_neg hh, Finset.sum_const_zero]

/-- Normed exponentials of a row of logits. -/
def soft (L : Fin 256 → EReal) (n : Fin 256) : EReal :=
  Ideal.exp (L n - Finset.fold max (Ideal.ofBits .f32 0xFF800000#32) L Finset.univ)
    * Ideal.div 1 (∑ x, Ideal.exp (L x - Finset.fold max (Ideal.ofBits .f32 0xFF800000#32) L Finset.univ))

theorem p_at (b h : Fin 4) (s : Fin 4096) (n : Fin 256) :
    @Eq EReal (refP a0 a1 a2 a3 a5 a6 a7 (ix4 b h s n)) (soft (fun n => refLogits a0 a1 a2 a3 a5 a6 a7 (ix4 b h s n)) n) := by
  pointwise [refP, refE, soft]

section Attn

variable (b : Fin 4) (s : Fin 4096) (r : Fin 256) (Q : FVec Ideal S256x256 .f32) (kk vv : FVec Ideal S1x256x256 .bf16)
  (z : Ideal .f32) (hz : z = Ideal.ofBits .f32 0x3E000000#32)
  (hq : ∀ l : Fin 256, @Eq EReal (Q (ix2 r l)) (refQ a0 a1 a2 a5 a6 a7 (ix3 b s l)))
  (hk : ∀ n l : Fin 256, @Eq EReal (kk (ix3 (0 : Fin 1) n l)) (a3 (ix3 b n l)))

include hz hq hk

/-- The masked product of head `h` is the reference's logits of that head. -/
theorem head_logits (h : Fin 4) (w : BitVec 32) (hw : w = BitVec.ofNat 32 h.val) (n : Fin 256) :
    @Eq EReal (∑ x : Fin 256, Scalar.select (IntOp.cmpi .eq (BitVec.ofNat 32 (x.val / 64)) w)
        ((Q (ix2 r x) : EReal) * z * kk (ix3 (0 : Fin 1) n x)) 0)
      (refLogits a0 a1 a2 a3 a5 a6 a7 (ix4 b h s n)) := by
  subst hz hw
  rw [logits_at]
  refine (masked_dot h (fun x => Q (ix2 r x)) (fun x => kk (ix3 (0 : Fin 1) n x)) scale_nonneg scale_ne_top).trans ?_
  simp only [hq, hk]

theorem pay12_at (n : Fin 256) :
    @Eq EReal (k0_pay12 (F := Ideal) Q z kk (ix2 r n)) (refLogits a0 a1 a2 a3 a5 a6 a7 (ix4 b (0 : Fin 4) s n)) := by
  pointwise [k0_pay12, k0_pay11, k0_pay6, k0_pay8, word_head]
  exact head_logits a0 a1 a2 a3 a5 a6 a7 b s r Q kk z hz hq hk 0 _ rfl n

variable (hv : ∀ n l : Fin 256, @Eq EReal (vv (ix3 (0 : Fin 1) n l)) (a4 (ix3 b n l)))

include hv

/-- The first two heads. -/
theorem pay14_at (l : Fin 256) :
    @Eq EReal (k0_pay14 (F := Ideal) (k0_pay6 Q z) k0_pay7 (k0_pay8 kk) (k0_pay9 vv) k0_pay10 k0_pay11 (k0_pay12 Q z kk) (k0_pay13 Q z kk) (ix2 r l))
      ((if (⟨l.val / 64, by omega⟩ : Fin 4) = 0 then ∑ n : Fin 256, refP a0 a1 a2 a3 a5 a6 a7 (ix4 b (0 : Fin 4) s n) * a4 (ix3 b n l) else 0)
        + (if (⟨l.val / 64, by omega⟩ : Fin 4) = 1 then ∑ n : Fin 256, refP a0 a1 a2 a3 a5 a6 a7 (ix4 b (1 : Fin 4) s n) * a4 (ix3 b n l) else 0)) := by
  have h12 := pay12_at a0 a1 a2 a3 a5 a6 a7 b s r Q kk z hz hq hk
  have h1 := head_logits a0 a1 a2 a3 a5 a6 a7 b s r Q kk z hz hq hk 1 1#32 rfl
  rw [← lane_share 0 l, ← lane_share 1 l]
  pointwise [k0_pay14, k0_pay13, k0_pay10, k0_pay11, k0_pay6, k0_pay8, k0_pay9, word_head, h12, p_at, soft, hv, h1]

/-- All four heads, over what the first two left. -/
theorem pay18_at (l : Fin 256) (T : FVec Ideal S256x256 .f32) :
    @Eq EReal (k0_pay18 (F := Ideal) (k0_pay6 Q z) k0_pay7 (k0_pay8 kk) (k0_pay9 vv) T (k0_pay15 k0_pay7) k0_pay16 (k0_pay17 k0_pay7) (ix2 r l))
      ((T (ix2 r l) : EReal)
        + (if (⟨l.val / 64, by omega⟩ : Fin 4) = 2 then ∑ n : Fin 256, refP a0 a1 a2 a3 a5 a6 a7 (ix4 b (2 : Fin 4) s n) * a4 (ix3 b n l) else 0)
        + (if (⟨l.val / 64, by omega⟩ : Fin 4) = 3 then ∑ n : Fin 256, refP a0 a1 a2 a3 a5 a6 a7 (ix4 b (3 : Fin 4) s n) * a4 (ix3 b n l) else 0)) := by
  have h2 := head_logits a0 a1 a2 a3 a5 a6 a7 b s r Q kk z hz hq hk 2 2#32 rfl
  have h3 := head_logits a0 a1 a2 a3 a5 a6 a7 b s r Q kk z hz hq hk 3 3#32 rfl
  rw [← lane_share 2 l, ← lane_share 3 l]
  pointwise [k0_pay18, k0_pay17, k0_pay15, k0_pay16, k0_pay6, k0_pay8, k0_pay9, word_head, p_at, soft, hv, h2, h3]

/-- The attended row. -/
theorem row_o (l : Fin 256) :
    @Eq EReal (k0_pay18 (F := Ideal) (k0_pay6 Q z) k0_pay7 (k0_pay8 kk) (k0_pay9 vv)
        (k0_pay14 (F := Ideal) (k0_pay6 Q z) k0_pay7 (k0_pay8 kk) (k0_pay9 vv) k0_pay10 k0_pay11 (k0_pay12 Q z kk) (k0_pay13 Q z kk))
        (k0_pay15 k0_pay7) k0_pay16 (k0_pay17 k0_pay7) (ix2 r l))
      (refO a0 a1 a2 a3 a4 a5 a6 a7 (ix3 b s l)) := by
  refine (pay18_at a0 a1 a2 a3 a4 a5 a6 a7 b s r Q kk vv z hz hq hk hv l _).trans ?_
  refine (Ideal.add_congr (Ideal.add_congr (pay14_at a0 a1 a2 a3 a4 a5 a6 a7 b s r Q kk vv z hz hq hk hv l) rfl) rfl).trans ?_
  rw [o_at]
  generalize hh : (⟨l.val / 64, by omega⟩ : Fin 4) = h
  fin_cases h <;> simp

end Attn

/-- The extended up-projection: two rows of zeros before the projection itself. -/
theorem upext_at (b : Fin 4) (s : Fin 4098) (j : Fin 5632) :
    @Eq EReal (refUpExt a0 a1 a2 a3 a4 a5 a6 a7 a8 a9 a10 (ix3 b s j))
      (if h : s.val < 2 then 0 else refUp a0 a1 a2 a3 a4 a5 a6 a7 a8 a9 a10 (ix3 b (⟨s.val - 2, by omega⟩ : Fin 4096) j)) := by
  pointwise [refUpExt]

/-- One column block of the depthwise convolution at row `r` of a tile, which is row `s` of batch `b`: bias, the three weight rows, and the
    three shifted rows of the extended up-projection. -/
structure Lane (b : Fin 4) (s : Fin 4096) (r : Fin 256) (col : Fin 1408 → Fin 5632) (B W0 : FVec Ideal S1x1408 .f32) (U0 : FVec Ideal S256x1408 .f32)
    (W1 : FVec Ideal S1x1408 .f32) (U1 : FVec Ideal S256x1408 .f32) (W2 : FVec Ideal S1x1408 .f32) (U2 : FVec Ideal S256x1408 .f32) : Prop where
  bias : ∀ j : Fin 1408, @Eq EReal (B (ix2 (0 : Fin 1) j)) (a12 (ix2 (0 : Fin 1) (col j)))
  w0 : ∀ j : Fin 1408, @Eq EReal (W0 (ix2 (0 : Fin 1) j)) (a11 (ix2 (0 : Fin 3) (col j)))
  w1 : ∀ j : Fin 1408, @Eq EReal (W1 (ix2 (0 : Fin 1) j)) (a11 (ix2 (1 : Fin 3) (col j)))
  w2 : ∀ j : Fin 1408, @Eq EReal (W2 (ix2 (0 : Fin 1) j)) (a11 (ix2 (2 : Fin 3) (col j)))
  u0 : ∀ j : Fin 1408, @Eq EReal (U0 (ix2 r j)) (refUpExt a0 a1 a2 a3 a4 a5 a6 a7 a8 a9 a10 (ix3 b (⟨s.val, by omega⟩ : Fin 4098) (col j)))
  u1 : ∀ j : Fin 1408, @Eq EReal (U1 (ix2 r j)) (refUpExt a0 a1 a2 a3 a4 a5 a6 a7 a8 a9 a10 (ix3 b (⟨1 + s.val, by omega⟩ : Fin 4098) (col j)))
  u2 : ∀ j : Fin 1408, @Eq EReal (U2 (ix2 r j)) (refUpExt a0 a1 a2 a3 a4 a5 a6 a7 a8 a9 a10 (ix3 b (⟨2 + s.val, by omega⟩ : Fin 4098) (col j)))

section Gate

variable {a0 a1 a2 a3 a4 a5 a6 a7 a8 a9 a10 a11 a12} {b : Fin 4} {s : Fin 4096} {r : Fin 256} {col col' : Fin 1408 → Fin 5632}
  {B W0 W1 W2 B' W0' W1' W2' : FVec Ideal S1x1408 .f32} {U0 U1 U2 U0' U1' U2' : FVec Ideal S256x1408 .f32}

/-- The lane's sum is the reference's convolution. -/
theorem Lane.conv (L : Lane a0 a1 a2 a3 a4 a5 a6 a7 a8 a9 a10 a11 a12 b s r col B W0 U0 W1 U1 W2 U2) (j : Fin 1408) :
    @Eq EReal ((B (ix2 (0 : Fin 1) j) : EReal) + W0 (ix2 (0 : Fin 1) j) * U0 (ix2 r j) + W1 (ix2 (0 : Fin 1) j) * U1 (ix2 r j)
        + W2 (ix2 (0 : Fin 1) j) * U2 (ix2 r j))
      (refConv a0 a1 a2 a3 a4 a5 a6 a7 a8 a9 a10 a11 a12 (ix3 b s (col j))) := by
  rw [L.bias, L.w0, L.w1, L.w2, L.u0, L.u1, L.u2]
  pointwise [refConv]
  rw [add_comm _ (a12 _), ← add_assoc, ← add_assoc]

theorem gate_at (x : Fin 2816) (A V : EReal)
    (hA : A = refConv a0 a1 a2 a3 a4 a5 a6 a7 a8 a9 a10 a11 a12 (ix3 b s (⟨x.val, by omega⟩ : Fin 5632)))
    (hV : V = refConv a0 a1 a2 a3 a4 a5 a6 a7 a8 a9 a10 a11 a12 (ix3 b s (⟨2816 + x.val, by omega⟩ : Fin 5632))) :
    @Eq EReal (A * Ideal.div 1 (1 + Ideal.exp (0 - A)) * V) (refGate a0 a1 a2 a3 a4 a5 a6 a7 a8 a9 a10 a11 a12 (ix3 b s x)) := by
  subst hA hV
  pointwise [refGate]
  simp only [zero_sub]

/-- The first half of the gated columns, through the first half of the down-projection. -/
theorem pay28_at {a13 : FVec Ideal S2816x1024 .bf16}
    (L : Lane a0 a1 a2 a3 a4 a5 a6 a7 a8 a9 a10 a11 a12 b s r (fun j => ⟨j.val, by omega⟩) B W0 U0 W1 U1 W2 U2)
    (L' : Lane a0 a1 a2 a3 a4 a5 a6 a7 a8 a9 a10 a11 a12 b s r (fun j => ⟨2816 + j.val, by omega⟩) B' W0' U0' W1' U1' W2' U2')
    (D : FVec Ideal S1408x1024 .bf16)
    (hD : ∀ (k : Fin 1408) (j : Fin 1024), @Eq EReal (D (ix2 k j)) (a13 (ix2 (⟨k.val, by omega⟩ : Fin 2816) j))) (j : Fin 1024) :
    @Eq EReal (k0_pay28 (F := Ideal) k0_pay26 (k0_pay27 B W0 U0 W1 U1 W2 U2) B' W0' U0' W1' U1' W2' U2' D (ix2 r j))
      (∑ x : Fin 1408, refGate a0 a1 a2 a3 a4 a5 a6 a7 a8 a9 a10 a11 a12 (ix3 b s (⟨x.val, by omega⟩ : Fin 2816)) * a13 (ix2 (⟨x.val, by omega⟩ : Fin 2816) j)) := by
  pointwise [k0_pay28, k0_pay26, k0_pay27, hD]
  exact Finset.sum_congr rfl fun x _ => congrArg (· * _) (gate_at ⟨x.val, by omega⟩ _ _ (L.conv x) (L'.conv x))

/-- The second half of the gated columns. -/
theorem pay30_at
    (L : Lane a0 a1 a2 a3 a4 a5 a6 a7 a8 a9 a10 a11 a12 b s r (fun j => ⟨1408 + j.val, by omega⟩) B W0 U0 W1 U1 W2 U2)
    (L' : Lane a0 a1 a2 a3 a4 a5 a6 a7 a8 a9 a10 a11 a12 b s r (fun j => ⟨4224 + j.val, by omega⟩) B' W0' U0' W1' U1' W2' U2') (x : Fin 1408) :
    @Eq EReal (k0_pay30 (F := Ideal) (k0_pay29 B W0 U0) W1 U1 W2 U2 B' W0' U0' W1' U1' W2' U2' (ix2 r x))
      (refGate a0 a1 a2 a3 a4 a5 a6 a7 a8 a9 a10 a11 a12 (ix3 b s (⟨1408 + x.val, by omega⟩ : Fin 2816))) := by
  pointwise [k0_pay30, k0_pay29]
  refine gate_at ⟨1408 + x.val, by omega⟩ _ _ (L.conv x) ((L'.conv x).trans ?_)
  exact congrArg _ (congrArg (ix3 b s) (Fin.ext (by show 4224 + x.val = 2816 + (1408 + x.val); omega)))

end Gate

/-- The row the kernel stores: the two halves of the down-projection added to the residual, and the closing norm. -/
theorem row_out (b : Fin 4) (s : Fin 4096) (r : Fin 256) (X : FVec Ideal S256x1024 .f32) (V : FVec Ideal S256x1024 .f32) (H : FVec Ideal S256x1408 .bf16)
    (D : FVec Ideal S1408x1024 .bf16) (g : FVec Ideal S1x1024 .f32)
    (hX : ∀ j : Fin 1024, @Eq EReal (X (ix2 r j)) (refX2 a0 a1 a2 a3 a4 a5 a6 a7 a8 (ix3 b s j)))
    (hV : ∀ j : Fin 1024, @Eq EReal (V (ix2 r j))
      (∑ x : Fin 1408, refGate a0 a1 a2 a3 a4 a5 a6 a7 a8 a9 a10 a11 a12 (ix3 b s (⟨x.val, by omega⟩ : Fin 2816)) * a13 (ix2 (⟨x.val, by omega⟩ : Fin 2816) j)))
    (hH : ∀ x : Fin 1408, @Eq EReal (H (ix2 r x)) (refGate a0 a1 a2 a3 a4 a5 a6 a7 a8 a9 a10 a11 a12 (ix3 b s (⟨1408 + x.val, by omega⟩ : Fin 2816))))
    (hD : ∀ (k : Fin 1408) (j : Fin 1024), @Eq EReal (D (ix2 k j)) (a13 (ix2 (⟨1408 + k.val, by omega⟩ : Fin 2816) j)))
    (hg : ∀ k : Fin 1024, @Eq EReal (g (ix2 (0 : Fin 1) k)) (a14 (ix2 (0 : Fin 1) k))) (j : Fin 1024) :
    @Eq EReal (k0_pay2 (F := Ideal) X V H D g (ix3 (0 : Fin 1) r j)) (refOut a0 a1 a2 a3 a4 a5 a6 a7 a8 a9 a10 a11 a12 a13 a14 (ix3 b s j)) := by
  have e : ∀ j : Fin 1024, @Eq EReal (refX3 a0 a1 a2 a3 a4 a5 a6 a7 a8 a9 a10 a11 a12 a13 (ix3 b s j))
      ((X (ix2 r j) : EReal) + ((V (ix2 r j) : EReal) + ∑ x : Fin 1408, (H (ix2 r x) : EReal) * D (ix2 x j))) := by
    intro j
    pointwise [refX3]
    rw [Fin.sum_univ_two_halves 1408 1408 rfl, hX, hV]
    simp only [hH, hD]
  pointwise [k0_pay2, refOut, e]
  rw [hg]

end Cert.PostPure

end
-- ==== Proof.PostScratch.lean ====
/- The scratch of the output block: the tile's up-projection below eight rows that carry the end of the tile before. Read from its sixth row on,
   it is a window of the extended up-projection. -/
module

public import proofs.«01_k».proof.Proof.Gen.PostIdeal.Frame
public import Idealize.ShloMosaic.Lib.Pipeline.ValueKit
public import Idealize.ShloMosaic.Lib.Pipeline.ReadBack

@[expose] public section

set_option maxRecDepth 16384

noncomputable section

namespace Cert.PostScratch

open Cert.PostIdeal Cert.PostIdeal.Gen
open Idealize.ShloMosaic Idealize.ShloMosaic.TcCoe Idealize.SL.Sem

theorem emb_val (off size : Fin S264x5632.rank → ℕ) (inb) (x : (Rect.unit (s := S264x5632) off size inb).shape.Idx) (a : Fin 2) :
    ((Rect.unit (s := S264x5632) off size inb).emb x a).val = off a + (x a).val := by
  show off a + 1 * (x a).val = _
  rw [one_mul]

theorem idx_ext {x y : S264x5632.Idx} (h0 : (x 0).val = (y 0).val) (h1 : (x 1).val = (y 1).val) : x = y :=
  funext fun a => by
    fin_cases a
    · exact Fin.ext h0
    · exact Fin.ext h1

/-- Under the last store, its payload. -/
theorem canon_head (r : Rect S264x5632) (w : r.shape.Idx → Elt Ideal .f32) (L' : List (View.Piece (Elt Ideal) S264x5632 .f32)) (y : S264x5632.Idx)
    (x : r.shape.Idx) (e : y = r.emb x) : View.canon (⟨r, w⟩ :: L') y = w x := by
  rw [e]; exact View.canon_cons_emb r w L' x

/-- The scratch's first eight rows. -/
abbrev Rtop : Rect S264x5632 := Rect.unit ![0, 0] ![8, 5632] inb_S264x5632_S8x5632_0_0

def topIdx (q : Fin 8) (j : Fin 5632) : Rtop.shape.Idx := (ix2 q j : S8x5632.Idx)

theorem topIdx_emb (q : Fin 8) (j : Fin 5632) (y : S264x5632.Idx) (h0 : (y 0).val = q.val) (h1 : (y 1).val = j.val) : y = Rtop.emb (topIdx q j) := by
  refine idx_ext ?_ ?_
  · rw [emb_val]; exact h0.trans (Nat.zero_add _).symm
  · rw [emb_val]; exact h1.trans (Nat.zero_add _).symm

theorem canon_top (w : FVec Ideal S8x5632 .f32) (L' : List (View.Piece (Elt Ideal) S264x5632 .f32)) (q : Fin 8) (j : Fin 5632) (y : S264x5632.Idx)
    (h0 : (y 0).val = q.val) (h1 : (y 1).val = j.val) : View.canon (⟨Rtop, w⟩ :: L') y = w (ix2 q j) :=
  canon_head Rtop w L' y (topIdx q j) (topIdx_emb q j y h0 h1)

/-- The stores of a tile's up-projection are blocks of `G`: they cover every row from the eighth on and no row before it. -/
structure Ups (G : S264x5632.Idx → EReal) (L : List (View.Piece (Elt Ideal) S264x5632 .f32)) : Prop where
  val : ∀ p ∈ L, ∀ x : p.1.shape.Idx, @Eq EReal (p.2 x) (G (p.1.emb x))
  cov : ∀ y : S264x5632.Idx, 8 ≤ (y 0).val → ∃ p ∈ L, y ∈ p.1.set
  off : ∀ y : S264x5632.Idx, (y 0).val < 8 → ∀ p ∈ L, y ∉ p.1.set

/-- The four column blocks. -/
theorem ups_intro (G : S264x5632.Idx → EReal) (p0 p1 p2 p3 : FVec Ideal S256x1408 .f32)
    (h0 : ∀ (r : Fin 256) (j : Fin 1408), @Eq EReal (p0 (ix2 r j)) (G (ix2 (⟨8 + r.val, by omega⟩ : Fin 264) (⟨j.val, by omega⟩ : Fin 5632))))
    (h1 : ∀ (r : Fin 256) (j : Fin 1408), @Eq EReal (p1 (ix2 r j)) (G (ix2 (⟨8 + r.val, by omega⟩ : Fin 264) (⟨1408 + j.val, by omega⟩ : Fin 5632))))
    (h2 : ∀ (r : Fin 256) (j : Fin 1408), @Eq EReal (p2 (ix2 r j)) (G (ix2 (⟨8 + r.val, by omega⟩ : Fin 264) (⟨2816 + j.val, by omega⟩ : Fin 5632))))
    (h3 : ∀ (r : Fin 256) (j : Fin 1408), @Eq EReal (p3 (ix2 r j)) (G (ix2 (⟨8 + r.val, by omega⟩ : Fin 264) (⟨4224 + j.val, by omega⟩ : Fin 5632)))) :
    Ups G [⟨Rect.unit ![8, 4224] ![256, 1408] inb_S264x5632_S256x1408_8_4224, p3⟩, ⟨Rect.unit ![8, 2816] ![256, 1408] inb_S264x5632_S256x1408_8_2816, p2⟩,
      ⟨Rect.unit ![8, 1408] ![256, 1408] inb_S264x5632_S256x1408_8_1408, p1⟩, ⟨Rect.unit ![8, 0] ![256, 1408] inb_S264x5632_S256x1408_8_0, p0⟩] where
  val := by
    intro p hp x
    simp only [List.mem_cons, List.not_mem_nil, or_false] at hp
    rcases hp with rfl | rfl | rfl | rfl
    · exact (congrArg p3 (eq_ix2 x)).trans ((h3 (x 0) (x 1)).trans (congrArg G (idx_ext (emb_val _ _ inb_S264x5632_S256x1408_8_4224 x 0).symm ((emb_val _ _ inb_S264x5632_S256x1408_8_4224 x 1)).symm)))
    · exact (congrArg p2 (eq_ix2 x)).trans ((h2 (x 0) (x 1)).trans (congrArg G (idx_ext (emb_val _ _ inb_S264x5632_S256x1408_8_2816 x 0).symm ((emb_val _ _ inb_S264x5632_S256x1408_8_2816 x 1)).symm)))
    · exact (congrArg p1 (eq_ix2 x)).trans ((h1 (x 0) (x 1)).trans (congrArg G (idx_ext (emb_val _ _ inb_S264x5632_S256x1408_8_1408 x 0).symm ((emb_val _ _ inb_S264x5632_S256x1408_8_1408 x 1)).symm)))
    · exact (congrArg p0 (eq_ix2 x)).trans ((h0 (x 0) (x 1)).trans (congrArg G (idx_ext (emb_val _ _ inb_S264x5632_S256x1408_8_0 x 0).symm ((emb_val _ _ inb_S264x5632_S256x1408_8_0 x 1).trans (Nat.zero_add _)).symm)))
  cov := by
    intro y hy
    have hr : (y 0).val < 264 := (y 0).isLt
    have hc : (y 1).val < 5632 := (y 1).isLt
    simp only [List.mem_cons, List.not_mem_nil, or_false, exists_eq_or_imp, exists_eq_left, Rect.mem_set_unit, Fin.forall_fin_two]
    simp
    omega
  off := by
    intro y hy p hp
    simp only [List.mem_cons, List.not_mem_nil, or_false] at hp
    rcases hp with rfl | rfl | rfl | rfl <;>
      · rw [Rect.mem_set_unit]
        intro h
        have := (h 0).1
        simp at this
        omega

/-- Off its last stores, a list of stores is its earlier ones. -/
theorem canon_append_off (L' : List (View.Piece (Elt Ideal) S264x5632 .f32)) (y : S264x5632.Idx) :
    ∀ L : List (View.Piece (Elt Ideal) S264x5632 .f32), (∀ p ∈ L, y ∉ p.1.set) → View.canon (L ++ L') y = View.canon L' y
  | [], _ => rfl
  | p :: L, h => by
    rw [List.cons_append, View.canon_cons_of_not_mem _ _ (h p (List.mem_cons_self ..))]
    exact canon_append_off L' y L fun q hq => h q (List.mem_cons_of_mem _ hq)

variable {G : S264x5632.Idx → EReal} {L : List (View.Piece (Elt Ideal) S264x5632 .f32)} (hU : Ups G L)

include hU

/-- A load from the rows the tile has written. -/
theorem load_new (R : Rect S264x5632) (x : R.shape.Idx) (h : 8 ≤ ((R.emb x) 0).val) :
    @Eq EReal ((View.whole cc0_scratch0).readCov L R.toLoadRect x) (G (R.emb x)) := by
  rw [View.readCov_eq_canon']
  exact View.canon_apply_of_pieces G L hU.val (R.emb x) (hU.cov _ h)

/-- A load after the zeroing store of a batch's first tile. -/
theorem load_first (Z : FVec Ideal S8x5632 .f32) (hZ : ∀ (y : S8x5632.Idx), @Eq EReal (Z y) 0)
    (hG : ∀ y : S264x5632.Idx, 6 ≤ (y 0).val → (y 0).val < 8 → G y = 0)
    (R : Rect S264x5632) (x : R.shape.Idx) (h : 6 ≤ ((R.emb x) 0).val) :
    @Eq EReal ((View.whole cc0_scratch0).readCov (L ++ [⟨Rtop, Z⟩]) R.toLoadRect x) (G (R.emb x)) := by
  rw [View.readCov_eq_canon']
  show View.canon _ (R.emb x) = _
  by_cases h8 : 8 ≤ ((R.emb x) 0).val
  · exact View.canon_append_of_pieces G _ L hU.val _ (hU.cov _ h8)
  · rw [canon_append_off _ _ _ (hU.off _ (by omega)), hG _ h (by omega)]
    exact (canon_top Z [] (⟨((R.emb x) 0).val, by omega⟩ : Fin 8) ((R.emb x) 1) (R.emb x) rfl rfl).trans (hZ _)

/-- A load over what the tile before left. -/
theorem load_carried (hw : (Memref.whole cc0_scratch0).IsWhole) (P : FVec Ideal S264x5632 .f32)
    (hG : ∀ y : S264x5632.Idx, 6 ≤ (y 0).val → (y 0).val < 8 → @Eq EReal (P y) (G y))
    (R : Rect S264x5632) (x : R.shape.Idx) (h : 6 ≤ ((R.emb x) 0).val) :
    @Eq EReal (View.ld (View.read (Elt Ideal) (View.whole cc0_scratch0) ((View.whole cc0_scratch0).writes (Elt Ideal) (hw.unread P) L)) R x) (G (R.emb x)) := by
  show View.read (Elt Ideal) (View.whole cc0_scratch0) ((View.whole cc0_scratch0).writes (Elt Ideal) (hw.unread P) L) (R.emb x) = _
  by_cases h8 : 8 ≤ ((R.emb x) 0).val
  · rw [View.read_writes_apply_eq_canon _ _ _ _ (hU.cov _ h8)]
    exact View.canon_apply_of_pieces G L hU.val (R.emb x) (hU.cov _ h8)
  · rw [View.read_writes_apply_of_forall_not_mem _ _ _ _ (hU.off _ (by omega))]
    have e := congrFun (read_unread_whole (Val := Elt Ideal) cc0_scratch0 hw P) (R.emb x)
    exact e.trans (hG _ h (by omega))

/-- What the tile leaves in rows six and seven: the last two rows of its window. -/
theorem carry (L' : List (View.Piece (Elt Ideal) S264x5632 .f32)) (c : FVec Ideal S8x5632 .f32)
    (hc : ∀ (q : Fin 8) (j : Fin 5632), @Eq EReal (c (ix2 q j)) (G (ix2 (⟨256 + q.val, by omega⟩ : Fin 264) j)))
    (y : S264x5632.Idx) (h : (y 0).val < 8) :
    @Eq EReal (View.canon (⟨Rtop, c⟩ :: L') y) (G (ix2 (⟨256 + (y 0).val, by omega⟩ : Fin 264) (y 1))) := by
  exact (canon_top c L' (⟨(y 0).val, h⟩ : Fin 8) (y 1) y rfl rfl).trans (hc _ _)

end Cert.PostScratch

end
-- ==== Proof.PostBlocks.lean ====
/- The output block of the prompt group: the blocks of the fifteen inputs at a tile, and each stage of the tile over them. -/
module

public import proofs.«01_k».proof.Proof.Gen.PostIdeal.Frame
public import proofs.«01_k».proof.Proof.PostPure
public import proofs.«01_k».proof.Proof.PostScratch
public import Idealize.ShloMosaic.Lib.Pipeline.ValueKit
public import Idealize.ShloMosaic.Lib.Claim

@[expose] public section

set_option maxRecDepth 16384

noncomputable section

namespace Cert.PostBlocks

open Cert.PostIdeal Cert.PostIdeal.Gen Cert.PostRef Cert.PostPure Cert.PostScratch
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, 0, 0]
    ∧ win0_4.index t = ![t.val / 16, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val / 16, t.val % 16, 0]
    ∧ win0_16.index t = ![t.val / 16, 0, 0] :=
  (by decide +kernel : ∀ t : Fin grid0.N, _)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)

theorem tlt (t : Fin cfg0.N) : t.val < 64 := t.isLt

/-- The batch a tile belongs to. -/
abbrev bt (t : Fin cfg0.N) : Fin 4 := ⟨t.val / 16, by have := tlt t; omega⟩

/-- The row of its batch that row `r` of a tile is. -/
abbrev st (t : Fin cfg0.N) (r : Fin 256) : Fin 4096 := ⟨256 * (t.val % 16) + r.val, by omega⟩

theorem blk0 (c : Dev nD) (t : Fin cfg0.N) (r : Fin 256) (k : Fin 1024) :
    @Eq EReal (iblk m c 0 t (ix3 (0 : Fin 1) r k)) (A0 m c (ix3 (bt t) (st t r) k)) := by
  blk_point [iblk, V, idx t]

theorem blk1 (c : Dev nD) (t : Fin cfg0.N) (r : Fin 256) (k : Fin 512) :
    @Eq EReal (iblk m c 1 t (ix3 (0 : Fin 1) r k)) (A1 m c (ix3 (bt t) (st t r) k)) := by
  blk_point [iblk, V, idx t]

theorem blk2 (c : Dev nD) (t : Fin cfg0.N) (r : Fin 256) (k : Fin 512) :
    @Eq EReal (iblk m c 2 t (ix3 (0 : Fin 1) r k)) (A2 m c (ix3 (bt t) (st t r) k)) := by
  blk_point [iblk, V, idx t]

theorem blk3 (c : Dev nD) (t : Fin cfg0.N) (n l : Fin 256) :
    @Eq EReal (iblk m c 3 t (ix3 (0 : Fin 1) n l)) (A3 m c (ix3 (bt t) n l)) := by
  blk_point [iblk, V, idx t]

theorem blk4 (c : Dev nD) (t : Fin cfg0.N) (n l : Fin 256) :
    @Eq EReal (iblk m c 4 t (ix3 (0 : Fin 1) n l)) (A4 m c (ix3 (bt t) n l)) := by
  blk_point [iblk, V, idx t]

theorem blk5 (c : Dev nD) (t : Fin cfg0.N) (k : Fin 1024) (j : Fin 1024) :
    @Eq EReal (iblk m c 5 t (ix2 k j)) (A5 m c (ix2 k j)) := by
  blk_point [iblk, V, idx t]

theorem blk6 (c : Dev nD) (t : Fin cfg0.N) (k : Fin 1) (j : Fin 1024) :
    @Eq EReal (iblk m c 6 t (ix2 k j)) (A6 m c (ix2 k j)) := by
  blk_point [iblk, V, idx t]

theorem blk7 (c : Dev nD) (t : Fin cfg0.N) (k : Fin 1024) (j : Fin 256) :
    @Eq EReal (iblk m c 7 t (ix2 k j)) (A7 m c (ix2 k j)) := by
  blk_point [iblk, V, idx t]

theorem blk8 (c : Dev nD) (t : Fin cfg0.N) (k : Fin 256) (j : Fin 1024) :
    @Eq EReal (iblk m c 8 t (ix2 k j)) (A8 m c (ix2 k j)) := by
  blk_point [iblk, V, idx t]

theorem blk9 (c : Dev nD) (t : Fin cfg0.N) (k : Fin 1) (j : Fin 1024) :
    @Eq EReal (iblk m c 9 t (ix2 k j)) (A9 m c (ix2 k j)) := by
  blk_point [iblk, V, idx t]

theorem blk10 (c : Dev nD) (t : Fin cfg0.N) (k : Fin 1024) (j : Fin 5632) :
    @Eq EReal (iblk m c 10 t (ix2 k j)) (A10 m c (ix2 k j)) := by
  blk_point [iblk, V, idx t]

theorem blk11 (c : Dev nD) (t : Fin cfg0.N) (k : Fin 3) (j : Fin 5632) :
    @Eq EReal (iblk m c 11 t (ix2 k j)) (A11 m c (ix2 k j)) := by
  blk_point [iblk, V, idx t]

theorem blk12 (c : Dev nD) (t : Fin cfg0.N) (k : Fin 1) (j : Fin 5632) :
    @Eq EReal (iblk m c 12 t (ix2 k j)) (A12 m c (ix2 k j)) := by
  blk_point [iblk, V, idx t]

theorem blk13 (c : Dev nD) (t : Fin cfg0.N) (k : Fin 2816) (j : Fin 1024) :
    @Eq EReal (iblk m c 13 t (ix2 k j)) (A13 m c (ix2 k j)) := by
  blk_point [iblk, V, idx t]

theorem blk14 (c : Dev nD) (t : Fin cfg0.N) (k : Fin 1) (j : Fin 1024) :
    @Eq EReal (iblk m c 14 t (ix2 k j)) (A14 m c (ix2 k j)) := by
  blk_point [iblk, V, idx t]

theorem ld5 (c : Dev nD) (t : Fin cfg0.N) (o0 o1 n0 n1 : ℕ) (inb) (k : Fin n0) (j : Fin n1) (k' : Fin 1024) (j' : Fin 1024)
    (hk : k'.val = o0 + k.val) (hj : j'.val = o1 + j.val) :
    @Eq EReal (View.ld (iblk m c 5 t) (Rect.unit (s := S1024x1024) ![o0, o1] ![n0, n1] inb) (ix2 k j)) (A5 m c (ix2 k' j')) := by
  have e : (Rect.unit (s := S1024x1024) ![o0, o1] ![n0, n1] inb).emb (ix2 k j) = ix2 k' j' := funext fun a => by
    fin_cases a
    · exact Fin.ext (show o0 + 1 * k.val = k'.val by omega)
    · exact Fin.ext (show o1 + 1 * j.val = j'.val by omega)
  exact (congrArg (iblk m c 5 t) e).trans (blk5 m c t k' j')

theorem ld10 (c : Dev nD) (t : Fin cfg0.N) (o0 o1 n0 n1 : ℕ) (inb) (k : Fin n0) (j : Fin n1) (k' : Fin 1024) (j' : Fin 5632)
    (hk : k'.val = o0 + k.val) (hj : j'.val = o1 + j.val) :
    @Eq EReal (View.ld (iblk m c 10 t) (Rect.unit (s := S1024x5632) ![o0, o1] ![n0, n1] inb) (ix2 k j)) (A10 m c (ix2 k' j')) := by
  have e : (Rect.unit (s := S1024x5632) ![o0, o1] ![n0, n1] inb).emb (ix2 k j) = ix2 k' j' := funext fun a => by
    fin_cases a
    · exact Fin.ext (show o0 + 1 * k.val = k'.val by omega)
    · exact Fin.ext (show o1 + 1 * j.val = j'.val by omega)
  exact (congrArg (iblk m c 10 t) e).trans (blk10 m c t k' j')

theorem ld11 (c : Dev nD) (t : Fin cfg0.N) (o0 o1 n0 n1 : ℕ) (inb) (k : Fin n0) (j : Fin n1) (k' : Fin 3) (j' : Fin 5632)
    (hk : k'.val = o0 + k.val) (hj : j'.val = o1 + j.val) :
    @Eq EReal (View.ld (iblk m c 11 t) (Rect.unit (s := S3x5632) ![o0, o1] ![n0, n1] inb) (ix2 k j)) (A11 m c (ix2 k' j')) := by
  have e : (Rect.unit (s := S3x5632) ![o0, o1] ![n0, n1] inb).emb (ix2 k j) = ix2 k' j' := funext fun a => by
    fin_cases a
    · exact Fin.ext (show o0 + 1 * k.val = k'.val by omega)
    · exact Fin.ext (show o1 + 1 * j.val = j'.val by omega)
  exact (congrArg (iblk m c 11 t) e).trans (blk11 m c t k' j')

theorem ld12 (c : Dev nD) (t : Fin cfg0.N) (o0 o1 n0 n1 : ℕ) (inb) (k : Fin n0) (j : Fin n1) (k' : Fin 1) (j' : Fin 5632)
    (hk : k'.val = o0 + k.val) (hj : j'.val = o1 + j.val) :
    @Eq EReal (View.ld (iblk m c 12 t) (Rect.unit (s := S1x5632) ![o0, o1] ![n0, n1] inb) (ix2 k j)) (A12 m c (ix2 k' j')) := by
  have e : (Rect.unit (s := S1x5632) ![o0, o1] ![n0, n1] inb).emb (ix2 k j) = ix2 k' j' := funext fun a => by
    fin_cases a
    · exact Fin.ext (show o0 + 1 * k.val = k'.val by omega)
    · exact Fin.ext (show o1 + 1 * j.val = j'.val by omega)
  exact (congrArg (iblk m c 12 t) e).trans (blk12 m c t k' j')

theorem ld13 (c : Dev nD) (t : Fin cfg0.N) (o0 o1 n0 n1 : ℕ) (inb) (k : Fin n0) (j : Fin n1) (k' : Fin 2816) (j' : Fin 1024)
    (hk : k'.val = o0 + k.val) (hj : j'.val = o1 + j.val) :
    @Eq EReal (View.ld (iblk m c 13 t) (Rect.unit (s := S2816x1024) ![o0, o1] ![n0, n1] inb) (ix2 k j)) (A13 m c (ix2 k' j')) := by
  have e : (Rect.unit (s := S2816x1024) ![o0, o1] ![n0, n1] inb).emb (ix2 k j) = ix2 k' j' := funext fun a => by
    fin_cases a
    · exact Fin.ext (show o0 + 1 * k.val = k'.val by omega)
    · exact Fin.ext (show o1 + 1 * j.val = j'.val by omega)
  exact (congrArg (iblk m c 13 t) e).trans (blk13 m c t k' j')

section Tile

variable (c : Dev nD) (t : Fin cfg0.N)

abbrev W5a : FVec Ideal S512x1024 .bf16 := View.ld (iblk m c 5 t) (Rect.unit (s := S1024x1024) ![0, 0] ![512, 1024] inb_S1024x1024_S512x1024_0_0)
abbrev W5b : FVec Ideal S512x1024 .bf16 := View.ld (iblk m c 5 t) (Rect.unit (s := S1024x1024) ![512, 0] ![512, 1024] inb_S1024x1024_S512x1024_512_0)
abbrev X1 : FVec Ideal S256x1024 .f32 := k0_pay4 (iblk m c 0 t) (iblk m c 1 t) (iblk m c 2 t) (W5a m c t) (W5b m c t)
abbrev QP : FVec Ideal S256x256 .bf16 := k0_pay5 (iblk m c 0 t) (iblk m c 1 t) (iblk m c 2 t) (W5a m c t) (W5b m c t) (iblk m c 6 t) (iblk m c 7 t)
abbrev Z8 : Ideal .f32 := FloatOps.ofBits FTy.f32 1040187392#32
abbrev OO : FVec Ideal S256x256 .bf16 :=
  k0_pay18 (F := Ideal) (k0_pay6 (QP m c t) Z8) k0_pay7 (k0_pay8 (iblk m c 3 t)) (k0_pay9 (iblk m c 4 t))
    (k0_pay14 (F := Ideal) (k0_pay6 (QP m c t) Z8) k0_pay7 (k0_pay8 (iblk m c 3 t)) (k0_pay9 (iblk m c 4 t)) k0_pay10 k0_pay11
      (k0_pay12 (QP m c t) Z8 (iblk m c 3 t)) (k0_pay13 (QP m c t) Z8 (iblk m c 3 t)))
    (k0_pay15 k0_pay7) k0_pay16 (k0_pay17 k0_pay7)

theorem x1_at (r : Fin 256) (j : Fin 1024) :
    @Eq EReal (X1 m c t (ix2 r j)) (refX1 (A0 m c) (A1 m c) (A2 m c) (A5 m c) (ix3 (bt t) (st t r) j)) :=
  row_x1 (A0 m c) (A1 m c) (A2 m c) (A5 m c) (bt t) (st t r) r _ _ _ _ _ (blk0 m c t r) (blk1 m c t r) (blk2 m c t r)
    (fun k j => ld5 m c t 0 0 512 1024 _ k j _ _ (Nat.zero_add _).symm (Nat.zero_add _).symm)
    (fun k j => ld5 m c t 512 0 512 1024 _ k j _ _ rfl (Nat.zero_add _).symm) j

theorem q_at (r : Fin 256) (l : Fin 256) :
    @Eq EReal (QP m c t (ix2 r l)) (refQ (A0 m c) (A1 m c) (A2 m c) (A5 m c) (A6 m c) (A7 m c) (ix3 (bt t) (st t r) l)) :=
  row_q (A0 m c) (A1 m c) (A2 m c) (A5 m c) (A6 m c) (A7 m c) (bt t) (st t r) r _ _ _ _ _ _ _ (x1_at m c t r) (fun k => blk6 m c t 0 k) (blk7 m c t) l

theorem o_row (r : Fin 256) (l : Fin 256) :
    @Eq EReal (OO m c t (ix2 r l)) (refO (A0 m c) (A1 m c) (A2 m c) (A3 m c) (A4 m c) (A5 m c) (A6 m c) (A7 m c) (ix3 (bt t) (st t r) l)) :=
  row_o (A0 m c) (A1 m c) (A2 m c) (A3 m c) (A4 m c) (A5 m c) (A6 m c) (A7 m c) (bt t) (st t r) r (QP m c t) (iblk m c 3 t) (iblk m c 4 t) Z8 rfl
    (q_at m c t r) (blk3 m c t) (blk4 m c t) l

theorem x2_at (r : Fin 256) (j : Fin 1024) :
    @Eq EReal (k0_pay19 (F := Ideal) (X1 m c t) (OO m c t) (iblk m c 8 t) (ix2 r j))
      (refX2 (A0 m c) (A1 m c) (A2 m c) (A3 m c) (A4 m c) (A5 m c) (A6 m c) (A7 m c) (A8 m c) (ix3 (bt t) (st t r) j)) :=
  row_x2 (A0 m c) (A1 m c) (A2 m c) (A3 m c) (A4 m c) (A5 m c) (A6 m c) (A7 m c) (A8 m c) (bt t) (st t r) r _ _ _ (x1_at m c t r) (o_row m c t r) (blk8 m c t) j

theorem hf_at (r : Fin 256) (j : Fin 1024) :
    @Eq EReal (k0_pay20 (F := Ideal) (X1 m c t) (OO m c t) (iblk m c 8 t) (iblk m c 9 t) (ix2 r j))
      (refHf (A0 m c) (A1 m c) (A2 m c) (A3 m c) (A4 m c) (A5 m c) (A6 m c) (A7 m c) (A8 m c) (A9 m c) (ix3 (bt t) (st t r) j)) :=
  row_hf (A0 m c) (A1 m c) (A2 m c) (A3 m c) (A4 m c) (A5 m c) (A6 m c) (A7 m c) (A8 m c) (A9 m c) (bt t) (st t r) r _ _ _ _ (x2_at m c t r) (fun k => blk9 m c t 0 k) j

abbrev UPX : FVec Ideal Cert.PostReferenceIdeal.S4x4098x5632 .f32 :=
  refUpExt (A0 m c) (A1 m c) (A2 m c) (A3 m c) (A4 m c) (A5 m c) (A6 m c) (A7 m c) (A8 m c) (A9 m c) (A10 m c)

/-- The window of the extended up-projection that a tile's scratch holds, from its sixth row on. -/
def G (y : S264x5632.Idx) : EReal :=
  UPX m c (ix3 (bt t) (⟨256 * (t.val % 16) + ((y 0).val - 6), by have : (y 0).val < 264 := (y 0).isLt; omega⟩ : Fin 4098) (y 1))

theorem G_eq (y : S264x5632.Idx) (s : Fin 4098) (j : Fin 5632) (hs : s.val = 256 * (t.val % 16) + ((y 0).val - 6)) (hj : j.val = (y 1).val) :
    G m c t y = UPX m c (ix3 (bt t) s j) :=
  congrArg (UPX m c) (congr (congrArg (ix3 (bt t)) (Fin.ext hs.symm)) (Fin.ext hj.symm))

theorem up_at (o : ℕ) (ho : o + 1408 ≤ 5632) (inb) (r : Fin 256) (j : Fin 1408) (y : S264x5632.Idx) (h0 : (y 0).val = 8 + r.val) (h1 : (y 1).val = o + j.val) :
    @Eq EReal (k0_pay24 (F := Ideal) (k0_pay20 (X1 m c t) (OO m c t) (iblk m c 8 t) (iblk m c 9 t))
      (View.ld (iblk m c 10 t) (Rect.unit (s := S1024x5632) ![0, o] ![1024, 1408] inb)) (ix2 r j)) (G m c t y) := by
  refine (row_up (A0 m c) (A1 m c) (A2 m c) (A3 m c) (A4 m c) (A5 m c) (A6 m c) (A7 m c) (A8 m c) (A9 m c) (A10 m c) (bt t) (st t r) r _ _ _ _ _ (hf_at m c t r)
    (fun j => ⟨o + j.val, by omega⟩) (fun k j => ld10 m c t 0 o 1024 1408 _ k j _ _ (Nat.zero_add _).symm rfl) j).trans ?_
  rw [G_eq m c t y (⟨256 * (t.val % 16) + (2 + r.val), by omega⟩ : Fin 4098) (⟨o + j.val, by omega⟩ : Fin 5632)
    (show 256 * (t.val % 16) + (2 + r.val) = 256 * (t.val % 16) + ((y 0).val - 6) by rw [h0]; omega) h1.symm]
  refine ((upext_at _ _ _ _ _ _ _ _ _ _ _ _ _ _).trans ?_).symm
  rw [dif_neg (show ¬ 256 * (t.val % 16) + (2 + r.val) < 2 by omega)]
  exact congrArg (refUp _ _ _ _ _ _ _ _ _ _ _) (congrArg (fun s : Fin 4096 => ix3 (bt t) s (⟨o + j.val, by omega⟩ : Fin 5632))
    (Fin.ext (show 256 * (t.val % 16) + (2 + r.val) - 2 = 256 * (t.val % 16) + r.val by omega)))

/-- The tile's four stores, last first. -/
abbrev UPS : List (View.Piece (Elt Ideal) S264x5632 .f32) :=
  [⟨Rect.unit ![8, 4224] ![256, 1408] inb_S264x5632_S256x1408_8_4224, k0_pay24 (k0_pay20 (X1 m c t) (OO m c t) (iblk m c 8 t) (iblk m c 9 t))
      (View.ld (iblk m c 10 t) (Rect.unit (s := S1024x5632) ![0, 4224] ![1024, 1408] inb_S1024x5632_S1024x1408_0_4224))⟩,
    ⟨Rect.unit ![8, 2816] ![256, 1408] inb_S264x5632_S256x1408_8_2816, k0_pay23 (X1 m c t) (OO m c t) (iblk m c 8 t) (iblk m c 9 t)
      (View.ld (iblk m c 10 t) (Rect.unit (s := S1024x5632) ![0, 2816] ![1024, 1408] inb_S1024x5632_S1024x1408_0_2816))⟩,
    ⟨Rect.unit ![8, 1408] ![256, 1408] inb_S264x5632_S256x1408_8_1408, k0_pay22 (X1 m c t) (OO m c t) (iblk m c 8 t) (iblk m c 9 t)
      (View.ld (iblk m c 10 t) (Rect.unit (s := S1024x5632) ![0, 1408] ![1024, 1408] inb_S1024x5632_S1024x1408_0_1408))⟩,
    ⟨Rect.unit ![8, 0] ![256, 1408] inb_S264x5632_S256x1408_8_0, k0_pay21 (X1 m c t) (OO m c t) (iblk m c 8 t) (iblk m c 9 t)
      (View.ld (iblk m c 10 t) (Rect.unit (s := S1024x5632) ![0, 0] ![1024, 1408] inb_S1024x5632_S1024x1408_0_0))⟩]

theorem ups_at : Ups (G m c t) (UPS m c t) :=
  ups_intro (G m c t) _ _ _ _
    (fun r j => up_at m c t 0 (by omega) _ r j _ rfl (Nat.zero_add _).symm)
    (fun r j => up_at m c t 1408 (by omega) _ r j _ rfl rfl)
    (fun r j => up_at m c t 2816 (by omega) _ r j _ rfl rfl)
    (fun r j => up_at m c t 4224 (by omega) _ r j _ rfl rfl)

end Tile

end Cert.PostBlocks

end
-- ==== Proof.PostValue.lean ====
/- The output block of the prompt group: what the kernel leaves in its two result arrays is the reference's term. -/
module

public import proofs.«01_k».proof.Proof.PostBlocks

@[expose] public section

set_option maxRecDepth 16384

noncomputable section

namespace Cert.PostValue

open Cert.PostIdeal Cert.PostIdeal.Gen Cert.PostRef Cert.PostPure Cert.PostScratch Cert.PostBlocks
open Idealize.ShloMosaic Idealize.ShloMosaic.TcCoe Idealize.SL.Sem
open Idealize.ShloMosaic.Pipeline (Dat)

variable (m : (ℓ : Loc nD τ sig) → Buf (Elt Ideal) ℓ)

section Tile

variable (c : Dev nD) (t : Fin cfg0.N)

theorem up0 (q : Fin 2) (j : Fin 5632) : @Eq EReal (UPX m c (ix3 (bt t) (⟨q.val, by omega⟩ : Fin 4098) j)) 0 := by
  refine (upext_at _ _ _ _ _ _ _ _ _ _ _ _ _ _).trans ?_
  rw [dif_pos q.isLt]

/-- In a batch's first tile the two rows above the tile are zeros. -/
theorem G_first (h : t.val % 16 = 0) (y : S264x5632.Idx) (h6 : 6 ≤ (y 0).val) (h8 : (y 0).val < 8) : G m c t y = 0 := by
  rw [G_eq m c t y (⟨(y 0).val - 6, by omega⟩ : Fin 4098) (y 1) (by show (y 0).val - 6 = _; omega) rfl]
  exact up0 m c t ⟨(y 0).val - 6, by omega⟩ (y 1)

theorem zeros (y : S8x5632.Idx) : @Eq EReal (k0_pay3 (F := Ideal) y) 0 := by
  pointwise [k0_pay3]

/-- The loads of a batch's first tile. -/
theorem load_a (h : t.val % 16 = 0) (R : Rect S264x5632) (x : R.shape.Idx) (h6 : 6 ≤ ((R.emb x) 0).val) :
    @Eq EReal ((View.whole cc0_scratch0).readCov (UPS m c t ++ [⟨Rtop, k0_pay3 (F := Ideal)⟩]) R.toLoadRect x) (G m c t (R.emb x)) :=
  load_first (ups_at m c t) k0_pay3 zeros (G_first m c t h) R x h6

/-- The same with the stores written out as one list. -/
theorem load_a' (h : t.val % 16 = 0) (R : Rect S264x5632) (x : R.shape.Idx) (h6 : 6 ≤ ((R.emb x) 0).val) (p0 p1 p2 p3 : View.Piece (Elt Ideal) S264x5632 .f32)
    (hp : UPS m c t = [p3, p2, p1, p0]) :
    @Eq EReal ((View.whole cc0_scratch0).readCov [p3, p2, p1, p0, ⟨Rtop, k0_pay3 (F := Ideal)⟩] R.toLoadRect x) (G m c t (R.emb x)) := by
  have e := load_a m c t h R x h6
  rw [hp] at e
  exact e

theorem pay1_at (X : FVec Ideal S8x5632 .f32) (q : Fin 8) (j : Fin 5632) : @Eq EReal (k0_pay1 (F := Ideal) X (ix2 q j)) (X (ix2 q j)) := by
  pointwise [k0_pay1]

abbrev Rend : Rect S264x5632 := Rect.unit ![256, 0] ![8, 5632] inb_S264x5632_S8x5632_256_0

theorem end_emb (q : Fin 8) (j : Fin 5632) : Rend.emb (ix2 q j : S8x5632.Idx) = ix2 (⟨256 + q.val, by omega⟩ : Fin 264) j :=
  PostScratch.idx_ext ((emb_val _ _ inb_S264x5632_S8x5632_256_0 _ 0)) ((emb_val _ _ inb_S264x5632_S8x5632_256_0 _ 1).trans (Nat.zero_add _))

/-- What a tile leaves in the scratch's first eight rows: its own last eight. -/
theorem carried (y : S264x5632.Idx) (hy : (y 0).val < 8) :
    @Eq EReal ((outsAt0 m c t.val t.isLt).2.2 y) (G m c t (ix2 (⟨256 + (y 0).val, by omega⟩ : Fin 264) (y 1))) := by
  by_cases h : t.val % 16 = 0
  · rw [outsAt0_A m c t h]; dsimp only; frame_out
    refine carry (G := G m c t) (ups_at m c t) _ _ (fun q j => (pay1_at _ q j).trans ?_) y hy
    exact (load_a' m c t h Rend (ix2 q j : S8x5632.Idx) (by rw [end_emb]; show 6 ≤ 256 + q.val; omega) _ _ _ _ rfl).trans (congrArg (G m c t) (end_emb q j))
  · rw [outsAt0_B m c t h]; dsimp only; frame_out
    refine carry (G := G m c t) (ups_at m c t) _ _ (fun q j => (pay1_at _ q j).trans ?_) y hy
    exact (load_new (ups_at m c t) Rend (ix2 q j : S8x5632.Idx) (by rw [end_emb]; show 8 ≤ 256 + q.val; omega)).trans (congrArg (G m c t) (end_emb q j))

/-- What the tile before left there is what this tile's window holds above the tile. -/
theorem G_carried (h : ¬ t.val % 16 = 0) (ht : t.val - 1 < cfg0.N) (y : S264x5632.Idx) (h6 : 6 ≤ (y 0).val) (h8 : (y 0).val < 8) :
    @Eq EReal ((outsAt0 m c (t.val - 1) ht).2.2 y) (G m c t y) := by
  refine (carried m c ⟨t.val - 1, ht⟩ y h8).trans ?_
  show UPX m c _ = UPX m c _
  refine congrArg (UPX m c) (congr (congr (congrArg ix3 (Fin.ext ?_)) (Fin.ext ?_)) rfl)
  · show (t.val - 1) / 16 = t.val / 16; omega
  · show 256 * ((t.val - 1) % 16) + (256 + (y 0).val - 6) = 256 * (t.val % 16) + ((y 0).val - 6); omega

theorem win_emb (p o : ℕ) (inb) (r : Fin 256) (j : Fin 1408) (y : S264x5632.Idx) (e : y = (Rect.unit (s := S264x5632) ![p, o] ![256, 1408] inb).emb (ix2 r j : S256x1408.Idx)) :
    (y 0).val = p + r.val ∧ (y 1).val = o + j.val := by
  subst e
  exact ⟨emb_val _ _ inb _ 0, emb_val _ _ inb _ 1⟩

/-- A load of the scratch at row offset `6 + q` reads the extended up-projection `q` rows below the tile's own row. -/
theorem G_win (p q o : ℕ) (hp : p = 6 + q) (inb) (r : Fin 256) (j : Fin 1408) (s : Fin 4098) (k : Fin 5632)
    (hs : s.val = q + (256 * (t.val % 16) + r.val)) (hk : k.val = o + j.val) :
    G m c t ((Rect.unit (s := S264x5632) ![p, o] ![256, 1408] inb).emb (ix2 r j : S256x1408.Idx)) = UPX m c (ix3 (bt t) s k) := by
  obtain ⟨h0, h1⟩ := win_emb p o inb r j _ rfl
  exact G_eq m c t _ s k (by rw [h0]; omega) (hk.trans h1.symm)

section Lanes

variable (o : ℕ) (ho : o + 1408 ≤ 5632) (inb0 inb1 inb2 inb6 inb7 inb8 inbB)

/-- A column block of the convolution whose three scratch loads are known to read the window. -/
theorem lane (U6 U7 U8 : FVec Ideal S256x1408 .f32)
    (h6 : ∀ (r : Fin 256) (j : Fin 1408), @Eq EReal (U6 (ix2 r j)) (G m c t ((Rect.unit (s := S264x5632) ![6, o] ![256, 1408] inb6).emb (ix2 r j : S256x1408.Idx))))
    (h7 : ∀ (r : Fin 256) (j : Fin 1408), @Eq EReal (U7 (ix2 r j)) (G m c t ((Rect.unit (s := S264x5632) ![7, o] ![256, 1408] inb7).emb (ix2 r j : S256x1408.Idx))))
    (h8 : ∀ (r : Fin 256) (j : Fin 1408), @Eq EReal (U8 (ix2 r j)) (G m c t ((Rect.unit (s := S264x5632) ![8, o] ![256, 1408] inb8).emb (ix2 r j : S256x1408.Idx))))
    (col : Fin 1408 → Fin 5632) (hcol : ∀ j, (col j).val = o + j.val) (r : Fin 256) :
    Lane (A0 m c) (A1 m c) (A2 m c) (A3 m c) (A4 m c) (A5 m c) (A6 m c) (A7 m c) (A8 m c) (A9 m c) (A10 m c) (A11 m c) (A12 m c) (bt t) (st t r) r col
      (View.ld (iblk m c 12 t) (Rect.unit (s := S1x5632) ![0, o] ![1, 1408] inbB))
      (View.ld (iblk m c 11 t) (Rect.unit (s := S3x5632) ![0, o] ![1, 1408] inb0)) U6
      (View.ld (iblk m c 11 t) (Rect.unit (s := S3x5632) ![1, o] ![1, 1408] inb1)) U7
      (View.ld (iblk m c 11 t) (Rect.unit (s := S3x5632) ![2, o] ![1, 1408] inb2)) U8 where
  bias j := ld12 m c t 0 o 1 1408 _ 0 j 0 (col j) rfl (hcol j)
  w0 j := ld11 m c t 0 o 1 1408 _ 0 j 0 (col j) rfl (hcol j)
  w1 j := ld11 m c t 1 o 1 1408 _ 0 j 1 (col j) rfl (hcol j)
  w2 j := ld11 m c t 2 o 1 1408 _ 0 j 2 (col j) rfl (hcol j)
  u0 j := (h6 r j).trans (G_win m c t 6 0 o rfl _ r j _ (col j) (Nat.zero_add _).symm (hcol j))
  u1 j := (h7 r j).trans (G_win m c t 7 1 o rfl _ r j _ (col j) rfl (hcol j))
  u2 j := (h8 r j).trans (G_win m c t 8 2 o rfl _ r j _ (col j) rfl (hcol j))

end Lanes

/-- The stored block, from its four column blocks of the convolution. -/
theorem point_out {B0 W00 W01 W02 B1 W10 W11 W12 B2 W20 W21 W22 B3 W30 W31 W32 : FVec Ideal S1x1408 .f32}
    {U00 U01 U02 U10 U11 U12 U20 U21 U22 U30 U31 U32 : FVec Ideal S256x1408 .f32}
    (L0 : ∀ r, Lane (A0 m c) (A1 m c) (A2 m c) (A3 m c) (A4 m c) (A5 m c) (A6 m c) (A7 m c) (A8 m c) (A9 m c) (A10 m c) (A11 m c) (A12 m c) (bt t) (st t r) r (fun j => ⟨j.val, by omega⟩) B0 W00 U00 W01 U01 W02 U02)
    (L1 : ∀ r, Lane (A0 m c) (A1 m c) (A2 m c) (A3 m c) (A4 m c) (A5 m c) (A6 m c) (A7 m c) (A8 m c) (A9 m c) (A10 m c) (A11 m c) (A12 m c) (bt t) (st t r) r (fun j => ⟨2816 + j.val, by omega⟩) B1 W10 U10 W11 U11 W12 U12)
    (L2 : ∀ r, Lane (A0 m c) (A1 m c) (A2 m c) (A3 m c) (A4 m c) (A5 m c) (A6 m c) (A7 m c) (A8 m c) (A9 m c) (A10 m c) (A11 m c) (A12 m c) (bt t) (st t r) r (fun j => ⟨1408 + j.val, by omega⟩) B2 W20 U20 W21 U21 W22 U22)
    (L3 : ∀ r, Lane (A0 m c) (A1 m c) (A2 m c) (A3 m c) (A4 m c) (A5 m c) (A6 m c) (A7 m c) (A8 m c) (A9 m c) (A10 m c) (A11 m c) (A12 m c) (bt t) (st t r) r (fun j => ⟨4224 + j.val, by omega⟩) B3 W30 U30 W31 U31 W32 U32)
    (inb inb') (y : S1x256x1024.Idx) (Y : S4x4096x1024.Idx) (h0 : (Y 0).val = t.val / 16) (h1 : (Y 1).val = t.val % 16 * 256 + (y 1).val) (h2 : (Y 2).val = (y 2).val) :
    @Eq EReal (k0_pay2 (F := Ideal) (k0_pay19 (X1 m c t) (OO m c t) (iblk m c 8 t))
        (k0_pay28 k0_pay26 (k0_pay27 B0 W00 U00 W01 U01 W02 U02) B1 W10 U10 W11 U11 W12 U12
          (View.ld (iblk m c 13 t) (Rect.unit (s := S2816x1024) ![0, 0] ![1408, 1024] inb)))
        (k0_pay30 (k0_pay29 B2 W20 U20) W21 U21 W22 U22 B3 W30 U30 W31 U31 W32 U32)
        (View.ld (iblk m c 13 t) (Rect.unit (s := S2816x1024) ![1408, 0] ![1408, 1024] inb')) (iblk m c 14 t) y)
      (refOut (A0 m c) (A1 m c) (A2 m c) (A3 m c) (A4 m c) (A5 m c) (A6 m c) (A7 m c) (A8 m c) (A9 m c) (A10 m c) (A11 m c) (A12 m c) (A13 m c) (A14 m c) Y) := by
  have ey : y = ix3 (0 : Fin 1) (y 1) (y 2) := funext fun a => by
    fin_cases a
    · exact Fin.ext (by have : (y 0).val < 1 := (y 0).isLt; show (y 0).val = 0; omega)
    · rfl
    · rfl
  have eY : Y = ix3 (bt t) (st t (y 1)) (y 2) := funext fun a => by
    fin_cases a
    · exact Fin.ext h0
    · exact Fin.ext (h1.trans (by rw [Nat.mul_comm]; rfl))
    · exact Fin.ext h2
  rw [eY]
  refine (congrArg _ ey).trans ?_
  exact row_out (A0 m c) (A1 m c) (A2 m c) (A3 m c) (A4 m c) (A5 m c) (A6 m c) (A7 m c) (A8 m c) (A9 m c) (A10 m c) (A11 m c) (A12 m c) (A13 m c) (A14 m c) (bt t) (st t (y 1)) (y 1) _ _ _ _ _ (x2_at m c t (y 1))
    (fun j => pay28_at (L0 (y 1)) (L1 (y 1)) _ (fun k j => ld13 m c t 0 0 1408 1024 _ k j _ _ (Nat.zero_add _).symm (Nat.zero_add _).symm) j)
    (fun x => pay30_at (L2 (y 1)) (L3 (y 1)) x)
    (fun k j => ld13 m c t 1408 0 1408 1024 _ k j _ _ rfl (Nat.zero_add _).symm) (fun k => blk14 m c t 0 k) (y 2)

theorem pay25_at (X : FVec Ideal S2x5632 .f32) (q : Fin 2) (j : Fin 5632) : @Eq EReal (k0_pay25 (F := Ideal) X (ix3 (0 : Fin 1) q j)) (X (ix2 q j)) := by
  pointwise [k0_pay25]

theorem tail_at (b : Fin 4) (q : Fin 2) (j : Fin 5632) :
    @Eq EReal (refTail (A0 m c) (A1 m c) (A2 m c) (A3 m c) (A4 m c) (A5 m c) (A6 m c) (A7 m c) (A8 m c) (A9 m c) (A10 m c) (ix3 b q j)) (UPX m c (ix3 b (⟨4096 + q.val, by omega⟩ : Fin 4098) j)) := by
  pointwise [refTail]

end Tile

theorem final_out (c : Dev nD) : (dats m 0 c).arrAt 15 (cfgs 0).N = refOut (A0 m c) (A1 m c) (A2 m c) (A3 m c) (A4 m c) (A5 m c) (A6 m c) (A7 m c) (A8 m c) (A9 m c) (A10 m c) (A11 m c) (A12 m c) (A13 m c) (A14 m c) := by
  refine (dats m 0 c).arrAt_eq_of_covers 15 _ (by decide +kernel) fun t hf y => ?_
  blk_simp; rw [after0_15]
  by_cases h : t.val % 16 = 0
  · rw [outsAt0_A m c t h]; dsimp only; frame_out
    refine point_out m c t ?_ ?_ ?_ ?_ _ _ y _ (by blk_simp [idx t]) (by blk_simp [idx t]) (by blk_simp [idx t])
    · intro r; exact lane m c t 0 _ _ _ _ _ _ _ _ _ _ (fun r j => load_a' m c t h (Rect.unit (s := S264x5632) ![6, 0] ![256, 1408] inb_S264x5632_S256x1408_6_0) (ix2 r j : S256x1408.Idx) (by rw [emb_val]; show 6 ≤ 6 + r.val; omega) _ _ _ _ rfl) (fun r j => load_a' m c t h (Rect.unit (s := S264x5632) ![7, 0] ![256, 1408] inb_S264x5632_S256x1408_7_0) (ix2 r j : S256x1408.Idx) (by rw [emb_val]; show 6 ≤ 7 + r.val; omega) _ _ _ _ rfl) (fun r j => load_a' m c t h (Rect.unit (s := S264x5632) ![8, 0] ![256, 1408] inb_S264x5632_S256x1408_8_0) (ix2 r j : S256x1408.Idx) (by rw [emb_val]; show 6 ≤ 8 + r.val; omega) _ _ _ _ rfl) _ (fun j => (Nat.zero_add _).symm) r
    · intro r; exact lane m c t 2816 _ _ _ _ _ _ _ _ _ _ (fun r j => load_a' m c t h (Rect.unit (s := S264x5632) ![6, 2816] ![256, 1408] inb_S264x5632_S256x1408_6_2816) (ix2 r j : S256x1408.Idx) (by rw [emb_val]; show 6 ≤ 6 + r.val; omega) _ _ _ _ rfl) (fun r j => load_a' m c t h (Rect.unit (s := S264x5632) ![7, 2816] ![256, 1408] inb_S264x5632_S256x1408_7_2816) (ix2 r j : S256x1408.Idx) (by rw [emb_val]; show 6 ≤ 7 + r.val; omega) _ _ _ _ rfl) (fun r j => load_a' m c t h (Rect.unit (s := S264x5632) ![8, 2816] ![256, 1408] inb_S264x5632_S256x1408_8_2816) (ix2 r j : S256x1408.Idx) (by rw [emb_val]; show 6 ≤ 8 + r.val; omega) _ _ _ _ rfl) _ (fun j => rfl) r
    · intro r; exact lane m c t 1408 _ _ _ _ _ _ _ _ _ _ (fun r j => load_a' m c t h (Rect.unit (s := S264x5632) ![6, 1408] ![256, 1408] inb_S264x5632_S256x1408_6_1408) (ix2 r j : S256x1408.Idx) (by rw [emb_val]; show 6 ≤ 6 + r.val; omega) _ _ _ _ rfl) (fun r j => load_a' m c t h (Rect.unit (s := S264x5632) ![7, 1408] ![256, 1408] inb_S264x5632_S256x1408_7_1408) (ix2 r j : S256x1408.Idx) (by rw [emb_val]; show 6 ≤ 7 + r.val; omega) _ _ _ _ rfl) (fun r j => load_a' m c t h (Rect.unit (s := S264x5632) ![8, 1408] ![256, 1408] inb_S264x5632_S256x1408_8_1408) (ix2 r j : S256x1408.Idx) (by rw [emb_val]; show 6 ≤ 8 + r.val; omega) _ _ _ _ rfl) _ (fun j => rfl) r
    · intro r; exact lane m c t 4224 _ _ _ _ _ _ _ _ _ _ (fun r j => load_a' m c t h (Rect.unit (s := S264x5632) ![6, 4224] ![256, 1408] inb_S264x5632_S256x1408_6_4224) (ix2 r j : S256x1408.Idx) (by rw [emb_val]; show 6 ≤ 6 + r.val; omega) _ _ _ _ rfl) (fun r j => load_a' m c t h (Rect.unit (s := S264x5632) ![7, 4224] ![256, 1408] inb_S264x5632_S256x1408_7_4224) (ix2 r j : S256x1408.Idx) (by rw [emb_val]; show 6 ≤ 7 + r.val; omega) _ _ _ _ rfl) (fun r j => load_a' m c t h (Rect.unit (s := S264x5632) ![8, 4224] ![256, 1408] inb_S264x5632_S256x1408_8_4224) (ix2 r j : S256x1408.Idx) (by rw [emb_val]; show 6 ≤ 8 + r.val; omega) _ _ _ _ rfl) _ (fun j => rfl) r
  · rw [outsAt0_B m c t h]; dsimp only; frame_out
    refine point_out m c t ?_ ?_ ?_ ?_ _ _ y _ (by blk_simp [idx t]) (by blk_simp [idx t]) (by blk_simp [idx t])
    · intro r; exact lane m c t 0 _ _ _ _ _ _ _ _ _ _ (fun r j => load_carried (ups_at m c t) _ _ (fun y h6 h8 => G_carried m c t h _ y h6 h8) (Rect.unit (s := S264x5632) ![6, 0] ![256, 1408] inb_S264x5632_S256x1408_6_0) (ix2 r j : S256x1408.Idx) (by rw [emb_val]; show 6 ≤ 6 + r.val; omega)) (fun r j => load_carried (ups_at m c t) _ _ (fun y h6 h8 => G_carried m c t h _ y h6 h8) (Rect.unit (s := S264x5632) ![7, 0] ![256, 1408] inb_S264x5632_S256x1408_7_0) (ix2 r j : S256x1408.Idx) (by rw [emb_val]; show 6 ≤ 7 + r.val; omega)) (fun r j => load_new (ups_at m c t) (Rect.unit (s := S264x5632) ![8, 0] ![256, 1408] inb_S264x5632_S256x1408_8_0) (ix2 r j : S256x1408.Idx) (by rw [emb_val]; show 8 ≤ 8 + r.val; omega)) _ (fun j => (Nat.zero_add _).symm) r
    · intro r; exact lane m c t 2816 _ _ _ _ _ _ _ _ _ _ (fun r j => load_carried (ups_at m c t) _ _ (fun y h6 h8 => G_carried m c t h _ y h6 h8) (Rect.unit (s := S264x5632) ![6, 2816] ![256, 1408] inb_S264x5632_S256x1408_6_2816) (ix2 r j : S256x1408.Idx) (by rw [emb_val]; show 6 ≤ 6 + r.val; omega)) (fun r j => load_carried (ups_at m c t) _ _ (fun y h6 h8 => G_carried m c t h _ y h6 h8) (Rect.unit (s := S264x5632) ![7, 2816] ![256, 1408] inb_S264x5632_S256x1408_7_2816) (ix2 r j : S256x1408.Idx) (by rw [emb_val]; show 6 ≤ 7 + r.val; omega)) (fun r j => load_new (ups_at m c t) (Rect.unit (s := S264x5632) ![8, 2816] ![256, 1408] inb_S264x5632_S256x1408_8_2816) (ix2 r j : S256x1408.Idx) (by rw [emb_val]; show 8 ≤ 8 + r.val; omega)) _ (fun j => rfl) r
    · intro r; exact lane m c t 1408 _ _ _ _ _ _ _ _ _ _ (fun r j => load_carried (ups_at m c t) _ _ (fun y h6 h8 => G_carried m c t h _ y h6 h8) (Rect.unit (s := S264x5632) ![6, 1408] ![256, 1408] inb_S264x5632_S256x1408_6_1408) (ix2 r j : S256x1408.Idx) (by rw [emb_val]; show 6 ≤ 6 + r.val; omega)) (fun r j => load_carried (ups_at m c t) _ _ (fun y h6 h8 => G_carried m c t h _ y h6 h8) (Rect.unit (s := S264x5632) ![7, 1408] ![256, 1408] inb_S264x5632_S256x1408_7_1408) (ix2 r j : S256x1408.Idx) (by rw [emb_val]; show 6 ≤ 7 + r.val; omega)) (fun r j => load_new (ups_at m c t) (Rect.unit (s := S264x5632) ![8, 1408] ![256, 1408] inb_S264x5632_S256x1408_8_1408) (ix2 r j : S256x1408.Idx) (by rw [emb_val]; show 8 ≤ 8 + r.val; omega)) _ (fun j => rfl) r
    · intro r; exact lane m c t 4224 _ _ _ _ _ _ _ _ _ _ (fun r j => load_carried (ups_at m c t) _ _ (fun y h6 h8 => G_carried m c t h _ y h6 h8) (Rect.unit (s := S264x5632) ![6, 4224] ![256, 1408] inb_S264x5632_S256x1408_6_4224) (ix2 r j : S256x1408.Idx) (by rw [emb_val]; show 6 ≤ 6 + r.val; omega)) (fun r j => load_carried (ups_at m c t) _ _ (fun y h6 h8 => G_carried m c t h _ y h6 h8) (Rect.unit (s := S264x5632) ![7, 4224] ![256, 1408] inb_S264x5632_S256x1408_7_4224) (ix2 r j : S256x1408.Idx) (by rw [emb_val]; show 6 ≤ 7 + r.val; omega)) (fun r j => load_new (ups_at m c t) (Rect.unit (s := S264x5632) ![8, 4224] ![256, 1408] inb_S264x5632_S256x1408_8_4224) (ix2 r j : S256x1408.Idx) (by rw [emb_val]; show 8 ≤ 8 + r.val; omega)) _ (fun j => rfl) r

theorem flush16 : ∀ t : Fin cfg0.N, (cfg0.win 16).flush t = true → t.val % 16 = 15 :=
  (by decide +kernel : ∀ t : Fin grid0.N, win0_16.flush t = true → t.val % 16 = 15)

abbrev Rtail : Rect S264x5632 := Rect.unit ![262, 0] ![2, 5632] inb_S264x5632_S2x5632_262_0

theorem point_tail (c : Dev nD) (t : Fin cfg0.N) (h : t.val % 16 = 15) (y : S1x2x5632.Idx) (Y : Cert.PostReferenceIdeal.S4x2x5632.Idx) (h0 : (Y 0).val = t.val / 16)
    (h1 : (Y 1).val = (y 1).val) (h2 : (Y 2).val = (y 2).val) :
    @Eq EReal (k0_pay25 (F := Ideal) ((View.whole cc0_scratch0).readCov (UPS m c t) Rtail.toLoadRect) y) (refTail (A0 m c) (A1 m c) (A2 m c) (A3 m c) (A4 m c) (A5 m c) (A6 m c) (A7 m c) (A8 m c) (A9 m c) (A10 m c) Y) := by
  have ey : y = ix3 (0 : Fin 1) (y 1) (y 2) := funext fun a => by
    fin_cases a
    · exact Fin.ext (by have : (y 0).val < 1 := (y 0).isLt; show (y 0).val = 0; omega)
    · rfl
    · rfl
  have eY : Y = ix3 (bt t) (y 1) (y 2) := funext fun a => by
    fin_cases a
    · exact Fin.ext h0
    · exact Fin.ext h1
    · exact Fin.ext h2
  have e0 : (Rtail.emb (ix2 (y 1) (y 2) : S2x5632.Idx) 0).val = 262 + (y 1).val := emb_val _ _ inb_S264x5632_S2x5632_262_0 _ 0
  have e1 : (Rtail.emb (ix2 (y 1) (y 2) : S2x5632.Idx) 1).val = (y 2).val := (emb_val _ _ inb_S264x5632_S2x5632_262_0 _ 1).trans (Nat.zero_add _)
  rw [eY]
  refine (congrArg _ ey).trans ((pay25_at _ (y 1) (y 2)).trans ((load_new (ups_at m c t) Rtail (ix2 (y 1) (y 2) : S2x5632.Idx) (by rw [e0]; omega)).trans ?_))
  refine (G_eq m c t _ (⟨4096 + (y 1).val, by have : (y 1).val < 2 := (y 1).isLt; omega⟩ : Fin 4098) (y 2) ?_ e1.symm).trans (tail_at m c (bt t) (y 1) (y 2)).symm
  rw [e0]
  show 4096 + (y 1).val = 256 * (t.val % 16) + (262 + (y 1).val - 6)
  omega

theorem final_tail (c : Dev nD) : (dats m 0 c).arrAt 16 (cfgs 0).N = refTail (A0 m c) (A1 m c) (A2 m c) (A3 m c) (A4 m c) (A5 m c) (A6 m c) (A7 m c) (A8 m c) (A9 m c) (A10 m c) := by
  refine (dats m 0 c).arrAt_eq_of_covers 16 _ (by decide +kernel) fun t hf y => ?_
  have h15 := flush16 t hf
  have h : ¬ t.val % 16 = 0 := by omega
  blk_simp; rw [after0_16, outsAt0_B m c t h]; dsimp only; frame_out
  exact point_tail m c t h15 y _ (by blk_simp [idx t]) (by blk_simp [idx t]) (by blk_simp [idx t])

end Cert.PostValue

end
-- ==== Proof.PostClaim.lean ====
/- The call `Post`: the run of its reference with the results named, the reference's frame, and the equality of the results
   of the kernel and of the reference over the extended reals. -/
module

public import proofs.«01_k».proof.Defs
public import proofs.«01_k».proof.Proof.Gen.PostIdeal.Frame
public import proofs.«01_k».proof.Proof.Gen.PostReferenceIdeal.Run
public import proofs.«01_k».proof.Proof.PostValue
public import Idealize.ShloMosaic.Lib.Claim

@[expose] public section

set_option maxRecDepth 16384

noncomputable section

namespace Cert.PostClaim

open Idealize.ShloMosaic Idealize.SL.Sem

section

open Cert.PostReferenceIdeal Cert.PostRef
open Idealize.ShloMosaic.TcCoe

set_option maxHeartbeats 1600000 in
/-- Every run of the reference ends with each result at the function of the arguments that `PostRef` names, and with the
    arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v111) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v112) = refTail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run _ _ _).mono (fun _ h c => ⟨(h c).1.trans rfl, (h c).2.1.trans rfl, (h c).2.2⟩) (Cert.PostReferenceIdeal.Value.run m g)

/-- The reference runs, leaves its arguments unchanged and ends with every counter at zero. -/
theorem reference_frame : Cert.quiescent_PostReferenceIdeal := fun m g _ =>
  (θ_run _ _ _).mono (fun r h => ⟨fun c => (h c).2.2, Idealize.ShloMosaic.sem_eq_zero_of_no_sems (by decide) r.2⟩)
    (Cert.PostReferenceIdeal.Value.run m g)

end

open Cert.PostValue in
set_option maxHeartbeats 1600000 in
/-- Over the extended reals the call's results are the reference's. -/
theorem algebraic : Cert.algebraic_PostIdeal_PostReferenceIdeal := by
  pair_intro
  · run_from Cert.PostIdeal.Gen.run_main m g
    exact hc.1 16
  · run_from reference_run m' g'
    · exact (final_out m c).symm
    · exact (final_tail m c).symm

end Cert.PostClaim

end
-- ==== Proof.SoftRef.lean ====
/- The reference `PostSoftmaxReferenceIdeal` from its softmax on, stage by stage; the stages before it are those of `PostRef`. -/
module

public import proofs.«01_k».proof.Proof.Gen.PostReferenceIdeal
public import proofs.«01_k».proof.Proof.PostRef
public import proofs.«01_k».proof.Proof.Gen.PostSoftmaxReferenceIdeal
public import Idealize.ShloMosaic.Lib.Pipeline.ValueKit

@[expose] public section

set_option maxRecDepth 16384

noncomputable section

namespace Cert.SoftRef

open Cert.PostReferenceIdeal Cert.PostReferenceIdeal.Gen Cert.PostRef
open Idealize.ShloMosaic Idealize.ShloMosaic.TcCoe Idealize.SL.Sem

/-- The exponentials of the logits less their row maximum. -/
def softE (a0 : FVec Ideal S4x4096x1024 .f32) (a1 : FVec Ideal S4x4096x512 .bf16) (a2 : FVec Ideal S4x4096x512 .bf16) (a3 : FVec Ideal S4x256x256 .bf16) (a5 : FVec Ideal S1024x1024 .bf16) (a6 : FVec Ideal S1x1024 .f32) (a7 : FVec Ideal S1024x256 .bf16) : FVec Ideal S4x4x4096x256 .f32 :=
  Host.exp (subf (refLogits a0 a1 a2 a3 a5 a6 a7) (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] Cert.PostSoftmaxReferenceIdeal.Gen.facts.bcast_S_S4x4x4096 (constant S_ .f32 0xFF800000#32)) (Host.reduce FloatOps.maximumf (refLogits a0 a1 a2 a3 a5 a6 a7) (constant S_ .f32 0xFF800000#32) reducesTo_S4x4x4096x256_S4x4x4096_d3 h_S_)))))

/-- The attention weights. -/
def softP (a0 : FVec Ideal S4x4096x1024 .f32) (a1 : FVec Ideal S4x4096x512 .bf16) (a2 : FVec Ideal S4x4096x512 .bf16) (a3 : FVec Ideal S4x256x256 .bf16) (a5 : FVec Ideal S1024x1024 .bf16) (a6 : FVec Ideal S1x1024 .f32) (a7 : FVec Ideal S1024x256 .bf16) : FVec Ideal S4x4x4096x256 .f32 :=
  Host.divf (softE a0 a1 a2 a3 a5 a6 a7) (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd (softE a0 a1 a2 a3 a5 a6 a7) (constant S_ .f32 0x00000000#32) reducesTo_S4x4x4096x256_S4x4x4096_d3 h_S_)))

/-- The weighted sums of the memory values, heads side by side. -/
def softO (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) : FVec Ideal S4x4096x256 .f32 :=
  shapeCast S4x4096x256 (transpose S4x4096x4x64 [0, 3, 1, 2] (Host.dotGeneral dot_S4x256x4x64_S4x4x4096x256_S4x4x64x4096_1_3_3_2_02_01 none (shapeCast S4x256x4x64 (extf .f32 a4 bitsLt_bf16_f32) shapeCasts_S4x256x256_S4x256x4x64) (softP a0 a1 a2 a3 a5 a6 a7)) transposes_S4x4x64x4096_S4x4096x4x64_0_3_1_2) shapeCasts_S4x4096x4x64_S4x4096x256

/-- The residual stream after the memory attention. -/
def softX2 (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) : FVec Ideal S4x4096x1024 .f32 :=
  addf (refX1 a0 a1 a2 a5) (Host.dotGeneral dot_S4x4096x256_S256x1024_S4x4096x1024_2_0_01_1_n_n none (softO a0 a1 a2 a3 a4 a5 a6 a7) (extf .f32 a8 bitsLt_bf16_f32))

/-- The normalised stream that enters the feed-forward part. -/
def softHf (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) : FVec Ideal S4x4096x1024 .f32 :=
  mulf (mulf (softX2 a0 a1 a2 a3 a4 a5 a6 a7 a8) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (softX2 a0 a1 a2 a3 a4 a5 a6 a7 a8) (softX2 a0 a1 a2 a3 a4 a5 a6 a7 a8)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 a9 shapeCasts_S1x1024_S1024)))

/-- The first feed-forward product. -/
def softUp (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) : FVec Ideal S4x4096x5632 .f32 :=
  Host.dotGeneral dot_S4x4096x1024_S1024x5632_S4x4096x5632_2_0_01_1_n_n none (softHf a0 a1 a2 a3 a4 a5 a6 a7 a8 a9) (extf .f32 a10 bitsLt_bf16_f32)

/-- The first feed-forward product with two zero rows before it. -/
def softUpExt (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) : FVec Ideal S4x4098x5632 .f32 :=
  concatenate S4x4098x5632 1 [⟨S4x2x5632, (broadcastInDim S4x2x5632 ![] bcast_S_S4x2x5632 (constant S_ .f32 0x00000000#32))⟩, ⟨S4x4096x5632, (softUp a0 a1 a2 a3 a4 a5 a6 a7 a8 a9 a10)⟩] concatenates_S4x2x5632_S4x4096x5632_S4x4098x5632_d1

/-- The three-tap convolution along positions of the first feed-forward product. -/
def softConv (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) : FVec Ideal S4x4096x5632 .f32 :=
  addf (addf (addf (addf (broadcastInDim S4x4096x5632 ![] bcast_S_S4x4096x5632 (constant S_ .f32 0x00000000#32)) (mulf (broadcastInDim S4x4096x5632 ![0, 1, 2] bcast_S1x1x5632_S4x4096x5632_0_1_2 (broadcastInDim S1x1x5632 ![2] bcast_S5632_S1x1x5632_2 (shapeCast S5632 (extractStridedSlice S1x5632 ![0, 0] a11 slices_S3x5632_S1x5632_0_0) shapeCasts_S1x5632_S5632))) (extractStridedSlice S4x4096x5632 ![0, 0, 0] (softUpExt a0 a1 a2 a3 a4 a5 a6 a7 a8 a9 a10) slices_S4x4098x5632_S4x4096x5632_0_0_0))) (mulf (broadcastInDim S4x4096x5632 ![0, 1, 2] bcast_S1x1x5632_S4x4096x5632_0_1_2 (broadcastInDim S1x1x5632 ![2] bcast_S5632_S1x1x5632_2 (shapeCast S5632 (extractStridedSlice S1x5632 ![1, 0] a11 slices_S3x5632_S1x5632_1_0) shapeCasts_S1x5632_S5632))) (extractStridedSlice S4x4096x5632 ![0, 1, 0] (softUpExt a0 a1 a2 a3 a4 a5 a6 a7 a8 a9 a10) slices_S4x4098x5632_S4x4096x5632_0_1_0))) (mulf (broadcastInDim S4x4096x5632 ![0, 1, 2] bcast_S1x1x5632_S4x4096x5632_0_1_2 (broadcastInDim S1x1x5632 ![2] bcast_S5632_S1x1x5632_2 (shapeCast S5632 (extractStridedSlice S1x5632 ![2, 0] a11 slices_S3x5632_S1x5632_2_0) shapeCasts_S1x5632_S5632))) (extractStridedSlice S4x4096x5632 ![0, 2, 0] (softUpExt a0 a1 a2 a3 a4 a5 a6 a7 a8 a9 a10) slices_S4x4098x5632_S4x4096x5632_0_2_0))) (broadcastInDim S4x4096x5632 ![0, 1, 2] bcast_S1x1x5632_S4x4096x5632_0_1_2 (broadcastInDim S1x1x5632 ![2] bcast_S5632_S1x1x5632_2 (shapeCast S5632 a12 shapeCasts_S1x5632_S5632)))

/-- The gated product of the two halves. -/
def softGate (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) : FVec Ideal S4x4096x2816 .f32 :=
  mulf (mulf (extractStridedSlice S4x4096x2816 ![0, 0, 0] (softConv a0 a1 a2 a3 a4 a5 a6 a7 a8 a9 a10 a11 a12) slices_S4x4096x5632_S4x4096x2816_0_0_0) (Host.divf ((broadcastInDim S4x4096x2816 ![] bcast_S_S4x4096x2816) (constant S_ .f32 0x3F800000#32)) (addf ((broadcastInDim S4x4096x2816 ![] bcast_S_S4x4096x2816) (constant S_ .f32 0x3F800000#32)) (Host.exp (Host.negf (extractStridedSlice S4x4096x2816 ![0, 0, 0] (softConv a0 a1 a2 a3 a4 a5 a6 a7 a8 a9 a10 a11 a12) slices_S4x4096x5632_S4x4096x2816_0_0_0)))))) (extractStridedSlice S4x4096x2816 ![0, 0, 2816] (softConv a0 a1 a2 a3 a4 a5 a6 a7 a8 a9 a10 a11 a12) slices_S4x4096x5632_S4x4096x2816_0_0_2816)

/-- The residual stream after the feed-forward part. -/
def softX3 (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) (a13 : FVec Ideal S2816x1024 .bf16) : FVec Ideal S4x4096x1024 .f32 :=
  addf (softX2 a0 a1 a2 a3 a4 a5 a6 a7 a8) (Host.dotGeneral dot_S4x4096x2816_S2816x1024_S4x4096x1024_2_0_01_1_n_n none (softGate a0 a1 a2 a3 a4 a5 a6 a7 a8 a9 a10 a11 a12) (extf .f32 a13 bitsLt_bf16_f32))

/-- The first result: the final normalised stream. -/
def softOut (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) (a13 : FVec Ideal S2816x1024 .bf16) (a14 : FVec Ideal S1x1024 .f32) : FVec Ideal S4x4096x1024 .f32 :=
  mulf (mulf (softX3 a0 a1 a2 a3 a4 a5 a6 a7 a8 a9 a10 a11 a12 a13) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (softX3 a0 a1 a2 a3 a4 a5 a6 a7 a8 a9 a10 a11 a12 a13) (softX3 a0 a1 a2 a3 a4 a5 a6 a7 a8 a9 a10 a11 a12 a13)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 a14 shapeCasts_S1x1024_S1024)))

/-- The second result: the last two rows of the first feed-forward product. -/
def softTail (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) : FVec Ideal S4x2x5632 .f32 :=
  extractStridedSlice S4x2x5632 ![0, 4096, 0] (softUpExt a0 a1 a2 a3 a4 a5 a6 a7 a8 a9 a10) slices_S4x4098x5632_S4x2x5632_0_4096_0

end Cert.SoftRef

end
-- ==== Proof.SoftPure.lean ====
/- The output block of the prompt group: on finite arguments the softmax is the product of the exponentials and the
   reciprocal of their sum, and so every later stage of the two references agrees. -/
module

public import proofs.«01_k».proof.Proof.SoftRef
public import Idealize.ShloMosaic.Lib.Pointwise
public import Idealize.ShloMosaic.Lib.IdealHost

@[expose] public section

set_option maxRecDepth 16384

noncomputable section

namespace Cert.SoftPure

open Cert.PostReferenceIdeal Cert.PostReferenceIdeal.Gen Cert.PostRef Cert.SoftRef
open Idealize.ShloMosaic Idealize.ShloMosaic.TcCoe Idealize.SL.Sem

/-- An extended real that is a real number. -/
def Re (x : EReal) : Prop := ∃ r : ℝ, x = (r : EReal)

/-- An extended real that is a nonnegative real number. -/
def Re0 (x : EReal) : Prop := ∃ r : ℝ, 0 ≤ r ∧ x = (r : EReal)

theorem Re.add {x y : EReal} : Re x → Re y → Re (x + y) := by
  rintro ⟨a, rfl⟩ ⟨b, rfl⟩; exact ⟨a + b, (EReal.coe_add a b).symm⟩

theorem Re.mul {x y : EReal} : Re x → Re y → Re (x * y) := by
  rintro ⟨a, rfl⟩ ⟨b, rfl⟩; exact ⟨a * b, (EReal.coe_mul a b).symm⟩

theorem Re.sum {ι : Type} (S : Finset ι) (f : ι → EReal) (h : ∀ i, Re (f i)) : Re (∑ i ∈ S, f i) := by
  classical
  induction S using Finset.induction_on with
  | empty => exact ⟨0, by simp⟩
  | insert a S ha ih => rw [Finset.sum_insert ha]; exact (h a).add ih

theorem Re0.sum {ι : Type} (S : Finset ι) (f : ι → EReal) (h : ∀ i, Re0 (f i)) : Re0 (∑ i ∈ S, f i) := by
  classical
  induction S using Finset.induction_on with
  | empty => exact ⟨0, le_refl _, by simp⟩
  | insert a S ha ih =>
    rw [Finset.sum_insert ha]
    obtain ⟨x, hx, ex⟩ := h a
    obtain ⟨y, hy, ey⟩ := ih
    exact ⟨x + y, add_nonneg hx hy, by rw [ex, ey, EReal.coe_add]⟩

theorem Re.sq {x : EReal} : Re x → Re0 (x * x) := by
  rintro ⟨a, rfl⟩; exact ⟨a * a, mul_self_nonneg a, (EReal.coe_mul a a).symm⟩

/-- The root mean square of a real row is a positive real, and so is its reciprocal. -/
theorem Re0.rsqrt {x e : EReal} (n : ℝ) (hn : 0 < n) (hx : Re0 x) (he : ∃ r : ℝ, 0 < r ∧ e = (r : EReal)) :
    Re (Ideal.rsqrt (Ideal.div x (n : EReal) + e)) := by
  obtain ⟨a, ha, rfl⟩ := hx
  obtain ⟨r, hr, rfl⟩ := he
  have hp : 0 < a * (1 / n) + r := add_pos_of_nonneg_of_pos (mul_nonneg ha (by positivity)) hr
  rw [Ideal.div_coe (ne_of_gt hn), ← EReal.coe_mul, ← EReal.coe_add, Ideal.rsqrt_coe, if_neg (not_lt.2 hp.le), if_neg (ne_of_gt hp)]
  exact ⟨_, rfl⟩

/-- A word whose magnitude is below the infinity is a real. -/
theorem re_of_abs {x : EReal} (h : max x (-x) < ⊤) : Re x := by
  induction x with
  | bot => simp at h
  | top => simp at h
  | coe r => exact ⟨r, rfl⟩

theorem eps_pos : ∃ r : ℝ, 0 < r ∧ Ideal.ofBits .f32 0x358637BD#32 = (r : EReal) := by
  refine ⟨_, ?_, by simp [Ideal.ofBits, Ideal.ieee]; rfl⟩
  positivity

theorem count : Ideal.ofBits .f32 0x44800000#32 = ((1024 : ℝ) : EReal) := by
  simp [Ideal.ofBits, Ideal.ieee]
  rw [← EReal.coe_mul]
  exact congrArg _ (by norm_num)

theorem neg_inf : Ideal.ofBits .f32 0xFF800000#32 = (⊥ : EReal) := by
  simp [Ideal.ofBits, Ideal.ieee]

theorem scale_re : Re (Ideal.ofBits .f32 0x3E000000#32) := by
  refine ⟨(1 : ℝ) / 8, ?_⟩
  simp [Ideal.ofBits, Ideal.ieee]
  rw [← EReal.coe_mul]
  exact congrArg _ (by norm_num)

/-- The sum of the exponentials of a real row less its maximum is not zero. -/
theorem expsum_ne {n : ℕ} (hn : 0 < n) (f : Fin n → EReal) (hf : ∀ i, Re (f i)) (M : EReal) (hM : ∃ i, M = f i) :
    ∑ i : Fin n, Ideal.exp (f i - M) ≠ 0 := by
  obtain ⟨i, rfl⟩ := hM
  have nn : ∀ j, 0 ≤ Ideal.exp (f j - f i) := fun j => by
    obtain ⟨a, ha⟩ := hf j
    obtain ⟨b, hb⟩ := hf i
    rw [ha, hb, ← EReal.coe_sub, Ideal.exp_coe]
    exact_mod_cast (Real.exp_pos _).le
  intro h
  have h1 : Ideal.exp (f i - f i) ≤ 0 := by
    rw [← h]
    exact Finset.single_le_sum (f := fun j => Ideal.exp (f j - f i)) (fun j _ => nn j) (Finset.mem_univ i)
  obtain ⟨b, hb⟩ := hf i
  rw [hb, ← EReal.coe_sub, Ideal.exp_coe, sub_self, Real.exp_zero] at h1
  exact absurd h1 (by simp)

/-- The maximum of a nonempty row is one of its elements. -/
theorem fold_max_attained {ι : Type} (S : Finset ι) (f : ι → EReal) (h : S.Nonempty) : ∃ i, S.fold max ⊥ f = f i := by
  classical
  induction S using Finset.induction_on with
  | empty => exact absurd h Finset.not_nonempty_empty
  | insert a S ha ih =>
    rw [Finset.fold_insert ha]
    rcases S.eq_empty_or_nonempty with e | e
    · exact ⟨a, by rw [e, Finset.fold_empty, max_eq_left bot_le]⟩
    · obtain ⟨i, hi⟩ := ih e
      rw [hi]
      rcases le_total (f a) (f i) with l | l
      · exact ⟨i, max_eq_right l⟩
      · exact ⟨a, max_eq_left l⟩

/-- Off zero a quotient is the product with the reciprocal. -/
theorem div_one {x y : EReal} (h : y ≠ 0) : Ideal.div x y = x * Ideal.div 1 y := by
  rw [Ideal.div, Ideal.div, if_neg h, if_neg h, one_mul]

variable (a0 : FVec Ideal S4x4096x1024 .f32) (a1 a2 : FVec Ideal S4x4096x512 .bf16) (a3 a4 : FVec Ideal S4x256x256 .bf16)
  (a5 : FVec Ideal S1024x1024 .bf16) (a6 : FVec Ideal S1x1024 .f32) (a7 : FVec Ideal S1024x256 .bf16)
  (a8 : FVec Ideal S256x1024 .bf16) (a9 : FVec Ideal S1x1024 .f32) (a10 : FVec Ideal S1024x5632 .bf16)
  (a11 : FVec Ideal S3x5632 .f32) (a12 : FVec Ideal S1x5632 .f32) (a13 : FVec Ideal S2816x1024 .bf16)
  (a14 : FVec Ideal S1x1024 .f32)

/-- The arguments that the logits are made of are real. -/
structure Fin7 (a0 : FVec Ideal S4x4096x1024 .f32) (a1 a2 : FVec Ideal S4x4096x512 .bf16) (a3 : FVec Ideal S4x256x256 .bf16)
    (a5 : FVec Ideal S1024x1024 .bf16) (a6 : FVec Ideal S1x1024 .f32) (a7 : FVec Ideal S1024x256 .bf16) : Prop where
  h0 : ∀ i, Re (a0 i)
  h1 : ∀ i, Re (a1 i)
  h2 : ∀ i, Re (a2 i)
  h3 : ∀ i, Re (a3 i)
  h5 : ∀ i, Re (a5 i)
  h6 : ∀ i, Re (a6 i)
  h7 : ∀ i, Re (a7 i)

theorem re_x1 (h : Fin7 a0 a1 a2 a3 a5 a6 a7) (b : Fin 4) (s : Fin 4096) (j : Fin 1024) : Re (refX1 a0 a1 a2 a5 (ix3 b s j)) := by
  pointwise [refX1]
  exact (h.h0 _).add ((Re.sum _ _ fun k => (h.h1 _).mul (h.h5 _)).add (Re.sum _ _ fun k => (h.h2 _).mul (h.h5 _)))

theorem re_hq (h : Fin7 a0 a1 a2 a3 a5 a6 a7) (b : Fin 4) (s : Fin 4096) (j : Fin 1024) : Re (refHq a0 a1 a2 a5 a6 (ix3 b s j)) := by
  have hx := re_x1 a0 a1 a2 a3 a5 a6 a7 h b s
  pointwise [refHq]
  rw [count]
  exact ((hx j).mul (Re0.rsqrt 1024 (by norm_num) (Re0.sum _ _ fun k => (hx k).sq) eps_pos)).mul (h.h6 _)

theorem re_q (h : Fin7 a0 a1 a2 a3 a5 a6 a7) (b : Fin 4) (s : Fin 4096) (j : Fin 256) : Re (refQ a0 a1 a2 a5 a6 a7 (ix3 b s j)) := by
  have hx := re_hq a0 a1 a2 a3 a5 a6 a7 h b s
  pointwise [refQ]
  exact Re.sum _ _ fun k => (hx k).mul (h.h7 _)

theorem re_logits (h : Fin7 a0 a1 a2 a3 a5 a6 a7) (b : Fin 4) (g : Fin 4) (s : Fin 4096) (n : Fin 256) :
    Re (refLogits a0 a1 a2 a3 a5 a6 a7 (ix4 b g s n)) := by
  have hx := re_q a0 a1 a2 a3 a5 a6 a7 h b s
  pointwise [refLogits]
  exact (Re.sum _ _ fun k => (hx _).mul (h.h3 _)).mul scale_re

/-- The maximum with the least element changes nothing. -/
theorem max_bot (R : FVec Ideal S4x4x4096 .f32) :
    maximumf (broadcastInDim S4x4x4096 ![] Cert.PostSoftmaxReferenceIdeal.Gen.facts.bcast_S_S4x4x4096 (constant S_ .f32 0xFF800000#32)) R = R := by
  funext i
  show max (Ideal.ofBits .f32 0xFF800000#32) (R i) = R i
  rw [neg_inf, max_eq_right bot_le]

theorem e_eq : softE a0 a1 a2 a3 a5 a6 a7 = refE a0 a1 a2 a3 a5 a6 a7 := by
  unfold softE refE
  rw [max_bot]

theorem p_at (h : Fin7 a0 a1 a2 a3 a5 a6 a7) (b : Fin 4) (g : Fin 4) (s : Fin 4096) (n : Fin 256) :
    softP a0 a1 a2 a3 a5 a6 a7 (ix4 b g s n) = refP a0 a1 a2 a3 a5 a6 a7 (ix4 b g s n) := by
  have hl := re_logits a0 a1 a2 a3 a5 a6 a7 h b g s
  pointwise [softP, refP, e_eq, refE]
  refine div_one (expsum_ne (by norm_num) _ hl _ ?_)
  rw [neg_inf]
  exact fold_max_attained _ _ ⟨0, Finset.mem_univ _⟩

theorem p_eq (h : Fin7 a0 a1 a2 a3 a5 a6 a7) : softP a0 a1 a2 a3 a5 a6 a7 = refP a0 a1 a2 a3 a5 a6 a7 := by
  funext i
  rw [eq_ix4 i]
  exact p_at a0 a1 a2 a3 a5 a6 a7 h _ _ _ _

theorem o_eq (h : softP a0 a1 a2 a3 a5 a6 a7 = refP a0 a1 a2 a3 a5 a6 a7) : softO a0 a1 a2 a3 a4 a5 a6 a7 = refO a0 a1 a2 a3 a4 a5 a6 a7 := by
  unfold softO refO
  rw [h]

theorem x2_eq (h : softP a0 a1 a2 a3 a5 a6 a7 = refP a0 a1 a2 a3 a5 a6 a7) : softX2 a0 a1 a2 a3 a4 a5 a6 a7 a8 = refX2 a0 a1 a2 a3 a4 a5 a6 a7 a8 := by
  unfold softX2 refX2
  rw [o_eq (h := h)]

theorem hf_eq (h : softP a0 a1 a2 a3 a5 a6 a7 = refP a0 a1 a2 a3 a5 a6 a7) : softHf a0 a1 a2 a3 a4 a5 a6 a7 a8 a9 = refHf a0 a1 a2 a3 a4 a5 a6 a7 a8 a9 := by
  unfold softHf refHf
  rw [x2_eq (h := h)]

theorem up_eq (h : softP a0 a1 a2 a3 a5 a6 a7 = refP a0 a1 a2 a3 a5 a6 a7) : softUp a0 a1 a2 a3 a4 a5 a6 a7 a8 a9 a10 = refUp a0 a1 a2 a3 a4 a5 a6 a7 a8 a9 a10 := by
  unfold softUp refUp
  rw [hf_eq (h := h)]

theorem upext_eq (h : softP a0 a1 a2 a3 a5 a6 a7 = refP a0 a1 a2 a3 a5 a6 a7) : softUpExt a0 a1 a2 a3 a4 a5 a6 a7 a8 a9 a10 = refUpExt a0 a1 a2 a3 a4 a5 a6 a7 a8 a9 a10 := by
  unfold softUpExt refUpExt
  rw [up_eq (h := h)]

theorem conv_eq (h : softP a0 a1 a2 a3 a5 a6 a7 = refP a0 a1 a2 a3 a5 a6 a7) : softConv a0 a1 a2 a3 a4 a5 a6 a7 a8 a9 a10 a11 a12 = refConv a0 a1 a2 a3 a4 a5 a6 a7 a8 a9 a10 a11 a12 := by
  unfold softConv refConv
  rw [upext_eq (h := h)]

theorem gate_eq (h : softP a0 a1 a2 a3 a5 a6 a7 = refP a0 a1 a2 a3 a5 a6 a7) : softGate a0 a1 a2 a3 a4 a5 a6 a7 a8 a9 a10 a11 a12 = refGate a0 a1 a2 a3 a4 a5 a6 a7 a8 a9 a10 a11 a12 := by
  unfold softGate refGate
  rw [conv_eq (h := h)]

theorem x3_eq (h : softP a0 a1 a2 a3 a5 a6 a7 = refP a0 a1 a2 a3 a5 a6 a7) : softX3 a0 a1 a2 a3 a4 a5 a6 a7 a8 a9 a10 a11 a12 a13 = refX3 a0 a1 a2 a3 a4 a5 a6 a7 a8 a9 a10 a11 a12 a13 := by
  unfold softX3 refX3
  rw [x2_eq (h := h), gate_eq (h := h)]

theorem out_eq (h : softP a0 a1 a2 a3 a5 a6 a7 = refP a0 a1 a2 a3 a5 a6 a7) : softOut a0 a1 a2 a3 a4 a5 a6 a7 a8 a9 a10 a11 a12 a13 a14 = refOut a0 a1 a2 a3 a4 a5 a6 a7 a8 a9 a10 a11 a12 a13 a14 := by
  unfold softOut refOut
  rw [x3_eq (h := h)]

theorem tail_eq (h : softP a0 a1 a2 a3 a5 a6 a7 = refP a0 a1 a2 a3 a5 a6 a7) : softTail a0 a1 a2 a3 a4 a5 a6 a7 a8 a9 a10 = refTail a0 a1 a2 a3 a4 a5 a6 a7 a8 a9 a10 := by
  unfold softTail refTail
  rw [upext_eq (h := h)]

end Cert.SoftPure

end
-- ==== Proof.PostSoftmaxClaim.lean ====
/- The call `Post` against the reference with the plain softmax: what the precondition says of the arguments, the run of
   the reference with the results named, its frame, and the equality of the results over the extended reals. -/
module

public import proofs.«01_k».proof.Defs
public import proofs.«01_k».proof.Proof.Gen.PostIdeal.Frame
public import proofs.«01_k».proof.Proof.Gen.PostSoftmaxReferenceIdeal.Run
public import proofs.«01_k».proof.Proof.PostValue
public import proofs.«01_k».proof.Proof.Gen.Pre_post_finite
public import proofs.«01_k».proof.Proof.SoftPure
public import Idealize.ShloMosaic.Lib.Affine
public import Idealize.ShloMosaic.Lib.ReduceAll
public import Idealize.ShloMosaic.Lib.Claim

@[expose] public section

set_option maxRecDepth 16384

noncomputable section

namespace Cert.PostSoftmaxClaim

open Idealize.ShloMosaic Idealize.SL.Sem

section

open Cert.Pre_post_finite Cert.SoftPure

instance : Subsingleton (⟨0, ![]⟩ : Shape).Idx := ⟨fun a b => funext fun d => d.elim0⟩

/-- The comparison of the precondition, at one entry. -/
theorem re_of_cmp {x : EReal} (h : Ideal.cmp .olt (max x (-x)) ⊤ = 1#1) : Re x := by
  refine re_of_abs ?_
  by_contra hn
  have e : Ideal.cmp .olt (max x (-x)) ⊤ = 0#1 := by simp [Ideal.cmp, hn]
  rw [e] at h
  exact absurd h (by decide)

theorem inf_top : (Ideal.ofBits .f32 0x7F800000#32) = (⊤ : EReal) := by
  simp [Ideal.ofBits, Ideal.ieee]

set_option maxHeartbeats 1600000 in
/-- The precondition says that the seven arguments are real at every entry. -/
theorem fin7_of_pre (a0 : FVec Ideal S4x4096x1024 .f32) (a1 : FVec Ideal S4x4096x512 .bf16) (a2 : FVec Ideal S4x4096x512 .bf16) (a3 : FVec Ideal S4x256x256 .bf16) (a4 : FVec Ideal S4x256x256 .bf16) (a5 : FVec Ideal S1024x1024 .bf16) (a6 : FVec Ideal S1x1024 .f32) (a7 : FVec Ideal S1024x256 .bf16) (a8 : FVec Ideal S256x1024 .bf16) (a9 : FVec Ideal S1x1024 .f32) (a10 : FVec Ideal S1024x5632 .bf16) (a11 : FVec Ideal S3x5632 .f32) (a12 : FVec Ideal S1x5632 .f32) (a13 : FVec Ideal S2816x1024 .bf16) (a14 : FVec Ideal S1x1024 .f32)
    (h : fn (F := Ideal) a0 a1 a2 a3 a4 a5 a6 a7 a8 a9 a10 a11 a12 a13 a14 = (fun _ => 1#1)) : Fin7 a0 a1 a2 a3 a5 a6 a7 := by
  have hj := congrFun h (fun d => d.elim0)
  dsimp only [fn, fn_part1, fn_part2] at hj
  obtain ⟨hj, h7⟩ := IntOp.andi_eq_one.1 hj
  obtain ⟨hj, h6⟩ := IntOp.andi_eq_one.1 hj
  obtain ⟨hj, h5⟩ := IntOp.andi_eq_one.1 hj
  obtain ⟨hj, h3⟩ := IntOp.andi_eq_one.1 hj
  obtain ⟨hj, h2⟩ := IntOp.andi_eq_one.1 hj
  obtain ⟨h0, h1⟩ := IntOp.andi_eq_one.1 hj
  exact {
    h0 := fun i => re_of_cmp (by rw [← inf_top]; exact Host.reduce_andi_all _ _ _ _ _ h0 i)
    h1 := fun i => re_of_cmp (by rw [← inf_top]; exact Host.reduce_andi_all _ _ _ _ _ h1 i)
    h2 := fun i => re_of_cmp (by rw [← inf_top]; exact Host.reduce_andi_all _ _ _ _ _ h2 i)
    h3 := fun i => re_of_cmp (by rw [← inf_top]; exact Host.reduce_andi_all _ _ _ _ _ h3 i)
    h5 := fun i => re_of_cmp (by rw [← inf_top]; exact Host.reduce_andi_all _ _ _ _ _ h5 i)
    h6 := fun i => re_of_cmp (by rw [← inf_top]; exact Host.reduce_andi_all _ _ _ _ _ h6 i)
    h7 := fun i => re_of_cmp (by rw [← inf_top]; exact Host.reduce_andi_all _ _ _ _ _ h7 i) }

end

section

open Cert.PostSoftmaxReferenceIdeal Cert.SoftRef
open Idealize.ShloMosaic.TcCoe

set_option maxHeartbeats 1600000 in
/-- Every run of the reference ends with each result at the function of the arguments that `SoftRef` names, and with the
    arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v111) = softOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v112) = softTail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run _ _ _).mono (fun _ h c => ⟨(h c).1.trans rfl, (h c).2.1.trans rfl, (h c).2.2⟩) (Cert.PostSoftmaxReferenceIdeal.Value.run m g)

/-- The reference runs, leaves its arguments unchanged and ends with every counter at zero. -/
theorem reference_frame : Cert.quiescent_PostSoftmaxReferenceIdeal := fun m g _ =>
  (θ_run _ _ _).mono (fun r h => ⟨fun c => (h c).2.2, Idealize.ShloMosaic.sem_eq_zero_of_no_sems (by decide) r.2⟩)
    (Cert.PostSoftmaxReferenceIdeal.Value.run m g)

/-- The same on arguments that fulfil the precondition. -/
theorem reference_frame_pre : Cert.quiescent_PostSoftmaxReferenceIdeal_pre_post_finite := fun m g _ =>
  (θ_run _ _ _).mono (fun r h => ⟨fun c => (h c).2.2, Idealize.ShloMosaic.sem_eq_zero_of_no_sems (by decide) r.2⟩)
    (Cert.PostSoftmaxReferenceIdeal.Value.run m g)

end

open Cert.PostValue Cert.SoftPure in
set_option maxHeartbeats 1600000 in
/-- Over the extended reals, on real arguments, the call's results are the reference's. -/
theorem algebraic : Cert.algebraic_PostIdeal_PostSoftmaxReferenceIdeal_pre_post_finite := by
  pair_intro
  · run_from Cert.PostIdeal.Gen.run_main m g
    exact hc.1 16
  · have fin := fun c => fin7_of_pre _ _ _ _ _ _ _ _ _ _ _ _ _ _ _ (hpre c)
    run_from reference_run m' g'
    · exact (out_eq _ _ _ _ _ _ _ _ _ _ _ _ _ _ _ (p_eq _ _ _ _ _ _ _ (fin c))).trans (final_out m c).symm
    · exact (tail_eq _ _ _ _ _ _ _ _ _ _ _ (p_eq _ _ _ _ _ _ _ (fin c))).trans (final_tail m c).symm

end Cert.PostSoftmaxClaim

end
-- ==== Proof.InpSRef.lean ====
/- The reference `InprojSampleReferenceIdeal`, stage by stage: each definition is one stage of its result as a function of the arguments. -/
module

public import proofs.«01_k».proof.Proof.Gen.InprojSampleReferenceIdeal
public import proofs.«01_k».proof.Proof.Gen.InprojSampleReferenceIdeal.Run
public import Idealize.ShloMosaic.Lib.Pipeline.ValueKit

@[expose] public section

set_option maxRecDepth 16384

noncomputable section

namespace Cert.InpSRef

open Cert.InprojSampleReferenceIdeal Cert.InprojSampleReferenceIdeal.Gen
open Idealize.ShloMosaic Idealize.ShloMosaic.TcCoe Idealize.SL.Sem

/-- The normalised input rows. -/
def refNorm (a0 : FVec Ideal S1x128x1024 .f32) (a1 : FVec Ideal S1x1024 .f32) : FVec Ideal S1x128x1024 .f32 :=
  mulf (mulf a0 (broadcastInDim S1x128x1024 ![0, 1, 2] bcast_S1x128x1_S1x128x1024_0_1_2 (Host.rsqrt (addf (Host.divf (broadcastInDim S1x128x1 ![0, 1] bcast_S1x128_S1x128x1_0_1 (Host.reduceAdd (mulf a0 a0) (constant S_ .f32 0x00000000#32) reducesTo_S1x128x1024_S1x128_d2 h_S_)) (broadcastInDim S1x128x1 ![] bcast_S_S1x128x1 (constant S_ .f32 0x44800000#32))) (broadcastInDim S1x128x1 ![] bcast_S_S1x128x1 (constant S_ .f32 0x358637BD#32)))))) (broadcastInDim S1x128x1024 ![0, 1, 2] bcast_S1x1x1024_S1x128x1024_0_1_2 (broadcastInDim S1x1x1024 ![2] bcast_S1024_S1x1x1024_2 (shapeCast S1024 a1 shapeCasts_S1x1024_S1024)))

/-- The projection of the normalised rows by the whole input weight. -/
def refProj (a0 : FVec Ideal S1x128x1024 .f32) (a1 : FVec Ideal S1x1024 .f32) (a2 : FVec Ideal S1x1024x3144 .f32) : FVec Ideal S1x128x3144 .f32 :=
  Host.dotGeneral dot_S1x128x1024_S1024x3144_S1x128x3144_2_0_01_1_n_n none (refNorm a0 a1) (shapeCast S1024x3144 a2 shapeCasts_S1x1024x3144_S1024x3144)

/-- The gated linear unit: one half times the sigmoid of the other. -/
def refU (a0 : FVec Ideal S1x128x1024 .f32) (a1 : FVec Ideal S1x1024 .f32) (a2 : FVec Ideal S1x1024x3144 .f32) : FVec Ideal S1x128x512 .f32 :=
  mulf (extractStridedSlice S1x128x512 ![0, 0, 0] (extractStridedSlice S1x128x1024 ![0, 0, 2120] (refProj a0 a1 a2) slices_S1x128x3144_S1x128x1024_0_0_2120) slices_S1x128x1024_S1x128x512_0_0_0) (Host.divf (broadcastInDim S1x128x512 ![] bcast_S_S1x128x512 (constant S_ .f32 0x3F800000#32)) (addf (broadcastInDim S1x128x512 ![] bcast_S_S1x128x512 (constant S_ .f32 0x3F800000#32)) (Host.exp (Host.negf (extractStridedSlice S1x128x512 ![0, 0, 512] (extractStridedSlice S1x128x1024 ![0, 0, 2120] (refProj a0 a1 a2) slices_S1x128x3144_S1x128x1024_0_0_2120) slices_S1x128x1024_S1x128x512_0_0_512)))))

/-- Index keys and index weights, filled up with zeros to the lane width. -/
def refSmall (a0 : FVec Ideal S1x128x1024 .f32) (a1 : FVec Ideal S1x1024 .f32) (a2 : FVec Ideal S1x1024x3144 .f32) : FVec Ideal S1x128x128 .f32 :=
  concatenate S1x128x128 2 [⟨S1x128x64, ((extractStridedSlice S1x128x64 ![0, 0, 2048] (refProj a0 a1 a2) slices_S1x128x3144_S1x128x64_0_0_2048))⟩, ⟨S1x128x8, ((extractStridedSlice S1x128x8 ![0, 0, 2112] (refProj a0 a1 a2) slices_S1x128x3144_S1x128x8_0_0_2112))⟩, ⟨S1x128x56, ((broadcastInDim S1x128x56 ![] bcast_S_S1x128x56 (constant S_ .f32 0x00000000#32)))⟩] concatenates_S1x128x64_S1x128x8_S1x128x56_S1x128x128_d2

/-- The keys, positions last. -/
def refK (a0 : FVec Ideal S1x128x1024 .f32) (a1 : FVec Ideal S1x1024 .f32) (a2 : FVec Ideal S1x1024x3144 .f32) : FVec Ideal S1x512x128 .f32 :=
  transpose S1x512x128 [0, 2, 1] (extractStridedSlice S1x128x512 ![0, 0, 512] (refProj a0 a1 a2) slices_S1x128x3144_S1x128x512_0_0_512) transposes_S1x128x512_S1x512x128_0_2_1

/-- The values, positions last. -/
def refV (a0 : FVec Ideal S1x128x1024 .f32) (a1 : FVec Ideal S1x1024 .f32) (a2 : FVec Ideal S1x1024x3144 .f32) : FVec Ideal S1x512x128 .f32 :=
  transpose S1x512x128 [0, 2, 1] (extractStridedSlice S1x128x512 ![0, 0, 1024] (refProj a0 a1 a2) slices_S1x128x3144_S1x128x512_0_0_1024) transposes_S1x128x512_S1x512x128_0_2_1

/-- The index keys, positions last. -/
def refIdxK (a0 : FVec Ideal S1x128x1024 .f32) (a1 : FVec Ideal S1x1024 .f32) (a2 : FVec Ideal S1x1024x3144 .f32) : FVec Ideal S1x64x128 .f32 :=
  transpose S1x64x128 [0, 2, 1] (extractStridedSlice S1x128x64 ![0, 0, 2048] (refProj a0 a1 a2) slices_S1x128x3144_S1x128x64_0_0_2048) transposes_S1x128x64_S1x64x128_0_2_1

/-- The scaled queries in the short format. -/
def refQb (a0 : FVec Ideal S1x128x1024 .f32) (a1 : FVec Ideal S1x1024 .f32) (a2 : FVec Ideal S1x1024x3144 .f32) : FVec Ideal S1x128x512 .bf16 :=
  truncf .bf16 (mulf (extractStridedSlice S1x128x512 ![0, 0, 0] (refProj a0 a1 a2) slices_S1x128x3144_S1x128x512_0_0_0) (broadcastInDim S1x128x512 ![] bcast_S_S1x128x512 (constant S_ .f32 0x3E000000#32))) bitsLt_bf16_f32

/-- The keys in the short format. -/
def refKb (a0 : FVec Ideal S1x128x1024 .f32) (a1 : FVec Ideal S1x1024 .f32) (a2 : FVec Ideal S1x1024x3144 .f32) : FVec Ideal S1x128x512 .bf16 :=
  truncf .bf16 (extractStridedSlice S1x128x512 ![0, 0, 512] (refProj a0 a1 a2) slices_S1x128x3144_S1x128x512_0_0_512) bitsLt_bf16_f32

/-- The values, positions last, in the short format. -/
def refVb (a0 : FVec Ideal S1x128x1024 .f32) (a1 : FVec Ideal S1x1024 .f32) (a2 : FVec Ideal S1x1024x3144 .f32) : FVec Ideal S1x512x128 .bf16 :=
  truncf .bf16 (transpose S1x512x128 [0, 2, 1] (extractStridedSlice S1x128x512 ![0, 0, 1024] (refProj a0 a1 a2) slices_S1x128x3144_S1x128x512_0_0_1024) transposes_S1x128x512_S1x512x128_0_2_1) bitsLt_bf16_f32

/-- The scaled index queries in the short format. -/
def refIqb (a0 : FVec Ideal S1x128x1024 .f32) (a1 : FVec Ideal S1x1024 .f32) (a2 : FVec Ideal S1x1024x3144 .f32) : FVec Ideal S1x128x512 .bf16 :=
  truncf .bf16 (mulf (extractStridedSlice S1x128x512 ![0, 0, 1536] (refProj a0 a1 a2) slices_S1x128x3144_S1x128x512_0_0_1536) (broadcastInDim S1x128x512 ![] bcast_S_S1x128x512 (constant S_ .f32 0x3E000000#32))) bitsLt_bf16_f32

/-- The index keys in the short format. -/
def refIkb (a0 : FVec Ideal S1x128x1024 .f32) (a1 : FVec Ideal S1x1024 .f32) (a2 : FVec Ideal S1x1024x3144 .f32) : FVec Ideal S1x128x64 .bf16 :=
  truncf .bf16 (extractStridedSlice S1x128x64 ![0, 0, 2048] (refProj a0 a1 a2) slices_S1x128x3144_S1x128x64_0_0_2048) bitsLt_bf16_f32

end Cert.InpSRef

end
-- ==== Proof.InpSPure.lean ====
/- The input projection of the sample group: each payload of the kernel's tile, read at a row, is the reference's result at that row. -/
module

public import proofs.«01_k».proof.Proof.Gen.InprojSampleIdeal.Skeleton
public import proofs.«01_k».proof.Proof.InpSRef
public import Idealize.ShloMosaic.Lib.Pointwise

@[expose] public section

set_option maxRecDepth 16384

noncomputable section

namespace Cert.InpSPure

open Cert.InprojSampleIdeal Cert.InprojSampleIdeal.Gen Cert.InpSRef
open Idealize.ShloMosaic Idealize.ShloMosaic.TcCoe Idealize.SL.Sem

variable (a0 : FVec Ideal S1x128x1024 .f32) (a1 : FVec Ideal S1x1024 .f32) (a2 : FVec Ideal S1x1024x3144 .f32)
  (s : Fin 128) (r : Fin 128)

/-- The normed row. -/
theorem row_norm (x : FVec Ideal S1x128x1024 .f32) (g : FVec Ideal S1x1024 .f32)
    (hx : ∀ k : Fin 1024, x (ix3 (0 : Fin 1) r k) = a0 (ix3 (0 : Fin 1) s k)) (hg : ∀ k : Fin 1024, g (ix2 (0 : Fin 1) k) = a1 (ix2 (0 : Fin 1) k))
    (j : Fin 1024) : @Eq EReal (k0_pay6 (F := Ideal) x g (ix2 r j)) (refNorm a0 a1 (ix3 (0 : Fin 1) s j)) := by
  pointwise [k0_pay6, refNorm, hx, hg]

variable (x : FVec Ideal S1x128x1024 .f32) (g : FVec Ideal S1x1024 .f32)
  (h : ∀ j : Fin 1024, @Eq EReal (k0_pay6 (F := Ideal) x g (ix2 r j)) (refNorm a0 a1 (ix3 (0 : Fin 1) s j)))

include h

/-- The keys, transposed. -/
theorem pay_k (w : FVec Ideal S1024x512 .bf16)
    (hw : ∀ (k : Fin 1024) (j : Fin 512), @Eq EReal (w (ix2 k j)) (a2 (ix3 (0 : Fin 1) k (⟨512 + j.val, by omega⟩ : Fin 3144)))) (j : Fin 512) :
    k0_pay9 x g w (ix3 (0 : Fin 1) j r) = refK a0 a1 a2 (ix3 (0 : Fin 1) j s) := by
  pointwise [k0_pay9, k0_pay8, refK, refProj, h, hw]

/-- The values, transposed. -/
theorem pay_v (w : FVec Ideal S1024x512 .bf16)
    (hw : ∀ (k : Fin 1024) (j : Fin 512), @Eq EReal (w (ix2 k j)) (a2 (ix3 (0 : Fin 1) k (⟨1024 + j.val, by omega⟩ : Fin 3144)))) (j : Fin 512) :
    k0_pay13 (k0_pay6 x g) w (ix3 (0 : Fin 1) j r) = refV a0 a1 a2 (ix3 (0 : Fin 1) j s) := by
  pointwise [k0_pay13, k0_pay12, refV, refProj, h, hw]

/-- The values once more, rounded. -/
theorem pay_vb (w : FVec Ideal S1024x512 .bf16)
    (hw : ∀ (k : Fin 1024) (j : Fin 512), @Eq EReal (w (ix2 k j)) (a2 (ix3 (0 : Fin 1) k (⟨1024 + j.val, by omega⟩ : Fin 3144)))) (j : Fin 512) :
    k0_pay14 (k0_pay6 x g) w (ix3 (0 : Fin 1) j r) = refVb a0 a1 a2 (ix3 (0 : Fin 1) j s) := by
  pointwise [k0_pay14, k0_pay12, refVb, refProj, h, hw]

/-- The queries, scaled. -/
theorem pay_qb (w : FVec Ideal S1024x512 .bf16)
    (hw : ∀ (k : Fin 1024) (j : Fin 512), @Eq EReal (w (ix2 k j)) (a2 (ix3 (0 : Fin 1) k (⟨j.val, by omega⟩ : Fin 3144)))) (j : Fin 512) :
    k0_pay7 x g w (ix3 (0 : Fin 1) r j) = refQb a0 a1 a2 (ix3 (0 : Fin 1) s j) := by
  pointwise [k0_pay7, refQb, refProj, h, hw]

/-- The keys, rounded. -/
theorem pay_kb (w : FVec Ideal S1024x512 .bf16)
    (hw : ∀ (k : Fin 1024) (j : Fin 512), @Eq EReal (w (ix2 k j)) (a2 (ix3 (0 : Fin 1) k (⟨512 + j.val, by omega⟩ : Fin 3144)))) (j : Fin 512) :
    k0_pay11 (k0_pay10 x g w) (ix3 (0 : Fin 1) r j) = refKb a0 a1 a2 (ix3 (0 : Fin 1) s j) := by
  pointwise [k0_pay11, k0_pay10, k0_pay8, refKb, refProj, h, hw]

/-- The index queries, scaled. -/
theorem pay_iqb (w : FVec Ideal S1024x512 .bf16)
    (hw : ∀ (k : Fin 1024) (j : Fin 512), @Eq EReal (w (ix2 k j)) (a2 (ix3 (0 : Fin 1) k (⟨1536 + j.val, by omega⟩ : Fin 3144)))) (j : Fin 512) :
    k0_pay15 (k0_pay6 x g) w (ix3 (0 : Fin 1) r j) = refIqb a0 a1 a2 (ix3 (0 : Fin 1) s j) := by
  pointwise [k0_pay15, refIqb, refProj, h, hw]

/-- The gated linear unit. -/
theorem pay_u (w w' : FVec Ideal S1024x512 .bf16)
    (hw : ∀ (k : Fin 1024) (j : Fin 512), @Eq EReal (w (ix2 k j)) (a2 (ix3 (0 : Fin 1) k (⟨2120 + j.val, by omega⟩ : Fin 3144))))
    (hw' : ∀ (k : Fin 1024) (j : Fin 512), @Eq EReal (w' (ix2 k j)) (a2 (ix3 (0 : Fin 1) k (⟨2632 + j.val, by omega⟩ : Fin 3144)))) (j : Fin 512) :
    k0_pay1 (k0_pay16 (k0_pay6 x g) w) (k0_pay17 (k0_pay6 x g) w') (ix3 (0 : Fin 1) r j) = refU a0 a1 a2 (ix3 (0 : Fin 1) s j) := by
  pointwise [k0_pay1, k0_pay16, k0_pay17, refU, refProj, h, hw, hw']
  have e : ∀ x : Fin 1024, a2 (ix3 (0 : Fin 1) x (⟨2120 + (512 + j.val), by omega⟩ : Fin 3144)) = a2 (ix3 (0 : Fin 1) x (⟨2632 + j.val, by omega⟩ : Fin 3144)) :=
    fun x => congrArg a2 (congrArg (ix3 (0 : Fin 1) x) (Fin.ext (by show 2120 + (512 + j.val) = 2632 + j.val; omega)))
  simp only [e, zero_sub]

/-- The index keys, transposed. -/
theorem pay_idxk (w : FVec Ideal S1024x128 .bf16)
    (hw : ∀ (k : Fin 1024) (j : Fin 64), @Eq EReal (w (ix2 k (⟨j.val, by omega⟩ : Fin 128))) (a2 (ix3 (0 : Fin 1) k (⟨2048 + j.val, by omega⟩ : Fin 3144)))) (j : Fin 64) :
    k0_pay4 (k0_pay6 x g) w (ix3 (0 : Fin 1) j r) = refIdxK a0 a1 a2 (ix3 (0 : Fin 1) j s) := by
  pointwise [k0_pay4, k0_pay2, refIdxK, refProj, h, hw]

/-- The index keys, rounded. -/
theorem pay_ikb (w : FVec Ideal S1024x128 .bf16)
    (hw : ∀ (k : Fin 1024) (j : Fin 64), @Eq EReal (w (ix2 k (⟨j.val, by omega⟩ : Fin 128))) (a2 (ix3 (0 : Fin 1) k (⟨2048 + j.val, by omega⟩ : Fin 3144)))) (j : Fin 64) :
    k0_pay5 (k0_pay6 x g) w (ix3 (0 : Fin 1) r j) = refIkb a0 a1 a2 (ix3 (0 : Fin 1) s j) := by
  pointwise [k0_pay5, k0_pay2, refIkb, refProj, h, hw]

/-- The index keys and the index weights, side by side, with zeros after them. -/
theorem pay_small (w : FVec Ideal S1024x128 .bf16)
    (hw : ∀ (k : Fin 1024) (j : Fin 128), @Eq EReal (w (ix2 k j)) (if hj : j.val < 72 then a2 (ix3 (0 : Fin 1) k (⟨2048 + j.val, by omega⟩ : Fin 3144)) else 0)) (j : Fin 128) :
    k0_pay3 (k0_pay6 x g) w (ix3 (0 : Fin 1) r j) = refSmall a0 a1 a2 (ix3 (0 : Fin 1) s j) := by
  pointwise [k0_pay3, k0_pay2, refSmall, refProj, h, hw]
  by_cases h1 : j.val < 64
  · rw [dif_pos h1]
    exact Finset.sum_congr rfl fun x _ => by rw [dif_pos (by omega)]
  · rw [dif_neg h1]
    by_cases h2 : j.val < 72
    · rw [dif_pos (by omega)]
      refine Finset.sum_congr rfl fun x _ => ?_
      rw [dif_pos h2]
      exact congrArg (refNorm a0 a1 (ix3 (0 : Fin 1) s x) * ·) (congrArg a2 (congrArg (ix3 (0 : Fin 1) x) (Fin.ext (by show 2048 + j.val = 2112 + (j.val - 64); omega))))
    · rw [dif_neg (by omega)]
      refine Finset.sum_eq_zero fun x _ => ?_
      rw [dif_neg h2, mul_zero]

end Cert.InpSPure

end
-- ==== Proof.InpSValue.lean ====
/- The input projection of the sample group: what the kernel leaves in its ten result arrays is the reference's term. -/
module

public import proofs.«01_k».proof.Proof.Gen.InprojSampleIdeal.Frame
public import proofs.«01_k».proof.Proof.InpSPure
public import Idealize.ShloMosaic.Lib.Pipeline.ValueKit
public import Idealize.ShloMosaic.Lib.Claim

@[expose] public section

set_option maxRecDepth 16384

noncomputable section

namespace Cert.InpSValue

open Cert.InprojSampleIdeal Cert.InprojSampleIdeal.Gen Cert.InpSRef Cert.InpSPure
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0, 0]
    ∧ win0_1.index t = ![0, 0]
    ∧ win0_2.index t = ![0, 0]
    ∧ win0_3.index t = ![0, 0, 0]
    ∧ win0_4.index t = ![0, 0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0]
    ∧ win0_11.index t = ![0, 0, 0]
    ∧ win0_12.index t = ![0, 0, 0] :=
  (by decide +kernel : ∀ t : Fin grid0.N, _)

abbrev A0 (c : Dev nD) : FVec Ideal S1x128x1024 .f32 := shapeCast S1x128x1024 (m ((c : Thread nD τ).loc main_arg0)) shapeCasts_S128x1x1024_S1x128x1024
abbrev A1 (c : Dev nD) := m ((c : Thread nD τ).loc main_arg1)
abbrev A2 (c : Dev nD) := m ((c : Thread nD τ).loc main_arg2)

theorem idx3_ext {n0 n1 n2 : ℕ} {x y : (⟨3, ![n0, n1, n2]⟩ : Shape).Idx} (h0 : (x 0).val = (y 0).val) (h1 : (x 1).val = (y 1).val) (h2 : (x 2).val = (y 2).val) : x = y :=
  funext fun a => by
    fin_cases a
    · exact Fin.ext h0
    · exact Fin.ext h1
    · exact Fin.ext h2

theorem pay18_eq (x0 : FVec Ideal S1x128x1024 .f32) (x1 : FVec Ideal S1x1024 .f32) (x2 : FVec Ideal S1024x3200 .bf16) :
    k0_pay18 (F := Ideal) x0 x1 x2 = k0_pay6 (F := Ideal) x0 x1 := by
  unfold k0_pay18; frame_out

theorem blk_x (c : Dev nD) (t : Fin cfg0.N) (r : Fin 128) (k : Fin 1024) :
    @Eq EReal (iblk m c 0 t (ix3 (0 : Fin 1) r k))
      (A0 m c (ix3 (0 : Fin 1) (⟨r.val, by omega⟩ : Fin 128) k)) := by
  blk_point [iblk, V, idx t]

theorem blk_g (c : Dev nD) (t : Fin cfg0.N) (k : Fin 1024) :
    @Eq EReal (iblk m c 1 t (ix2 (0 : Fin 1) k)) (A1 m c (ix2 (0 : Fin 1) k)) := by
  blk_point [iblk, V, idx t]

theorem V8 (c : Dev nD) : V m c main_v9 = truncf (F := Ideal) .bf16 (V m c main_v8 : FVec Ideal S1024x3200 .f32) bitsLt_bf16_f32 := rfl

theorem V7 (c : Dev nD) : V m c main_v8 = concatenate S1024x3200 1 [⟨S1024x2048, (V m c main_v4 : S1024x2048.Idx → EReal)⟩, ⟨S1024x1024, (V m c main_v5 : S1024x1024.Idx → EReal)⟩,
   ⟨S1024x72, (V m c main_v6 : S1024x72.Idx → EReal)⟩, ⟨S1024x56, (V m c main_v7 : S1024x56.Idx → EReal)⟩] concatenates_S1024x2048_S1024x1024_S1024x72_S1024x56_S1024x3200_d1 := rfl

theorem V3 (c : Dev nD) (k : Fin 1024) (j : Fin 2048) : @Eq EReal (V m c main_v4 (ix2 k j)) (A2 m c (ix3 (0 : Fin 1) k ⟨j.val, by omega⟩)) := by
  entry_read; pointwise
theorem V4 (c : Dev nD) (k : Fin 1024) (j : Fin 1024) : @Eq EReal (V m c main_v5 (ix2 k j)) (A2 m c (ix3 (0 : Fin 1) k ⟨2120 + j.val, by omega⟩)) := by
  entry_read; pointwise
theorem V5 (c : Dev nD) (k : Fin 1024) (j : Fin 72) : @Eq EReal (V m c main_v6 (ix2 k j)) (A2 m c (ix3 (0 : Fin 1) k ⟨2048 + j.val, by omega⟩)) := by
  entry_read; pointwise
theorem V6 (c : Dev nD) (k : Fin 1024) (j : Fin 56) : @Eq EReal (V m c main_v7 (ix2 k j)) 0 := by
  entry_read; pointwise

/-- The four column ranges of the concatenated weight. -/
theorem cat_at (x3 : S1024x2048.Idx → EReal) (x4 : S1024x1024.Idx → EReal) (x5 : S1024x72.Idx → EReal) (x6 : S1024x56.Idx → EReal) (k : Fin 1024) (j : Fin 3200) :
    truncf (F := Ideal) .bf16 (concatenate S1024x3200 1 [⟨S1024x2048, x3⟩, ⟨S1024x1024, x4⟩, ⟨S1024x72, x5⟩, ⟨S1024x56, x6⟩]
      concatenates_S1024x2048_S1024x1024_S1024x72_S1024x56_S1024x3200_d1 : FVec Ideal S1024x3200 .f32) bitsLt_bf16_f32 (ix2 k j)
    = if h : j.val < 2048 then x3 (ix2 k ⟨j.val, h⟩) else if h1 : j.val - 2048 < 1024 then x4 (ix2 k ⟨j.val - 2048, h1⟩)
      else if h2 : j.val - 2048 - 1024 < 72 then x5 (ix2 k ⟨j.val - 2048 - 1024, h2⟩) else x6 (ix2 k ⟨j.val - 2048 - 1024 - 72, by omega⟩) := by
  pointwise

theorem blk_w (c : Dev nD) (t : Fin cfg0.N) (k : Fin 1024) (j : Fin 3200) :
    @Eq EReal (iblk m c 2 t (ix2 k j)) (V m c main_v9 (ix2 k j)) := by
  blk_ext [iblk, idx t]

theorem w_at (c : Dev nD) (t : Fin cfg0.N) (k : Fin 1024) (j : Fin 3200) :
    @Eq EReal (iblk m c 2 t (ix2 k j))
      (if h : j.val < 2048 then A2 m c (ix3 (0 : Fin 1) k (⟨j.val, by omega⟩ : Fin 3144))
       else if h1 : j.val - 2048 < 1024 then A2 m c (ix3 (0 : Fin 1) k (⟨2120 + (j.val - 2048), by omega⟩ : Fin 3144))
       else if h2 : j.val - 2048 - 1024 < 72 then A2 m c (ix3 (0 : Fin 1) k (⟨2048 + (j.val - 2048 - 1024), by omega⟩ : Fin 3144)) else 0) := by
  refine (blk_w m c t k j).trans ?_
  refine (congrFun ((V8 m c).trans (congrArg (fun z => truncf (F := Ideal) .bf16 (z : FVec Ideal S1024x3200 .f32) bitsLt_bf16_f32) (V7 m c))) (ix2 k j)).trans ?_
  refine (cat_at _ _ _ _ k j).trans ?_
  split
  · exact V3 m c k _
  · split
    · exact V4 m c k _
    · split
      · exact V5 m c k _
      · exact V6 m c k _

/-- A 512-column block of the weight, loaded at an offset below 2048. -/
theorem ld_low (c : Dev nD) (t : Fin cfg0.N) (o : ℕ) (inb) (ho : o + 512 ≤ 2048) (k : Fin 1024) (j : Fin 512) :
    @Eq EReal (View.ld (iblk m c 2 t) (Rect.unit (s := S1024x3200) ![0, o] ![1024, 512] inb) (ix2 k j))
      (A2 m c (ix3 (0 : Fin 1) k (⟨o + j.val, by omega⟩ : Fin 3144))) := by
  have e : (Rect.unit (s := S1024x3200) ![0, o] ![1024, 512] inb).emb (ix2 k j) = ix2 k (⟨o + j.val, by omega⟩ : Fin 3200) := funext fun a => by
    fin_cases a
    · exact Fin.ext (show 0 + 1 * k.val = k.val by omega)
    · exact Fin.ext (show o + 1 * j.val = o + j.val by omega)
  refine (congrArg (iblk m c 2 t) e).trans ((w_at m c t k _).trans ?_)
  rw [dif_pos (show o + j.val < 2048 by omega)]

/-- A 512-column block of the weight, loaded at an offset from 2048 on. -/
theorem ld_mid (c : Dev nD) (t : Fin cfg0.N) (o : ℕ) (inb) (ho : 2048 ≤ o) (ho' : o + 512 ≤ 3072) (k : Fin 1024) (j : Fin 512) :
    @Eq EReal (View.ld (iblk m c 2 t) (Rect.unit (s := S1024x3200) ![0, o] ![1024, 512] inb) (ix2 k j))
      (A2 m c (ix3 (0 : Fin 1) k (⟨o + 72 + j.val, by omega⟩ : Fin 3144))) := by
  have e : (Rect.unit (s := S1024x3200) ![0, o] ![1024, 512] inb).emb (ix2 k j) = ix2 k (⟨o + j.val, by omega⟩ : Fin 3200) := funext fun a => by
    fin_cases a
    · exact Fin.ext (show 0 + 1 * k.val = k.val by omega)
    · exact Fin.ext (show o + 1 * j.val = o + j.val by omega)
  refine (congrArg (iblk m c 2 t) e).trans ((w_at m c t k _).trans ?_)
  rw [dif_neg (show ¬ o + j.val < 2048 by omega), dif_pos (show o + j.val - 2048 < 1024 by omega)]
  exact congrArg (fun z : Fin 3144 => A2 m c (ix3 (0 : Fin 1) k z)) (Fin.ext (show 2120 + (o + j.val - 2048) = o + 72 + j.val by omega))

/-- The last 128 columns: 72 of the weight's and then zeros. -/
theorem ld_small (c : Dev nD) (t : Fin cfg0.N) (k : Fin 1024) (j : Fin 128) :
    @Eq EReal (View.ld (iblk m c 2 t) r0_10 (ix2 k j))
      (if hj : j.val < 72 then A2 m c (ix3 (0 : Fin 1) k (⟨2048 + j.val, by omega⟩ : Fin 3144)) else 0) := by
  have e : r0_10.emb (ix2 k j) = ix2 k (⟨3072 + j.val, by omega⟩ : Fin 3200) := funext fun a => by
    fin_cases a
    · exact Fin.ext (show 0 + 1 * k.val = k.val by omega)
    · exact Fin.ext (show 3072 + 1 * j.val = 3072 + j.val by omega)
  refine (congrArg (iblk m c 2 t) e).trans ((w_at m c t k _).trans ?_)
  rw [dif_neg (show ¬ 3072 + j.val < 2048 by omega), dif_neg (show ¬ 3072 + j.val - 2048 < 1024 by omega)]
  by_cases hj : j.val < 72
  · rw [dif_pos hj, dif_pos (show 3072 + j.val - 2048 - 1024 < 72 by omega)]
    exact congrArg (fun z : Fin 3144 => A2 m c (ix3 (0 : Fin 1) k z)) (Fin.ext (show 2048 + (3072 + j.val - 2048 - 1024) = 2048 + j.val by omega))
  · rw [dif_neg hj, dif_neg (show ¬ 3072 + j.val - 2048 - 1024 < 72 by omega)]

/-- The normed row of a tile. -/
theorem norm_at (c : Dev nD) (t : Fin cfg0.N) (r : Fin 128) (j : Fin 1024) :
    @Eq EReal (k0_pay6 (F := Ideal) (iblk m c 0 t) (iblk m c 1 t) (ix2 r j))
      (refNorm (A0 m c) (A1 m c) (ix3 (0 : Fin 1) (⟨r.val, by omega⟩ : Fin 128) j)) :=
  row_norm _ _ _ r _ _ (fun k => blk_x m c t r k) (fun k => blk_g m c t k) j

theorem point_k (c : Dev nD) (t : Fin cfg0.N) (y : S1x512x128.Idx) (Y : S1x512x128.Idx) (h0 : (Y 0).val = 0)
    (h1 : (Y 1).val = (y 1).val) (h2 : (Y 2).val = (y 2).val) :
    k0_pay9 (iblk m c 0 t) (iblk m c 1 t) (View.ld (iblk m c 2 t) r0_4) y = refK (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (y 1 : Fin 512) (⟨(y 2).val, (y 2).isLt⟩ : Fin 128) := idx3_ext h0 h1 h2
  rw [eY]
  refine (congrArg (k0_pay9 (iblk m c 0 t) (iblk m c 1 t) (View.ld (iblk m c 2 t) r0_4)) ey).trans ?_
  exact pay_k (A0 m c) (A1 m c) (A2 m c) _ (y 2) _ _ (fun j => norm_at m c t (y 2) j) _ (fun k j => ld_low m c t 512 _ (by omega) k j) (y 1)

theorem final_k (c : Dev nD) : (dats m 0 c).arrAt 3 (cfgs 0).N = refK (A0 m c) (A1 m c) (A2 m c) := by
  refine (dats m 0 c).arrAt_eq_of_covers 3 _ (by decide +kernel) fun t hf y => ?_
  blk_simp; rw [after0_3]; frame_out
  exact point_k m c t y _ (by blk_simp [idx t]) (by blk_simp [idx t]) (by blk_simp [idx t] <;> omega)

theorem point_v (c : Dev nD) (t : Fin cfg0.N) (y : S1x512x128.Idx) (Y : S1x512x128.Idx) (h0 : (Y 0).val = 0)
    (h1 : (Y 1).val = (y 1).val) (h2 : (Y 2).val = (y 2).val) :
    k0_pay13 (k0_pay6 (iblk m c 0 t) (iblk m c 1 t)) (View.ld (iblk m c 2 t) r0_6) y = refV (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (y 1 : Fin 512) (⟨(y 2).val, (y 2).isLt⟩ : Fin 128) := idx3_ext h0 h1 h2
  rw [eY]
  refine (congrArg (k0_pay13 (k0_pay6 (iblk m c 0 t) (iblk m c 1 t)) (View.ld (iblk m c 2 t) r0_6)) ey).trans ?_
  exact pay_v (A0 m c) (A1 m c) (A2 m c) _ (y 2) _ _ (fun j => norm_at m c t (y 2) j) _ (fun k j => ld_low m c t 1024 _ (by omega) k j) (y 1)

theorem final_v (c : Dev nD) : (dats m 0 c).arrAt 4 (cfgs 0).N = refV (A0 m c) (A1 m c) (A2 m c) := by
  refine (dats m 0 c).arrAt_eq_of_covers 4 _ (by decide +kernel) fun t hf y => ?_
  blk_simp; rw [after0_4]; frame_out
  rw [pay18_eq]
  exact point_v m c t y _ (by blk_simp [idx t]) (by blk_simp [idx t]) (by blk_simp [idx t] <;> omega)

theorem point_idxk (c : Dev nD) (t : Fin cfg0.N) (y : S1x64x128.Idx) (Y : S1x64x128.Idx) (h0 : (Y 0).val = 0)
    (h1 : (Y 1).val = (y 1).val) (h2 : (Y 2).val = (y 2).val) :
    k0_pay4 (k0_pay6 (iblk m c 0 t) (iblk m c 1 t)) (View.ld (iblk m c 2 t) r0_10) y = refIdxK (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (y 1 : Fin 64) (⟨(y 2).val, (y 2).isLt⟩ : Fin 128) := idx3_ext h0 h1 h2
  rw [eY]
  refine (congrArg (k0_pay4 (k0_pay6 (iblk m c 0 t) (iblk m c 1 t)) (View.ld (iblk m c 2 t) r0_10)) ey).trans ?_
  exact pay_idxk (A0 m c) (A1 m c) (A2 m c) _ (y 2) _ _ (fun j => norm_at m c t (y 2) j) _ (fun k j => (ld_small m c t k ⟨j.val, by omega⟩).trans (dif_pos (show j.val < 72 by omega))) (y 1)

theorem final_idxk (c : Dev nD) : (dats m 0 c).arrAt 5 (cfgs 0).N = refIdxK (A0 m c) (A1 m c) (A2 m c) := by
  refine (dats m 0 c).arrAt_eq_of_covers 5 _ (by decide +kernel) fun t hf y => ?_
  blk_simp; rw [after0_5]; frame_out
  rw [pay18_eq]
  exact point_idxk m c t y _ (by blk_simp [idx t]) (by blk_simp [idx t]) (by blk_simp [idx t] <;> omega)

theorem point_small (c : Dev nD) (t : Fin cfg0.N) (y : S1x128x128.Idx) (Y : S1x128x128.Idx) (h0 : (Y 0).val = 0)
    (h1 : (Y 1).val = (y 1).val) (h2 : (Y 2).val = (y 2).val) :
    k0_pay3 (k0_pay6 (iblk m c 0 t) (iblk m c 1 t)) (View.ld (iblk m c 2 t) r0_10) y = refSmall (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (⟨(y 1).val, (y 1).isLt⟩ : Fin 128) (y 2 : Fin 128) := idx3_ext h0 h1 h2
  rw [eY]
  refine (congrArg (k0_pay3 (k0_pay6 (iblk m c 0 t) (iblk m c 1 t)) (View.ld (iblk m c 2 t) r0_10)) ey).trans ?_
  exact pay_small (A0 m c) (A1 m c) (A2 m c) _ (y 1) _ _ (fun j => norm_at m c t (y 1) j) _ (fun k j => ld_small m c t k j) (y 2)

theorem final_small (c : Dev nD) : (dats m 0 c).arrAt 6 (cfgs 0).N = refSmall (A0 m c) (A1 m c) (A2 m c) := by
  refine (dats m 0 c).arrAt_eq_of_covers 6 _ (by decide +kernel) fun t hf y => ?_
  blk_simp; rw [after0_6]; frame_out
  rw [pay18_eq]
  exact point_small m c t y _ (by blk_simp [idx t]) (by blk_simp [idx t] <;> omega) (by blk_simp [idx t])

theorem point_qb (c : Dev nD) (t : Fin cfg0.N) (y : S1x128x512.Idx) (Y : S1x128x512.Idx) (h0 : (Y 0).val = 0)
    (h1 : (Y 1).val = (y 1).val) (h2 : (Y 2).val = (y 2).val) :
    k0_pay7 (iblk m c 0 t) (iblk m c 1 t) (View.ld (iblk m c 2 t) r0_2) y = refQb (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (⟨(y 1).val, (y 1).isLt⟩ : Fin 128) (y 2 : Fin 512) := idx3_ext h0 h1 h2
  rw [eY]
  refine (congrArg (k0_pay7 (iblk m c 0 t) (iblk m c 1 t) (View.ld (iblk m c 2 t) r0_2)) ey).trans ?_
  exact pay_qb (A0 m c) (A1 m c) (A2 m c) _ (y 1) _ _ (fun j => norm_at m c t (y 1) j) _ (fun k j => (ld_low m c t 0 _ (by omega) k j).trans (congrArg (fun z : Fin 3144 => A2 m c (ix3 (0 : Fin 1) k z)) (Fin.ext (Nat.zero_add _)))) (y 2)

theorem final_qb (c : Dev nD) : (dats m 0 c).arrAt 7 (cfgs 0).N = refQb (A0 m c) (A1 m c) (A2 m c) := by
  refine (dats m 0 c).arrAt_eq_of_covers 7 _ (by decide +kernel) fun t hf y => ?_
  blk_simp; rw [after0_7]; frame_out
  exact point_qb m c t y _ (by blk_simp [idx t]) (by blk_simp [idx t] <;> omega) (by blk_simp [idx t])

theorem point_kb (c : Dev nD) (t : Fin cfg0.N) (y : S1x128x512.Idx) (Y : S1x128x512.Idx) (h0 : (Y 0).val = 0)
    (h1 : (Y 1).val = (y 1).val) (h2 : (Y 2).val = (y 2).val) :
    k0_pay11 (k0_pay10 (iblk m c 0 t) (iblk m c 1 t) (View.ld (iblk m c 2 t) r0_4)) y = refKb (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (⟨(y 1).val, (y 1).isLt⟩ : Fin 128) (y 2 : Fin 512) := idx3_ext h0 h1 h2
  rw [eY]
  refine (congrArg (k0_pay11 (k0_pay10 (iblk m c 0 t) (iblk m c 1 t) (View.ld (iblk m c 2 t) r0_4))) ey).trans ?_
  exact pay_kb (A0 m c) (A1 m c) (A2 m c) _ (y 1) _ _ (fun j => norm_at m c t (y 1) j) _ (fun k j => ld_low m c t 512 _ (by omega) k j) (y 2)

theorem final_kb (c : Dev nD) : (dats m 0 c).arrAt 8 (cfgs 0).N = refKb (A0 m c) (A1 m c) (A2 m c) := by
  refine (dats m 0 c).arrAt_eq_of_covers 8 _ (by decide +kernel) fun t hf y => ?_
  blk_simp; rw [after0_8]; frame_out
  exact point_kb m c t y _ (by blk_simp [idx t]) (by blk_simp [idx t] <;> omega) (by blk_simp [idx t])

theorem point_vb (c : Dev nD) (t : Fin cfg0.N) (y : S1x512x128.Idx) (Y : S1x512x128.Idx) (h0 : (Y 0).val = 0)
    (h1 : (Y 1).val = (y 1).val) (h2 : (Y 2).val = (y 2).val) :
    k0_pay14 (k0_pay6 (iblk m c 0 t) (iblk m c 1 t)) (View.ld (iblk m c 2 t) r0_6) y = refVb (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (y 1 : Fin 512) (⟨(y 2).val, (y 2).isLt⟩ : Fin 128) := idx3_ext h0 h1 h2
  rw [eY]
  refine (congrArg (k0_pay14 (k0_pay6 (iblk m c 0 t) (iblk m c 1 t)) (View.ld (iblk m c 2 t) r0_6)) ey).trans ?_
  exact pay_vb (A0 m c) (A1 m c) (A2 m c) _ (y 2) _ _ (fun j => norm_at m c t (y 2) j) _ (fun k j => ld_low m c t 1024 _ (by omega) k j) (y 1)

theorem final_vb (c : Dev nD) : (dats m 0 c).arrAt 9 (cfgs 0).N = refVb (A0 m c) (A1 m c) (A2 m c) := by
  refine (dats m 0 c).arrAt_eq_of_covers 9 _ (by decide +kernel) fun t hf y => ?_
  blk_simp; rw [after0_9]; frame_out
  rw [pay18_eq]
  exact point_vb m c t y _ (by blk_simp [idx t]) (by blk_simp [idx t]) (by blk_simp [idx t] <;> omega)

theorem point_iqb (c : Dev nD) (t : Fin cfg0.N) (y : S1x128x512.Idx) (Y : S1x128x512.Idx) (h0 : (Y 0).val = 0)
    (h1 : (Y 1).val = (y 1).val) (h2 : (Y 2).val = (y 2).val) :
    k0_pay15 (k0_pay6 (iblk m c 0 t) (iblk m c 1 t)) (View.ld (iblk m c 2 t) r0_7) y = refIqb (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (⟨(y 1).val, (y 1).isLt⟩ : Fin 128) (y 2 : Fin 512) := idx3_ext h0 h1 h2
  rw [eY]
  refine (congrArg (k0_pay15 (k0_pay6 (iblk m c 0 t) (iblk m c 1 t)) (View.ld (iblk m c 2 t) r0_7)) ey).trans ?_
  exact pay_iqb (A0 m c) (A1 m c) (A2 m c) _ (y 1) _ _ (fun j => norm_at m c t (y 1) j) _ (fun k j => ld_low m c t 1536 _ (by omega) k j) (y 2)

theorem final_iqb (c : Dev nD) : (dats m 0 c).arrAt 10 (cfgs 0).N = refIqb (A0 m c) (A1 m c) (A2 m c) := by
  refine (dats m 0 c).arrAt_eq_of_covers 10 _ (by decide +kernel) fun t hf y => ?_
  blk_simp; rw [after0_10]; frame_out
  rw [pay18_eq]
  exact point_iqb m c t y _ (by blk_simp [idx t]) (by blk_simp [idx t] <;> omega) (by blk_simp [idx t])

theorem point_ikb (c : Dev nD) (t : Fin cfg0.N) (y : S1x128x64.Idx) (Y : S1x128x64.Idx) (h0 : (Y 0).val = 0)
    (h1 : (Y 1).val = (y 1).val) (h2 : (Y 2).val = (y 2).val) :
    k0_pay5 (k0_pay6 (iblk m c 0 t) (iblk m c 1 t)) (View.ld (iblk m c 2 t) r0_10) y = refIkb (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (⟨(y 1).val, (y 1).isLt⟩ : Fin 128) (y 2 : Fin 64) := idx3_ext h0 h1 h2
  rw [eY]
  refine (congrArg (k0_pay5 (k0_pay6 (iblk m c 0 t) (iblk m c 1 t)) (View.ld (iblk m c 2 t) r0_10)) ey).trans ?_
  exact pay_ikb (A0 m c) (A1 m c) (A2 m c) _ (y 1) _ _ (fun j => norm_at m c t (y 1) j) _ (fun k j => (ld_small m c t k ⟨j.val, by omega⟩).trans (dif_pos (show j.val < 72 by omega))) (y 2)

theorem final_ikb (c : Dev nD) : (dats m 0 c).arrAt 11 (cfgs 0).N = refIkb (A0 m c) (A1 m c) (A2 m c) := by
  refine (dats m 0 c).arrAt_eq_of_covers 11 _ (by decide +kernel) fun t hf y => ?_
  blk_simp; rw [after0_11]; frame_out
  rw [pay18_eq]
  exact point_ikb m c t y _ (by blk_simp [idx t]) (by blk_simp [idx t] <;> omega) (by blk_simp [idx t])

theorem point_u (c : Dev nD) (t : Fin cfg0.N) (y : S1x128x512.Idx) (Y : S1x128x512.Idx) (h0 : (Y 0).val = 0)
    (h1 : (Y 1).val = (y 1).val) (h2 : (Y 2).val = (y 2).val) :
    k0_pay1 (k0_pay16 (k0_pay6 (iblk m c 0 t) (iblk m c 1 t)) (View.ld (iblk m c 2 t) r0_8)) (k0_pay17 (k0_pay6 (iblk m c 0 t) (iblk m c 1 t)) (View.ld (iblk m c 2 t) r0_9)) y = refU (A0 m c) (A1 m c) (A2 m c) Y := by
  have ey : y = ix3 (0 : Fin 1) (y 1) (y 2) := idx3_ext (by have : (y 0).val < 1 := (y 0).isLt; show (y 0).val = 0; omega) rfl rfl
  have eY : Y = ix3 (0 : Fin 1) (⟨(y 1).val, (y 1).isLt⟩ : Fin 128) (y 2 : Fin 512) := idx3_ext h0 h1 h2
  rw [eY]
  refine (congrArg (k0_pay1 (k0_pay16 (k0_pay6 (iblk m c 0 t) (iblk m c 1 t)) (View.ld (iblk m c 2 t) r0_8)) (k0_pay17 (k0_pay6 (iblk m c 0 t) (iblk m c 1 t)) (View.ld (iblk m c 2 t) r0_9))) ey).trans ?_
  exact pay_u (A0 m c) (A1 m c) (A2 m c) _ (y 1) _ _ (fun j => norm_at m c t (y 1) j) _ _ (fun k j => ld_mid m c t 2048 _ (by omega) (by omega) k j) (fun k j => ld_mid m c t 2560 _ (by omega) (by omega) k j) (y 2)

theorem final_u (c : Dev nD) : (dats m 0 c).arrAt 12 (cfgs 0).N = refU (A0 m c) (A1 m c) (A2 m c) := by
  refine (dats m 0 c).arrAt_eq_of_covers 12 _ (by decide +kernel) fun t hf y => ?_
  blk_simp; rw [after0_12]; frame_out
  rw [pay18_eq]
  exact point_u m c t y _ (by blk_simp [idx t]) (by blk_simp [idx t] <;> omega) (by blk_simp [idx t])

end Cert.InpSValue

end
-- ==== Proof.InprojSampleClaim.lean ====
/- The call `InprojSample`: the run of its reference with the results named, the reference's frame, and the equality of the results
   of the kernel and of the reference over the extended reals. -/
module

public import proofs.«01_k».proof.Defs
public import proofs.«01_k».proof.Proof.Gen.InprojSampleIdeal.Frame
public import proofs.«01_k».proof.Proof.Gen.InprojSampleReferenceIdeal.Run
public import proofs.«01_k».proof.Proof.InpSValue
public import Idealize.ShloMosaic.Lib.Claim

@[expose] public section

set_option maxRecDepth 16384

noncomputable section

namespace Cert.InprojSampleClaim

open Idealize.ShloMosaic Idealize.SL.Sem

section

open Cert.InprojSampleReferenceIdeal Cert.InpSRef
open Idealize.ShloMosaic.TcCoe

set_option maxHeartbeats 1600000 in
/-- Every run of the reference ends with each result at the function of the arguments that `InpSRef` names, and with the
    arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v35) = refK (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v36) = refV (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v37) = refIdxK (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v34) = refSmall (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v40) = refQb (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v41) = refKb (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v43) = refVb (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v46) = refIqb (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v47) = refIkb (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_v32) = refU (shapeCast S1x128x1024 (m ((c.tc : Thread nD τ).loc main_arg0)) Cert.InprojSampleReferenceIdeal.Gen.shapeCasts_S128x1x1024_S1x128x1024) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2.1.trans rfl, (h c).2.2.2.2.2.2.2.2.1.trans rfl, (h c).2.2.2.2.2.2.2.2.2.1.trans rfl, (h c).2.2.2.2.2.2.2.2.2.2⟩) (Cert.InprojSampleReferenceIdeal.Value.run m g)

/-- The reference runs, leaves its arguments unchanged and ends with every counter at zero. -/
theorem reference_frame : Cert.quiescent_InprojSampleReferenceIdeal := fun m g _ =>
  (θ_run _ _ _).mono (fun r h => ⟨fun c => (h c).2.2.2.2.2.2.2.2.2.2, Idealize.ShloMosaic.sem_eq_zero_of_no_sems (by decide) r.2⟩)
    (Cert.InprojSampleReferenceIdeal.Value.run m g)

end

open Cert.InpSValue in
set_option maxHeartbeats 1600000 in
/-- Over the extended reals the call's results are the reference's. -/
theorem algebraic : Cert.algebraic_InprojSampleIdeal_InprojSampleReferenceIdeal := by
  pair_intro
  · run_from Cert.InprojSampleIdeal.Gen.run_main m g
  · run_from reference_run m' g'
    · exact (final_k m c).symm
    · exact (final_v m c).symm
    · exact (final_idxk m c).symm
    · exact (final_small m c).symm
    · exact (final_qb m c).symm
    · exact (final_kb m c).symm
    · exact (final_vb m c).symm
    · exact (final_iqb m c).symm
    · exact (final_ikb m c).symm
    · exact (final_u m c).symm

end Cert.InprojSampleClaim

end
-- ==== Proof.FfnSRef.lean ====
/- The reference `FfnSampleReferenceIdeal`, stage by stage: each definition is one stage of its result as a function of the arguments. -/
module

public import proofs.«01_k».proof.Proof.Gen.FfnSampleReferenceIdeal
public import proofs.«01_k».proof.Proof.Gen.FfnSampleReferenceIdeal.Run
public import Idealize.ShloMosaic.Lib.Pipeline.ValueKit

@[expose] public section

set_option maxRecDepth 16384

noncomputable section

namespace Cert.FfnSRef

open Cert.FfnSampleReferenceIdeal Cert.FfnSampleReferenceIdeal.Gen
open Idealize.ShloMosaic Idealize.ShloMosaic.TcCoe Idealize.SL.Sem

/-- The residual stream after the memory attention. -/
def refX2 (a0 : FVec Ideal S128x1024 .f32) (a1 : FVec Ideal S128x256 .f32) (a3 : FVec Ideal S256x1024 .bf16) : FVec Ideal S128x1x1024 .f32 :=
  addf (broadcastInDim S128x1x1024 ![0, 2] bcast_S128x1024_S128x1x1024_0_2 a0) (broadcastInDim S128x1x1024 ![0, 2] bcast_S128x1024_S128x1x1024_0_2 (Host.dotGeneral dot_S128x256_S256x1024_S128x1024_1_0_0_1_n_n none a1 (extf .f32 a3 bitsLt_bf16_f32)))

/-- The normalised stream that enters the feed-forward part. -/
def refHf (a0 : FVec Ideal S128x1024 .f32) (a1 : FVec Ideal S128x256 .f32) (a3 : FVec Ideal S256x1024 .bf16) (a4 : FVec Ideal S1x1024 .f32) : FVec Ideal S128x1x1024 .f32 :=
  mulf (mulf (refX2 a0 a1 a3) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (refX2 a0 a1 a3) (refX2 a0 a1 a3)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast S1024 a4 shapeCasts_S1x1024_S1024)))

/-- The first feed-forward product. -/
def refUp (a0 : FVec Ideal S128x1024 .f32) (a1 : FVec Ideal S128x256 .f32) (a3 : FVec Ideal S256x1024 .bf16) (a4 : FVec Ideal S1x1024 .f32) (a5 : FVec Ideal S1024x5632 .bf16) : FVec Ideal S128x1x5632 .f32 :=
  Host.dotGeneral dot_S128x1x1024_S1024x5632_S128x1x5632_2_0_01_1_n_n none (refHf a0 a1 a3 a4) (extf .f32 a5 bitsLt_bf16_f32)

/-- The first feed-forward product after the two rows before it. -/
def refUpExt (a0 : FVec Ideal S128x1024 .f32) (a1 : FVec Ideal S128x256 .f32) (a2 : FVec Ideal S128x2x5632 .f32) (a3 : FVec Ideal S256x1024 .bf16) (a4 : FVec Ideal S1x1024 .f32) (a5 : FVec Ideal S1024x5632 .bf16) : FVec Ideal S128x3x5632 .f32 :=
  concatenate S128x3x5632 1 [⟨S128x2x5632, a2⟩, ⟨S128x1x5632, (refUp a0 a1 a3 a4 a5)⟩] concatenates_S128x2x5632_S128x1x5632_S128x3x5632_d1

/-- The three-tap convolution along positions of the first feed-forward product. -/
def refConv (a0 : FVec Ideal S128x1024 .f32) (a1 : FVec Ideal S128x256 .f32) (a2 : FVec Ideal S128x2x5632 .f32) (a3 : FVec Ideal S256x1024 .bf16) (a4 : FVec Ideal S1x1024 .f32) (a5 : FVec Ideal S1024x5632 .bf16) (a6 : FVec Ideal S3x5632 .f32) (a7 : FVec Ideal S1x5632 .f32) : FVec Ideal S128x1x5632 .f32 :=
  addf (addf (addf (addf (broadcastInDim S128x1x5632 ![] bcast_S_S128x1x5632 (constant S_ .f32 0x00000000#32)) (mulf (broadcastInDim S128x1x5632 ![0, 1, 2] bcast_S1x1x5632_S128x1x5632_0_1_2 (broadcastInDim S1x1x5632 ![2] bcast_S5632_S1x1x5632_2 (shapeCast S5632 (extractStridedSlice S1x5632 ![0, 0] a6 slices_S3x5632_S1x5632_0_0) shapeCasts_S1x5632_S5632))) (extractStridedSlice S128x1x5632 ![0, 0, 0] (refUpExt a0 a1 a2 a3 a4 a5) slices_S128x3x5632_S128x1x5632_0_0_0))) (mulf (broadcastInDim S128x1x5632 ![0, 1, 2] bcast_S1x1x5632_S128x1x5632_0_1_2 (broadcastInDim S1x1x5632 ![2] bcast_S5632_S1x1x5632_2 (shapeCast S5632 (extractStridedSlice S1x5632 ![1, 0] a6 slices_S3x5632_S1x5632_1_0) shapeCasts_S1x5632_S5632))) (extractStridedSlice S128x1x5632 ![0, 1, 0] (refUpExt a0 a1 a2 a3 a4 a5) slices_S128x3x5632_S128x1x5632_0_1_0))) (mulf (broadcastInDim S128x1x5632 ![0, 1, 2] bcast_S1x1x5632_S128x1x5632_0_1_2 (broadcastInDim S1x1x5632 ![2] bcast_S5632_S1x1x5632_2 (shapeCast S5632 (extractStridedSlice S1x5632 ![2, 0] a6 slices_S3x5632_S1x5632_2_0) shapeCasts_S1x5632_S5632))) (extractStridedSlice S128x1x5632 ![0, 2, 0] (refUpExt a0 a1 a2 a3 a4 a5) slices_S128x3x5632_S128x1x5632_0_2_0))) (broadcastInDim S128x1x5632 ![0, 1, 2] bcast_S1x1x5632_S128x1x5632_0_1_2 (broadcastInDim S1x1x5632 ![2] bcast_S5632_S1x1x5632_2 (shapeCast S5632 a7 shapeCasts_S1x5632_S5632)))

/-- The gated product of the two halves. -/
def refGate (a0 : FVec Ideal S128x1024 .f32) (a1 : FVec Ideal S128x256 .f32) (a2 : FVec Ideal S128x2x5632 .f32) (a3 : FVec Ideal S256x1024 .bf16) (a4 : FVec Ideal S1x1024 .f32) (a5 : FVec Ideal S1024x5632 .bf16) (a6 : FVec Ideal S3x5632 .f32) (a7 : FVec Ideal S1x5632 .f32) : FVec Ideal S128x1x2816 .f32 :=
  mulf (mulf (extractStridedSlice S128x1x2816 ![0, 0, 0] (refConv a0 a1 a2 a3 a4 a5 a6 a7) slices_S128x1x5632_S128x1x2816_0_0_0) (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (extractStridedSlice S128x1x2816 ![0, 0, 0] (refConv a0 a1 a2 a3 a4 a5 a6 a7) slices_S128x1x5632_S128x1x2816_0_0_0)))))) (extractStridedSlice S128x1x2816 ![0, 0, 2816] (refConv a0 a1 a2 a3 a4 a5 a6 a7) slices_S128x1x5632_S128x1x2816_0_0_2816)

/-- The residual stream after the feed-forward part. -/
def refX3 (a0 : FVec Ideal S128x1024 .f32) (a1 : FVec Ideal S128x256 .f32) (a2 : FVec Ideal S128x2x5632 .f32) (a3 : FVec Ideal S256x1024 .bf16) (a4 : FVec Ideal S1x1024 .f32) (a5 : FVec Ideal S1024x5632 .bf16) (a6 : FVec Ideal S3x5632 .f32) (a7 : FVec Ideal S1x5632 .f32) (a8 : FVec Ideal S2816x1024 .bf16) : FVec Ideal S128x1x1024 .f32 :=
  addf (refX2 a0 a1 a3) (Host.dotGeneral dot_S128x1x2816_S2816x1024_S128x1x1024_2_0_01_1_n_n none (refGate a0 a1 a2 a3 a4 a5 a6 a7) (extf .f32 a8 bitsLt_bf16_f32))

/-- The final normalised stream. -/
def refY (a0 : FVec Ideal S128x1024 .f32) (a1 : FVec Ideal S128x256 .f32) (a2 : FVec Ideal S128x2x5632 .f32) (a3 : FVec Ideal S256x1024 .bf16) (a4 : FVec Ideal S1x1024 .f32) (a5 : FVec Ideal S1024x5632 .bf16) (a6 : FVec Ideal S3x5632 .f32) (a7 : FVec Ideal S1x5632 .f32) (a8 : FVec Ideal S2816x1024 .bf16) (a9 : FVec Ideal S1x1024 .f32) : FVec Ideal S128x1x1024 .f32 :=
  mulf (mulf (refX3 a0 a1 a2 a3 a4 a5 a6 a7 a8) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (refX3 a0 a1 a2 a3 a4 a5 a6 a7 a8) (refX3 a0 a1 a2 a3 a4 a5 a6 a7 a8)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast S1024 a9 shapeCasts_S1x1024_S1024)))

/-- The first result: the final normalised stream, one row a sequence. -/
def refOut (a0 : FVec Ideal S128x1024 .f32) (a1 : FVec Ideal S128x256 .f32) (a2 : FVec Ideal S128x2x5632 .f32) (a3 : FVec Ideal S256x1024 .bf16) (a4 : FVec Ideal S1x1024 .f32) (a5 : FVec Ideal S1024x5632 .bf16) (a6 : FVec Ideal S3x5632 .f32) (a7 : FVec Ideal S1x5632 .f32) (a8 : FVec Ideal S2816x1024 .bf16) (a9 : FVec Ideal S1x1024 .f32) : FVec Ideal S128x1024 .f32 :=
  shapeCast S128x1024 (refY a0 a1 a2 a3 a4 a5 a6 a7 a8 a9) shapeCasts_S128x1x1024_S128x1024

/-- The second result: the new row of the first feed-forward product. -/
def refNew (a0 : FVec Ideal S128x1024 .f32) (a1 : FVec Ideal S128x256 .f32) (a3 : FVec Ideal S256x1024 .bf16) (a4 : FVec Ideal S1x1024 .f32) (a5 : FVec Ideal S1024x5632 .bf16) : FVec Ideal S128x5632 .f32 :=
  shapeCast S128x5632 (refUp a0 a1 a3 a4 a5) shapeCasts_S128x1x5632_S128x5632

end Cert.FfnSRef

end
-- ==== Proof.FfnSPure.lean ====
/- The feed-forward block of the sample group: each stage of the kernel, read at a row, is the reference's stage at that row. -/
module

public import proofs.«01_k».proof.Proof.Gen.FfnSampleIdeal.Skeleton
public import proofs.«01_k».proof.Proof.FfnSRef
public import Idealize.ShloMosaic.Lib.Pointwise
public import Idealize.ShloMosaic.Lib.IdealHost

@[expose] public section

set_option maxRecDepth 16384

noncomputable section

namespace Cert.FfnSPure

open Cert.FfnSampleIdeal Cert.FfnSampleIdeal.Gen Cert.FfnSRef
open Idealize.ShloMosaic Idealize.ShloMosaic.TcCoe Idealize.SL.Sem

variable (a0 : FVec Ideal S128x1024 .f32) (a1 : FVec Ideal S128x256 .f32) (a2 : FVec Ideal S128x2x5632 .f32)
  (a3 : FVec Ideal S256x1024 .bf16) (a4 : FVec Ideal S1x1024 .f32) (a5 : FVec Ideal S1024x5632 .bf16)
  (a6 : FVec Ideal S3x5632 .f32) (a7 : FVec Ideal S1x5632 .f32) (a8 : FVec Ideal S2816x1024 .bf16) (a9 : FVec Ideal S1x1024 .f32)

theorem row_x2 (s : Fin 128) (j : Fin 1024) :
    @Eq EReal (k0_pay2 (F := Ideal) a0 a1 a3 (ix2 s j)) (refX2 a0 a1 a3 (ix3 s (0 : Fin 1) j)) := by
  pointwise [k0_pay2, refX2]

theorem row_hf (s : Fin 128) (j : Fin 1024) :
    @Eq EReal (k0_pay3 (F := Ideal) a0 a1 a3 a4 (ix2 s j)) (refHf a0 a1 a3 a4 (ix3 s (0 : Fin 1) j)) := by
  have h := row_x2 a0 a1 a3 s
  pointwise [k0_pay3, refHf, h]

/-- A column block of the up-projection, under each of its four names. -/
theorem row_up (s : Fin 128) (u : FVec Ideal S1024x1408 .bf16) (col : Fin 1408 → Fin 5632)
    (hu : ∀ (k : Fin 1024) (j : Fin 1408), @Eq EReal (u (ix2 k j)) (a5 (ix2 k (col j)))) (j : Fin 1408) :
    @Eq EReal (k0_pay14 (F := Ideal) (k0_pay3 a0 a1 a3 a4) u (ix2 s j)) (refUp a0 a1 a3 a4 a5 (ix3 s (0 : Fin 1) (col j))) := by
  have h := row_hf a0 a1 a3 a4 s
  pointwise [k0_pay14, refUp, h, hu]

theorem pay5_eq (u : FVec Ideal S1024x1408 .bf16) : k0_pay5 (F := Ideal) a0 a1 a3 a4 u = k0_pay14 (k0_pay3 a0 a1 a3 a4) u := rfl

theorem pay8_eq (h : FVec Ideal S128x1024 .bf16) (u : FVec Ideal S1024x1408 .bf16) : k0_pay8 (F := Ideal) h u = k0_pay14 h u := rfl

theorem pay12_eq (h : FVec Ideal S128x1024 .bf16) (u : FVec Ideal S1024x1408 .bf16) : k0_pay12 (F := Ideal) h u = k0_pay14 h u := rfl

/-- The two carried rows and the new row. -/
theorem upext_at (s : Fin 128) (p : Fin 3) (j : Fin 5632) :
    @Eq EReal (refUpExt a0 a1 a2 a3 a4 a5 (ix3 s p j))
      (if h : p.val < 2 then a2 (ix3 s (⟨p.val, h⟩ : Fin 2) j) else refUp a0 a1 a3 a4 a5 (ix3 s (0 : Fin 1) j)) := by
  pointwise [refUpExt]
  split
  · rfl
  · exact congrArg (fun z : Fin 1 => refUp a0 a1 a3 a4 a5 (ix3 s z j)) (Subsingleton.elim _ _)

theorem conv_at (s : Fin 128) (j : Fin 5632) :
    @Eq EReal (refConv a0 a1 a2 a3 a4 a5 a6 a7 (ix3 s (0 : Fin 1) j))
      ((a7 (ix2 (0 : Fin 1) j) : EReal) + a6 (ix2 (0 : Fin 3) j) * a2 (ix3 s (0 : Fin 2) j) + a6 (ix2 (1 : Fin 3) j) * a2 (ix3 s (1 : Fin 2) j)
        + a6 (ix2 (2 : Fin 3) j) * refUp a0 a1 a3 a4 a5 (ix3 s (0 : Fin 1) j)) := by
  have e0 : @Eq EReal (refUpExt a0 a1 a2 a3 a4 a5 (ix3 s (0 : Fin 3) j)) (a2 (ix3 s (0 : Fin 2) j)) := (upext_at a0 a1 a2 a3 a4 a5 s 0 j).trans (dif_pos (by decide))
  have e1 : @Eq EReal (refUpExt a0 a1 a2 a3 a4 a5 (ix3 s (1 : Fin 3) j)) (a2 (ix3 s (1 : Fin 2) j)) := (upext_at a0 a1 a2 a3 a4 a5 s 1 j).trans (dif_pos (by decide))
  have e2 : @Eq EReal (refUpExt a0 a1 a2 a3 a4 a5 (ix3 s (2 : Fin 3) j)) (refUp a0 a1 a3 a4 a5 (ix3 s (0 : Fin 1) j)) := (upext_at a0 a1 a2 a3 a4 a5 s 2 j).trans (dif_neg (by decide))
  rw [← e0, ← e1, ← e2]
  pointwise [refConv]
  rw [add_comm _ (a7 _), ← add_assoc, ← add_assoc]

/-- One column block of the convolution at row `s`: bias, the three weight rows, the two carried rows and the new row. -/
structure Lane (s : Fin 128) (col : Fin 1408 → Fin 5632) (B W0 : FVec Ideal S1x1408 .f32) (U0 : FVec Ideal S128x1408 .f32)
    (W1 : FVec Ideal S1x1408 .f32) (U1 : FVec Ideal S128x1408 .f32) (W2 : FVec Ideal S1x1408 .f32) (U2 : FVec Ideal S128x1408 .f32) : Prop where
  bias : ∀ j : Fin 1408, @Eq EReal (B (ix2 (0 : Fin 1) j)) (a7 (ix2 (0 : Fin 1) (col j)))
  w0 : ∀ j : Fin 1408, @Eq EReal (W0 (ix2 (0 : Fin 1) j)) (a6 (ix2 (0 : Fin 3) (col j)))
  w1 : ∀ j : Fin 1408, @Eq EReal (W1 (ix2 (0 : Fin 1) j)) (a6 (ix2 (1 : Fin 3) (col j)))
  w2 : ∀ j : Fin 1408, @Eq EReal (W2 (ix2 (0 : Fin 1) j)) (a6 (ix2 (2 : Fin 3) (col j)))
  u0 : ∀ j : Fin 1408, @Eq EReal (U0 (ix2 s j)) (a2 (ix3 s (0 : Fin 2) (col j)))
  u1 : ∀ j : Fin 1408, @Eq EReal (U1 (ix2 s j)) (a2 (ix3 s (1 : Fin 2) (col j)))
  u2 : ∀ j : Fin 1408, @Eq EReal (U2 (ix2 s j)) (refUp a0 a1 a3 a4 a5 (ix3 s (0 : Fin 1) (col j)))

section Gate

variable {a0 a1 a2 a3 a4 a5 a6 a7} {s : Fin 128} {col col' : Fin 1408 → Fin 5632}
  {B W0 W1 W2 B' W0' W1' W2' : FVec Ideal S1x1408 .f32} {U0 U1 U2 U0' U1' U2' : FVec Ideal S128x1408 .f32}

/-- The lane's sum is the reference's convolution. -/
theorem Lane.conv (L : Lane a0 a1 a2 a3 a4 a5 a6 a7 s col B W0 U0 W1 U1 W2 U2) (j : Fin 1408) :
    @Eq EReal ((B (ix2 (0 : Fin 1) j) : EReal) + W0 (ix2 (0 : Fin 1) j) * U0 (ix2 s j) + W1 (ix2 (0 : Fin 1) j) * U1 (ix2 s j)
        + W2 (ix2 (0 : Fin 1) j) * U2 (ix2 s j))
      (refConv a0 a1 a2 a3 a4 a5 a6 a7 (ix3 s (0 : Fin 1) (col j))) := by
  rw [L.bias, L.w0, L.w1, L.w2, L.u0, L.u1, L.u2]
  exact (conv_at a0 a1 a2 a3 a4 a5 a6 a7 s (col j)).symm

theorem gate_at (x : Fin 2816) (A V : EReal)
    (hA : A = refConv a0 a1 a2 a3 a4 a5 a6 a7 (ix3 s (0 : Fin 1) (⟨x.val, by omega⟩ : Fin 5632)))
    (hV : V = refConv a0 a1 a2 a3 a4 a5 a6 a7 (ix3 s (0 : Fin 1) (⟨2816 + x.val, by omega⟩ : Fin 5632))) :
    @Eq EReal (A * Ideal.div 1 (1 + Ideal.exp (0 - A)) * V) (refGate a0 a1 a2 a3 a4 a5 a6 a7 (ix3 s (0 : Fin 1) x)) := by
  subst hA hV
  pointwise [refGate]
  simp only [zero_sub]

/-- The first half of the gated columns, through the first half of the down-projection. -/
theorem pay11_at {a8 : FVec Ideal S2816x1024 .bf16} (h : FVec Ideal S128x1024 .bf16) (u' : FVec Ideal S1024x1408 .bf16)
    (L : Lane a0 a1 a2 a3 a4 a5 a6 a7 s (fun j => ⟨j.val, by omega⟩) B W0 U0 W1 U1 W2 U2)
    (L' : Lane a0 a1 a2 a3 a4 a5 a6 a7 s (fun j => ⟨2816 + j.val, by omega⟩) B' W0' U0' W1' U1' W2' (k0_pay14 (F := Ideal) h u'))
    (z : Ideal .f32) (hz : z = (1 : EReal)) (D : FVec Ideal S1408x1024 .bf16)
    (hD : ∀ (k : Fin 1408) (j : Fin 1024), @Eq EReal (D (ix2 k j)) (a8 (ix2 (⟨k.val, by omega⟩ : Fin 2816) j))) (j : Fin 1024) :
    @Eq EReal (k0_pay11 (F := Ideal) k0_pay4 (k0_pay7 U2 (k0_pay6 B W0 U0) W1 U1 W2) (k0_pay9 h u' B' W0' U0' W1' U1' W2')
        (k0_pay10 U2 (k0_pay6 B W0 U0) W1 U1 W2) z D (ix2 s j))
      (∑ x : Fin 1408, refGate a0 a1 a2 a3 a4 a5 a6 a7 (ix3 s (0 : Fin 1) (⟨x.val, by omega⟩ : Fin 2816)) * a8 (ix2 (⟨x.val, by omega⟩ : Fin 2816) j)) := by
  subst hz
  pointwise [k0_pay11, k0_pay4, k0_pay7, k0_pay6, k0_pay9, pay8_eq, k0_pay10, hD]
  exact Finset.sum_congr rfl fun x _ => congrArg (· * _) (gate_at ⟨x.val, by omega⟩ _ _ (L.conv x) (L'.conv x))

/-- The convolution of the third column block. -/
theorem pay13_at (h : FVec Ideal S128x1024 .bf16) (u : FVec Ideal S1024x1408 .bf16)
    (L : Lane a0 a1 a2 a3 a4 a5 a6 a7 s col B W0 U0 W1 U1 W2 (k0_pay14 (F := Ideal) h u)) (j : Fin 1408) :
    @Eq EReal (k0_pay13 (F := Ideal) h u B W0 U0 W1 U1 W2 (ix2 s j)) (refConv a0 a1 a2 a3 a4 a5 a6 a7 (ix3 s (0 : Fin 1) (col j))) := by
  refine Eq.trans ?_ (L.conv j)
  pointwise [k0_pay13, pay12_eq]

/-- The residual after both halves of the down-projection. -/
theorem pay15_at {a8 : FVec Ideal S2816x1024 .bf16} (X V : FVec Ideal S128x1024 .f32) (C : FVec Ideal S128x1408 .f32)
    (hX : ∀ j : Fin 1024, @Eq EReal (X (ix2 s j)) (refX2 a0 a1 a3 (ix3 s (0 : Fin 1) j)))
    (hV : ∀ j : Fin 1024, @Eq EReal (V (ix2 s j))
      (∑ x : Fin 1408, refGate a0 a1 a2 a3 a4 a5 a6 a7 (ix3 s (0 : Fin 1) (⟨x.val, by omega⟩ : Fin 2816)) * a8 (ix2 (⟨x.val, by omega⟩ : Fin 2816) j)))
    (hC : ∀ x : Fin 1408, @Eq EReal (C (ix2 s x)) (refConv a0 a1 a2 a3 a4 a5 a6 a7 (ix3 s (0 : Fin 1) (⟨1408 + x.val, by omega⟩ : Fin 5632))))
    (L' : Lane a0 a1 a2 a3 a4 a5 a6 a7 s (fun j => ⟨4224 + j.val, by omega⟩) B' W0' U0' W1' U1' W2' U2')
    (D : FVec Ideal S1408x1024 .bf16)
    (hD : ∀ (k : Fin 1408) (j : Fin 1024), @Eq EReal (D (ix2 k j)) (a8 (ix2 (⟨1408 + k.val, by omega⟩ : Fin 2816) j))) (j : Fin 1024) :
    @Eq EReal (k0_pay15 (F := Ideal) X V C U2' B' W0' U0' W1' U1' W2' D (ix2 s j)) (refX3 a0 a1 a2 a3 a4 a5 a6 a7 a8 (ix3 s (0 : Fin 1) j)) := by
  have e : @Eq EReal (refX3 a0 a1 a2 a3 a4 a5 a6 a7 a8 (ix3 s (0 : Fin 1) j))
      ((refX2 a0 a1 a3 (ix3 s (0 : Fin 1) j) : EReal) + ∑ x : Fin 2816, refGate a0 a1 a2 a3 a4 a5 a6 a7 (ix3 s (0 : Fin 1) x) * a8 (ix2 x j)) := by
    pointwise [refX3]
  rw [e, Fin.sum_univ_two_halves 1408 1408 rfl, ← hX, ← hV]
  pointwise [k0_pay15, hD]
  refine congrArg (fun z : EReal => X (ix2 s j) + (V (ix2 s j) + z)) (Finset.sum_congr rfl fun x _ => congrArg (· * _) ?_)
  refine gate_at ⟨1408 + x.val, by omega⟩ _ _ (hC x) ((L'.conv x).trans ?_)
  exact congrArg _ (congrArg (ix3 s (0 : Fin 1)) (Fin.ext (by show 4224 + x.val = 2816 + (1408 + x.val); omega)))

end Gate

/-- The closing norm. -/
theorem row_out (s : Fin 128) (X V : FVec Ideal S128x1024 .f32) (C U2 : FVec Ideal S128x1408 .f32) (B W0 : FVec Ideal S1x1408 .f32)
    (U0 : FVec Ideal S128x1408 .f32) (W1 : FVec Ideal S1x1408 .f32) (U1 : FVec Ideal S128x1408 .f32) (W2 : FVec Ideal S1x1408 .f32)
    (D : FVec Ideal S1408x1024 .bf16)
    (h : ∀ j : Fin 1024, @Eq EReal (k0_pay15 (F := Ideal) X V C U2 B W0 U0 W1 U1 W2 D (ix2 s j)) (refX3 a0 a1 a2 a3 a4 a5 a6 a7 a8 (ix3 s (0 : Fin 1) j))) (j : Fin 1024) :
    @Eq EReal (k0_pay1 (F := Ideal) (k0_pay15 X V C U2 B W0 U0 W1 U1 W2 D) a9 (k0_pay16 X V C U2 B W0 U0 W1 U1 W2 D) (Scalar.ofBits .f32 0x358637BD#32) (ix2 s j))
      (refOut a0 a1 a2 a3 a4 a5 a6 a7 a8 a9 (ix2 s j)) := by
  have e : @Eq EReal (refOut a0 a1 a2 a3 a4 a5 a6 a7 a8 a9 (ix2 s j)) (refY a0 a1 a2 a3 a4 a5 a6 a7 a8 a9 (ix3 s (0 : Fin 1) j)) := by pointwise [refOut]
  rw [e]
  pointwise [k0_pay1, k0_pay16, refY, h]

theorem new_at (s : Fin 128) (j : Fin 5632) : @Eq EReal (refNew a0 a1 a3 a4 a5 (ix2 s j)) (refUp a0 a1 a3 a4 a5 (ix3 s (0 : Fin 1) j)) := by
  pointwise [refNew]

end Cert.FfnSPure

end
-- ==== Proof.FfnSValue.lean ====
/- The feed-forward block of the sample group: what the kernel leaves in its two result arrays is the reference's term. -/
module

public import proofs.«01_k».proof.Proof.Gen.FfnSampleIdeal.Frame
public import proofs.«01_k».proof.Proof.FfnSPure
public import Idealize.ShloMosaic.Lib.Pipeline.ValueKit
public import Idealize.ShloMosaic.Lib.Claim

@[expose] public section

set_option maxRecDepth 16384

noncomputable section

namespace Cert.FfnSValue

open Cert.FfnSampleIdeal Cert.FfnSampleIdeal.Gen Cert.FfnSRef Cert.FfnSPure
open Idealize.ShloMosaic Idealize.ShloMosaic.TcCoe Idealize.SL.Sem
open Idealize.ShloMosaic.Pipeline (Dat)

/-- A block of a matrix, read at an entry. -/
theorem ld_at {φ : FTy} {N0 N1 : ℕ} (x : FVec Ideal ⟨2, ![N0, N1]⟩ φ) (o0 o1 n0 n1 : ℕ) (inb) (k : Fin n0) (j : Fin n1) (k' : Fin N0) (j' : Fin N1)
    (hk : k'.val = o0 + k.val) (hj : j'.val = o1 + j.val) :
    @Eq EReal (x ((Rect.unit (s := ⟨2, ![N0, N1]⟩) ![o0, o1] ![n0, n1] inb).emb (ix2 k j))) (x (ix2 k' j')) := by
  have e : (Rect.unit (s := ⟨2, ![N0, N1]⟩) ![o0, o1] ![n0, n1] inb).emb (ix2 k j) = ix2 k' j' := funext fun a => by
    fin_cases a
    · exact Fin.ext (show o0 + 1 * k.val = k'.val by omega)
    · exact Fin.ext (show o1 + 1 * j.val = j'.val by omega)
  exact congrArg x e

section Out

variable (a0 : FVec Ideal S128x1024 .f32) (a1 : FVec Ideal S128x256 .f32) (a2 : FVec Ideal S128x2x5632 .f32)
  (a3 : FVec Ideal S256x1024 .bf16) (a4 : FVec Ideal S1x1024 .f32) (a5 : FVec Ideal S1024x5632 .bf16)
  (a6 : FVec Ideal S3x5632 .f32) (a7 : FVec Ideal S1x5632 .f32) (a8 : FVec Ideal S2816x1024 .bf16) (a9 : FVec Ideal S1x1024 .f32)
  (p0 p1 : FVec Ideal S128x5632 .f32)

/-- A column block of the up-projection at an offset. -/
theorem up_at (o : ℕ) (inb) (s : Fin 128) (col : Fin 1408 → Fin 5632) (hcol : ∀ j, (col j).val = o + j.val) (j : Fin 1408) :
    @Eq EReal (k0_pay14 (F := Ideal) (k0_pay3 a0 a1 a3 a4) (View.ld (Val := Elt Ideal) (e' := .bf16) a5 (Rect.unit (s := S1024x5632) ![0, o] ![1024, 1408] inb)) (ix2 s j))
      (refUp a0 a1 a3 a4 a5 (ix3 s (0 : Fin 1) (col j))) :=
  row_up a0 a1 a3 a4 a5 s _ col (fun k j => ld_at a5 0 o 1024 1408 inb k j k (col j) (Nat.zero_add _).symm (hcol j)) j

variable (h0 : ∀ (s : Fin 128) (j : Fin 5632), @Eq EReal (p0 (ix2 s j)) (a2 (ix3 s (0 : Fin 2) j)))
  (h1 : ∀ (s : Fin 128) (j : Fin 5632), @Eq EReal (p1 (ix2 s j)) (a2 (ix3 s (1 : Fin 2) j)))

include h0 h1

/-- The column block of the convolution at an offset. -/
theorem lane (o : ℕ) (inb inb0 inb1 inb2 inbB inbU) (s : Fin 128) (col : Fin 1408 → Fin 5632) (hcol : ∀ j, (col j).val = o + j.val) :
    Lane a0 a1 a2 a3 a4 a5 a6 a7 s col
      (View.ld (Val := Elt Ideal) (e' := .f32) a7 (Rect.unit (s := S1x5632) ![0, o] ![1, 1408] inbB))
      (View.ld (Val := Elt Ideal) (e' := .f32) a6 (Rect.unit (s := S3x5632) ![0, o] ![1, 1408] inb0))
      (View.ld (Val := Elt Ideal) (e' := .f32) p0 (Rect.unit (s := S128x5632) ![0, o] ![128, 1408] inbU))
      (View.ld (Val := Elt Ideal) (e' := .f32) a6 (Rect.unit (s := S3x5632) ![1, o] ![1, 1408] inb1))
      (View.ld (Val := Elt Ideal) (e' := .f32) p1 (Rect.unit (s := S128x5632) ![0, o] ![128, 1408] inbU))
      (View.ld (Val := Elt Ideal) (e' := .f32) a6 (Rect.unit (s := S3x5632) ![2, o] ![1, 1408] inb2))
      (k0_pay14 (F := Ideal) (k0_pay3 a0 a1 a3 a4) (View.ld (Val := Elt Ideal) (e' := .bf16) a5 (Rect.unit (s := S1024x5632) ![0, o] ![1024, 1408] inb))) where
  bias j := ld_at a7 0 o 1 1408 inbB 0 j 0 (col j) rfl (hcol j)
  w0 j := ld_at a6 0 o 1 1408 inb0 0 j 0 (col j) rfl (hcol j)
  w1 j := ld_at a6 1 o 1 1408 inb1 0 j 1 (col j) rfl (hcol j)
  w2 j := ld_at a6 2 o 1 1408 inb2 0 j 2 (col j) rfl (hcol j)
  u0 j := (ld_at p0 0 o 128 1408 inbU s j s (col j) (Nat.zero_add _).symm (hcol j)).trans (h0 s (col j))
  u1 j := (ld_at p1 0 o 128 1408 inbU s j s (col j) (Nat.zero_add _).symm (hcol j)).trans (h1 s (col j))
  u2 j := up_at a0 a1 a3 a4 a5 o inb s col hcol j

omit h0 h1

theorem pay17_eq : k0_pay17 (F := Ideal) a0 a1 p0 p1 a3 a4 a5 a6 a7 a8 a9 = k0_pay2 (F := Ideal) a0 a1 a3 := by
  unfold k0_pay17; frame_out

theorem pay18_eq : k0_pay18 (F := Ideal) a0 a1 p0 p1 a3 a4 a5 a6 a7 a8 a9 = k0_pay3 (F := Ideal) a0 a1 a3 a4 := by
  unfold k0_pay18; frame_out

theorem pay19_eq : k0_pay19 (F := Ideal) a0 a1 p0 p1 a3 a4 a5 a6 a7 a8 a9 = k0_pay14 (F := Ideal) (k0_pay3 a0 a1 a3 a4) (View.ld a5 r0_4) := by
  rw [← pay5_eq]
  unfold k0_pay19; frame_out

include h0 h1

/-- What the kernel stores first. -/
theorem out_at (s : Fin 128) (j : Fin 1024) :
    @Eq EReal (out0_11 (F := Ideal) a0 a1 p0 p1 a3 a4 a5 a6 a7 a8 a9 (ix2 s j)) (refOut a0 a1 a2 a3 a4 a5 a6 a7 a8 a9 (ix2 s j)) := by
  frame_out
  unfold k0_pay23 k0_pay22 k0_pay21 k0_pay20
  rw [pay17_eq, pay18_eq, pay19_eq]
  refine row_out a0 a1 a2 a3 a4 a5 a6 a7 a8 a9 s _ _ _ _ _ _ _ _ _ _ _ ?_ j
  refine pay15_at _ _ _ (row_x2 a0 a1 a3 s) ?_ ?_ (lane a0 a1 a2 a3 a4 a5 a6 a7 p0 p1 h0 h1 4224 _ _ _ _ _ _ s _ fun _ => rfl) _ ?_
  · exact pay11_at _ _ (lane a0 a1 a2 a3 a4 a5 a6 a7 p0 p1 h0 h1 0 _ _ _ _ _ _ s _ fun j => (Nat.zero_add _).symm)
      (lane a0 a1 a2 a3 a4 a5 a6 a7 p0 p1 h0 h1 2816 _ _ _ _ _ _ s _ fun _ => rfl) _ (by pointwise) _
      (fun k j => ld_at a8 0 0 1408 1024 _ k j _ j (Nat.zero_add _).symm (Nat.zero_add _).symm)
  · exact pay13_at _ _ (lane a0 a1 a2 a3 a4 a5 a6 a7 p0 p1 h0 h1 1408 _ _ _ _ _ _ s _ fun _ => rfl)
  · exact fun k j => ld_at a8 1408 0 1408 1024 _ k j _ j rfl (Nat.zero_add _).symm

omit h0 h1

theorem piece (o : ℕ) (ho : o + 1408 ≤ 5632) (inb) (x : S128x1408.Idx) (s : Fin 128) (j : Fin 5632) (e0 : s.val = (x 0).val) (e1 : j.val = o + (x 1).val) :
    @Eq EReal (k0_pay14 (F := Ideal) (k0_pay3 a0 a1 a3 a4) (View.ld (Val := Elt Ideal) (e' := .bf16) a5 (Rect.unit (s := S1024x5632) ![0, o] ![1024, 1408] inb)) x)
      (refNew a0 a1 a3 a4 a5 (ix2 s j)) := by
  have ej : j = (⟨o + (x 1).val, by have : (x 1).val < 1408 := (x 1).isLt; omega⟩ : Fin 5632) := Fin.ext e1
  have es : x = ix2 s (x 1 : Fin 1408) := by
    funext a
    fin_cases a
    · exact Fin.ext e0.symm
    · rfl
  rw [new_at, ej]
  refine (congrArg _ es).trans ?_
  exact up_at a0 a1 a3 a4 a5 o inb s (fun j => ⟨o + j.val, by omega⟩) (fun _ => rfl) (x 1)

/-- What the kernel stores second, a column block at a time. -/
theorem new_out_at (s : Fin 128) (j : Fin 5632) :
    @Eq EReal (out0_12 (F := Ideal) a0 a1 p0 p1 a3 a4 a5 a6 a7 a8 a9 (ix2 s j)) (refNew a0 a1 a3 a4 a5 (ix2 s j)) := by
  frame_out
  canon_tiles x e
  · rw [pay18_eq]
    exact piece a0 a1 a3 a4 a5 4224 (by omega) _ x s j e0 e1
  · rw [pay18_eq, pay12_eq]
    exact piece a0 a1 a3 a4 a5 1408 (by omega) _ x s j e0 e1
  · rw [pay18_eq, pay8_eq]
    exact piece a0 a1 a3 a4 a5 2816 (by omega) _ x s j e0 e1
  · rw [pay5_eq]
    exact piece a0 a1 a3 a4 a5 0 (by omega) _ x s j e0 (e1.trans (Nat.zero_add _).symm)

end Out

variable (m : (ℓ : Loc nD τ sig) → Buf (Elt Ideal) ℓ)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0] :=
  (by decide +kernel : ∀ t : Fin grid0.N, _)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)

theorem blk0 (c : Dev nD) (t : Fin cfg0.N) : @Eq (S128x1024.Idx → EReal) (iblk m c 0 t) (A0 m c) := by
  funext i
  rw [eq_ix2 i]
  generalize i 0 = k
  generalize i 1 = j
  blk_point [iblk, V, idx t]

theorem blk1 (c : Dev nD) (t : Fin cfg0.N) : @Eq (S128x256.Idx → EReal) (iblk m c 1 t) (A1 m c) := by
  funext i
  rw [eq_ix2 i]
  generalize i 0 = k
  generalize i 1 = j
  blk_point [iblk, V, idx t]

theorem blk4 (c : Dev nD) (t : Fin cfg0.N) : @Eq (S256x1024.Idx → EReal) (iblk m c 4 t) (A3 m c) := by
  funext i
  rw [eq_ix2 i]
  generalize i 0 = k
  generalize i 1 = j
  blk_point [iblk, V, idx t]

theorem blk5 (c : Dev nD) (t : Fin cfg0.N) : @Eq (S1x1024.Idx → EReal) (iblk m c 5 t) (A4 m c) := by
  funext i
  rw [eq_ix2 i]
  generalize i 0 = k
  generalize i 1 = j
  blk_point [iblk, V, idx t]

theorem blk6 (c : Dev nD) (t : Fin cfg0.N) : @Eq (S1024x5632.Idx → EReal) (iblk m c 6 t) (A5 m c) := by
  funext i
  rw [eq_ix2 i]
  generalize i 0 = k
  generalize i 1 = j
  blk_point [iblk, V, idx t]

theorem blk7 (c : Dev nD) (t : Fin cfg0.N) : @Eq (S3x5632.Idx → EReal) (iblk m c 7 t) (A6 m c) := by
  funext i
  rw [eq_ix2 i]
  generalize i 0 = k
  generalize i 1 = j
  blk_point [iblk, V, idx t]

theorem blk8 (c : Dev nD) (t : Fin cfg0.N) : @Eq (S1x5632.Idx → EReal) (iblk m c 8 t) (A7 m c) := by
  funext i
  rw [eq_ix2 i]
  generalize i 0 = k
  generalize i 1 = j
  blk_point [iblk, V, idx t]

theorem blk9 (c : Dev nD) (t : Fin cfg0.N) : @Eq (S2816x1024.Idx → EReal) (iblk m c 9 t) (A8 m c) := by
  funext i
  rw [eq_ix2 i]
  generalize i 0 = k
  generalize i 1 = j
  blk_point [iblk, V, idx t]

theorem blk10 (c : Dev nD) (t : Fin cfg0.N) : @Eq (S1x1024.Idx → EReal) (iblk m c 10 t) (A9 m c) := by
  funext i
  rw [eq_ix2 i]
  generalize i 0 = k
  generalize i 1 = j
  blk_point [iblk, V, idx t]

theorem V2 (c : Dev nD) (s : Fin 128) (j : Fin 5632) : @Eq EReal (V m c main_v1 (ix2 s j)) (A2 m c (ix3 s (0 : Fin 2) j)) := by
  entry_read; pointwise

theorem blk2 (c : Dev nD) (t : Fin cfg0.N) (s : Fin 128) (j : Fin 5632) : @Eq EReal (iblk m c 2 t (ix2 s j)) (A2 m c (ix3 s (0 : Fin 2) j)) := by
  have e : @Eq EReal (iblk m c 2 t (ix2 s j)) (V m c main_v1 (ix2 s j)) := by blk_ext [iblk, idx t]
  exact e.trans (V2 m c s j)

theorem V3 (c : Dev nD) (s : Fin 128) (j : Fin 5632) : @Eq EReal (V m c main_v3 (ix2 s j)) (A2 m c (ix3 s (1 : Fin 2) j)) := by
  entry_read; pointwise

theorem blk3 (c : Dev nD) (t : Fin cfg0.N) (s : Fin 128) (j : Fin 5632) : @Eq EReal (iblk m c 3 t (ix2 s j)) (A2 m c (ix3 s (1 : Fin 2) j)) := by
  have e : @Eq EReal (iblk m c 3 t (ix2 s j)) (V m c main_v3 (ix2 s j)) := by blk_ext [iblk, idx t]
  exact e.trans (V3 m c s j)

theorem point_out (c : Dev nD) (t : Fin cfg0.N) (y Y : S128x1024.Idx) (h0 : (Y 0).val = (y 0).val) (h1 : (Y 1).val = (y 1).val) :
    @Eq EReal (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y) (refOut (A0 m c) (A1 m c) (A2 m c) (A3 m c) (A4 m c) (A5 m c) (A6 m c) (A7 m c) (A8 m c) (A9 m c) Y) := by
  have e : Y = y := funext fun a => by
    fin_cases a
    · exact Fin.ext h0
    · exact Fin.ext h1
  rw [e, eq_ix2 y]
  rw [blk0 m c t, blk1 m c t, blk4 m c t, blk5 m c t, blk6 m c t, blk7 m c t, blk8 m c t, blk9 m c t, blk10 m c t]
  exact out_at _ _ _ _ _ _ _ _ _ _ _ _ (blk2 m c t) (blk3 m c t) (y 0) (y 1)

theorem final_out (c : Dev nD) : (dats m 0 c).arrAt 11 (cfgs 0).N = refOut (A0 m c) (A1 m c) (A2 m c) (A3 m c) (A4 m c) (A5 m c) (A6 m c) (A7 m c) (A8 m c) (A9 m c) := by
  refine (dats m 0 c).arrAt_eq_of_covers 11 _ (by decide +kernel) fun t hf y => ?_
  blk_simp; rw [after0_11]
  exact point_out m c t y _ (by blk_simp [idx t]) (by blk_simp [idx t])

theorem point_new (c : Dev nD) (t : Fin cfg0.N) (y Y : S128x5632.Idx) (h0 : (Y 0).val = (y 0).val) (h1 : (Y 1).val = (y 1).val) :
    @Eq EReal (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y) (refNew (A0 m c) (A1 m c) (A3 m c) (A4 m c) (A5 m c) Y) := by
  have e : Y = y := funext fun a => by
    fin_cases a
    · exact Fin.ext h0
    · exact Fin.ext h1
  rw [e, eq_ix2 y]
  rw [blk0 m c t, blk1 m c t, blk4 m c t, blk5 m c t, blk6 m c t, blk7 m c t, blk8 m c t, blk9 m c t, blk10 m c t]
  exact new_out_at _ _ _ _ _ _ _ _ _ _ _ (y 0) (y 1)

theorem final_new (c : Dev nD) : (dats m 0 c).arrAt 12 (cfgs 0).N = refNew (A0 m c) (A1 m c) (A3 m c) (A4 m c) (A5 m c) := by
  refine (dats m 0 c).arrAt_eq_of_covers 12 _ (by decide +kernel) fun t hf y => ?_
  blk_simp; rw [after0_12]
  exact point_new m c t y _ (by blk_simp [idx t]) (by blk_simp [idx t])

end Cert.FfnSValue

end
-- ==== Proof.FfnSampleClaim.lean ====
/- The call `FfnSample`: the run of its reference with the results named, the reference's frame, and the equality of the results
   of the kernel and of the reference over the extended reals. -/
module

public import proofs.«01_k».proof.Defs
public import proofs.«01_k».proof.Proof.Gen.FfnSampleIdeal.Frame
public import proofs.«01_k».proof.Proof.Gen.FfnSampleReferenceIdeal.Run
public import proofs.«01_k».proof.Proof.FfnSValue
public import Idealize.ShloMosaic.Lib.Claim

@[expose] public section

set_option maxRecDepth 16384

noncomputable section

namespace Cert.FfnSampleClaim

open Idealize.ShloMosaic Idealize.SL.Sem

section

open Cert.FfnSampleReferenceIdeal Cert.FfnSRef
open Idealize.ShloMosaic.TcCoe

set_option maxHeartbeats 1600000 in
/-- Every run of the reference ends with each result at the function of the arguments that `FfnSRef` names, and with the
    arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v69) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v70) = refNew (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c => ⟨(h c).1.trans rfl, (h c).2.1.trans rfl, (h c).2.2⟩) (Cert.FfnSampleReferenceIdeal.Value.run m g)

/-- The reference runs, leaves its arguments unchanged and ends with every counter at zero. -/
theorem reference_frame : Cert.quiescent_FfnSampleReferenceIdeal := fun m g _ =>
  (θ_run _ _ _).mono (fun r h => ⟨fun c => (h c).2.2, Idealize.ShloMosaic.sem_eq_zero_of_no_sems (by decide) r.2⟩)
    (Cert.FfnSampleReferenceIdeal.Value.run m g)

end

open Cert.FfnSValue in
set_option maxHeartbeats 1600000 in
/-- Over the extended reals the call's results are the reference's. -/
theorem algebraic : Cert.algebraic_FfnSampleIdeal_FfnSampleReferenceIdeal := by
  pair_intro
  · run_from Cert.FfnSampleIdeal.Gen.run_main m g
  · run_from reference_run m' g'
    · exact (final_out m c).symm
    · exact (final_new m c).symm

end Cert.FfnSampleClaim

end
-- ==== Proof.lean ====
/- The claims of the five calls `MemKv`, `Inproj`, `Post`, `InprojSample` and `FfnSample`: the frames of the kernels are the generated
   ones, those of the references and the equalities of results come from the modules `MemClaim`, `InprojClaim`, `PostClaim`,
   `PostSoftmaxClaim`, `InprojSampleClaim` and `FfnSampleClaim`. -/
module

public import proofs.«01_k».proof.Defs
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostReferenceIdeal
public import proofs.«01_k».proof.Proof.Gen.MemKvIdeal.Value
public import proofs.«01_k».proof.Proof.Gen.InprojIdeal.Value
public import proofs.«01_k».proof.Proof.Gen.PostIdeal.Value
public import proofs.«01_k».proof.Proof.Gen.MemKvReferenceIdeal.Run
public import proofs.«01_k».proof.Proof.Gen.InprojReferenceIdeal.Run
public import proofs.«01_k».proof.Proof.Gen.PostReferenceIdeal.Run
public import proofs.«01_k».proof.Proof.MemClaim
public import proofs.«01_k».proof.Proof.InprojClaim
public import proofs.«01_k».proof.Proof.PostClaim
public import proofs.«01_k».proof.Proof.PostSoftmaxClaim
public import proofs.«01_k».proof.Proof.InprojSampleClaim
public import proofs.«01_k».proof.Proof.FfnSampleClaim
public import proofs.«01_k».proof.Proof.Gen.PostSoftmaxReferenceIdeal.Run
public import proofs.«01_k».proof.Proof.Gen.InprojSampleReferenceIdeal.Run
public import proofs.«01_k».proof.Proof.Gen.FfnSampleReferenceIdeal.Run
public import proofs.«01_k».proof.Proof.Gen.InprojSampleIdeal.Value
public import proofs.«01_k».proof.Proof.Gen.FfnSampleIdeal.Value
public import proofs.«01_k».proof.Proof.Gen.PostSoftmaxReferenceIdeal
public import proofs.«01_k».proof.Proof.Gen.InprojSample
public import proofs.«01_k».proof.Proof.Gen.InprojSample.Skeleton
public import proofs.«01_k».proof.Proof.Gen.InprojSample.Launch
public import proofs.«01_k».proof.Proof.Gen.InprojSample.Points
public import proofs.«01_k».proof.Proof.Gen.InprojSample.Frame
public import proofs.«01_k».proof.Proof.Gen.InprojSampleIdeal
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleIdeal.Frame
public import proofs.«01_k».proof.Proof.Gen.InprojSampleReferenceIdeal
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleReferenceIdeal
public import proofs.«01_k».proof.Proof.Gen.Pre_post_finite
public import Idealize.ShloMosaic.Adequacy
public import Idealize.ShloMosaic.Init

@[expose] public section

noncomputable section

namespace Cert.Proof

open Idealize.ShloMosaic Idealize.SL.Sem Cert.MemKv

theorem claim : Cert.Claim := ⟨Cert.MemKv.Gen.facts, Cert.MemKvIdeal.Gen.facts, Cert.MemKvReferenceIdeal.Gen.facts, Cert.Inproj.Gen.facts, Cert.InprojIdeal.Gen.facts, Cert.InprojReferenceIdeal.Gen.facts, Cert.Post.Gen.facts, Cert.PostIdeal.Gen.facts, Cert.PostReferenceIdeal.Gen.facts, Cert.PostSoftmaxReferenceIdeal.Gen.facts, Cert.InprojSample.Gen.facts, Cert.InprojSampleIdeal.Gen.facts, Cert.InprojSampleReferenceIdeal.Gen.facts, Cert.FfnSample.Gen.facts, Cert.FfnSampleIdeal.Gen.facts, Cert.FfnSampleReferenceIdeal.Gen.facts, Cert.Pre_post_finite.Gen.facts,
  fun m ρ _ => Cert.MemKv.Gen.frame m ρ,
  fun m ρ _ => Cert.MemKvIdeal.Gen.frame m ρ,
  Cert.MemKvClaim.reference_frame,
  fun m ρ _ => Cert.Inproj.Gen.frame m ρ,
  fun m ρ _ => Cert.InprojIdeal.Gen.frame m ρ,
  Cert.InprojClaim.reference_frame,
  fun m ρ _ => Cert.Post.Gen.frame m ρ,
  fun m ρ _ => Cert.PostIdeal.Gen.frame m ρ,
  fun m ρ _ => Cert.PostIdeal.Gen.frame m ρ,
  Cert.PostClaim.reference_frame,
  Cert.PostSoftmaxClaim.reference_frame,
  Cert.PostSoftmaxClaim.reference_frame_pre,
  fun m ρ _ => Cert.InprojSample.Gen.frame m ρ,
  fun m ρ _ => Cert.InprojSampleIdeal.Gen.frame m ρ,
  Cert.InprojSampleClaim.reference_frame,
  fun m ρ _ => Cert.FfnSample.Gen.frame m ρ,
  fun m ρ _ => Cert.FfnSampleIdeal.Gen.frame m ρ,
  Cert.FfnSampleClaim.reference_frame,
  trivial,
  Cert.MemKvClaim.algebraic,
  trivial,
  Cert.InprojClaim.algebraic,
  trivial,
  Cert.PostClaim.algebraic,
  Cert.PostSoftmaxClaim.algebraic,
  trivial,
  Cert.InprojSampleClaim.algebraic,
  trivial,
  Cert.FfnSampleClaim.algebraic⟩

end Cert.Proof

end
